-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  IdealRules.named_const.Statement Cert.Kernel2Ideal.κ "qscale" .f32 0x3E38AA3B#32 (((8 * (Real.log 2))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_5)) (v2 : (c : Dev Cert.Kernel2Ideal.nD) → Buf (Elt Ideal) ((c.tc : Thread Cert.Kernel2Ideal.nD Cert.Kernel2Ideal.τ).loc Cert.Kernel2Ideal.main_v16_6)) (v3 : (c : Dev Cert.Kernel2Ideal.nD) → Buf (Elt Ideal) ((c.tc : Thread Cert.Kernel2Ideal.nD Cert.Kernel2Ideal.τ).loc Cert.Kernel2Ideal.main_v16_7)) (v4 : (c : Dev Cert.Kernel2Ideal.nD) → Buf (Elt Ideal) ((c.tc : Thread Cert.Kernel2Ideal.nD Cert.Kernel2Ideal.τ).loc Cert.Kernel2Ideal.main_v16_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_5) = v1 c
          ∧ r.2.mem ((c.tc : Thread Cert.Kernel2Ideal.nD Cert.Kernel2Ideal.τ).loc Cert.Kernel2Ideal.main_v16_6) = v2 c
          ∧ r.2.mem ((c.tc : Thread Cert.Kernel2Ideal.nD Cert.Kernel2Ideal.τ).loc Cert.Kernel2Ideal.main_v16_7) = v3 c
          ∧ r.2.mem ((c.tc : Thread Cert.Kernel2Ideal.nD Cert.Kernel2Ideal.τ).loc Cert.Kernel2Ideal.main_v16_8) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v33) = v1 c
          ∧ r.2.mem ((c.tc : Thread Cert.Reference2Ideal.nD Cert.Reference2Ideal.τ).loc Cert.Reference2Ideal.main_v35) = v2 c
          ∧ r.2.mem ((c.tc : Thread Cert.Reference2Ideal.nD Cert.Reference2Ideal.τ).loc Cert.Reference2Ideal.main_v37) = v3 c
          ∧ r.2.mem ((c.tc : Thread Cert.Reference2Ideal.nD Cert.Reference2Ideal.τ).loc Cert.Reference2Ideal.main_v40) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_admissible (hKernelIdeal := hKernelIdeal) (hReferenceIdeal := hReferenceIdeal) (hPre_admissible := hPre_admissible)
    ∧ preserves_Kernel2_Kernel2Ideal
    ∧ algebraic_Kernel2Ideal_Reference2Ideal (hKernel2Ideal := hKernel2Ideal) (hReference2Ideal := hReference2Ideal)
-- ==== Pre_admissible.lean ====
abbrev S32768x1024 : Shape := ⟨2, ![32768, 1024]⟩
abbrev S32768x256 : Shape := ⟨2, ![32768, 256]⟩
abbrev S128x8192 : Shape := ⟨2, ![128, 8192]⟩
abbrev S256x256x512 : Shape := ⟨3, ![256, 256, 512]⟩
abbrev S4x8192x1024 : Shape := ⟨3, ![4, 8192, 1024]⟩
abbrev S2x16 : Shape := ⟨2, ![2, 16]⟩
abbrev S16 : Shape := ⟨1, ![16]⟩
abbrev S1024 : Shape := ⟨1, ![1024]⟩
abbrev S1x2048x1024 : Shape := ⟨3, ![1, 2048, 1024]⟩
abbrev S_ : Shape := ⟨0, ![]⟩

class Facts : Prop where
  bcast_S_S32768x1024 : S_.BroadcastsInDim S32768x1024 (![] : Fin 0 → Fin S32768x1024.rank)
  bcast_S_S128x8192 : S_.BroadcastsInDim S128x8192 (![] : Fin 0 → Fin S128x8192.rank)
  bcast_S_S2x16 : S_.BroadcastsInDim S2x16 (![] : Fin 0 → Fin S2x16.rank)
  bcast_S_S16 : S_.BroadcastsInDim S16 (![] : Fin 0 → Fin S16.rank)

variable [Facts]

def fn {F : FTy → Type} [FloatOps F] (main_arg0 : FVec F S32768x1024 .bf16) (main_arg1 : FVec F S32768x256 .bf16) (main_arg2 : FVec F S32768x256 .bf16) (main_arg3 : FVec F S128x8192 .f32) (main_arg4 : FVec F S32768x1024 .bf16) (main_arg5 : FVec F S256x256x512 .bf16) (main_arg6 : FVec F S256x256x512 .bf16) (main_arg7 : FVec F S32768x1024 .bf16) (main_arg8 : FVec F S4x8192x1024 .f32) (main_arg9 : FVec F S2x16 .f32) (main_arg10 : FVec F S16 .f32) (main_arg11 : FVec F S1024 .f32) (main_arg12 : FVec F S1024 .f32) (main_arg13 : FVec F S1x2048x1024 .f32) (main_arg14 : FVec F S1024 .f32) : IVec S32768x1024 1 × IVec S128x8192 1 × IVec S128x8192 1 × IVec S2x16 1 × IVec S16 1 :=
  let main_v0 : FVec F S32768x1024 .bf16 := Host.absf main_arg0
  let main_cst : FVec F S_ .bf16 := constant S_ .bf16 0x7F80#16
  let main_v1 : FVec F S32768x1024 .bf16 := broadcastInDim S32768x1024 ![] bcast_S_S32768x1024 main_cst
  let main_v2 : IVec S32768x1024 1 := cmpf .olt main_v0 main_v1
  let main_cst_0 : FVec F S_ .f32 := constant S_ .f32 0x00000000#32
  let main_v3 : FVec F S128x8192 .f32 := broadcastInDim S128x8192 ![] bcast_S_S128x8192 main_cst_0
  let main_v4 : IVec S128x8192 1 := cmpf .oge main_arg3 main_v3
  let main_cst_1 : FVec F S_ .f32 := constant S_ .f32 0x7F800000#32
  let main_v5 : FVec F S128x8192 .f32 := broadcastInDim S128x8192 ![] bcast_S_S128x8192 main_cst_1
  let main_v6 : IVec S128x8192 1 := cmpf .olt main_arg3 main_v5
  let main_cst_2 : FVec F S_ .f32 := constant S_ .f32 0x7F800000#32
  let main_v7 : FVec F S2x16 .f32 := broadcastInDim S2x16 ![] bcast_S_S2x16 main_cst_2
  let main_v8 : IVec S2x16 1 := cmpf .olt main_arg9 main_v7
  let main_v9 : FVec F S16 .f32 := Host.absf main_arg10
  let main_cst_3 : FVec F S_ .f32 := constant S_ .f32 0x7F800000#32
  let main_v10 : FVec F S16 .f32 := broadcastInDim S16 ![] bcast_S_S16 main_cst_3
  let main_v11 : IVec S16 1 := cmpf .olt main_v9 main_v10
  (main_v2, main_v4, main_v6, main_v8, main_v11)
-- ==== Kernel.lean ====
abbrev S32768x1024 : Shape := ⟨2, ![32768, 1024]⟩
abbrev S32768x256 : Shape := ⟨2, ![32768, 256]⟩
abbrev S128x8192 : Shape := ⟨2, ![128, 8192]⟩
abbrev S256x256x512 : Shape := ⟨3, ![256, 256, 512]⟩
abbrev S4x8192x1024 : Shape := ⟨3, ![4, 8192, 1024]⟩
abbrev S2x16 : Shape := ⟨2, ![2, 16]⟩
abbrev S16 : Shape := ⟨1, ![16]⟩
abbrev S1024 : Shape := ⟨1, ![1024]⟩
abbrev S1x2048x1024 : Shape := ⟨3, ![1, 2048, 1024]⟩
abbrev S128x128 : Shape := ⟨2, ![128, 128]⟩
abbrev S_ : Shape := ⟨0, ![]⟩
abbrev S4x256x2048 : Shape := ⟨3, ![4, 256, 2048]⟩
abbrev S1x32 : Shape := ⟨2, ![1, 32]⟩
abbrev S1x1x1x32 : Shape := ⟨4, ![1, 1, 1, 32]⟩
abbrev S1x1x4x32 : Shape := ⟨4, ![1, 1, 4, 32]⟩
abbrev S1x128 : Shape := ⟨2, ![1, 128]⟩
abbrev S2048 : Shape := ⟨1, ![2048]⟩
abbrev S2048x1024 : Shape := ⟨2, ![2048, 1024]⟩
abbrev S2048x1 : Shape := ⟨2, ![2048, 1]⟩
abbrev S1x128x128 : Shape := ⟨3, ![1, 128, 128]⟩
abbrev S2x128x128 : Shape := ⟨3, ![2, 128, 128]⟩
abbrev S1x1024 : Shape := ⟨2, ![1, 1024]⟩
abbrev S512x1024 : Shape := ⟨2, ![512, 1024]⟩
abbrev S512x256 : Shape := ⟨2, ![512, 256]⟩
abbrev S4x256x512 : Shape := ⟨3, ![4, 256, 512]⟩
abbrev S128x256 : Shape := ⟨2, ![128, 256]⟩
abbrev S128 : Shape := ⟨1, ![128]⟩
abbrev S128x1 : Shape := ⟨2, ![128, 1]⟩
abbrev S1x128x256 : Shape := ⟨3, ![1, 128, 256]⟩
abbrev S1x256x256 : Shape := ⟨3, ![1, 256, 256]⟩
abbrev S256x256 : Shape := ⟨2, ![256, 256]⟩
abbrev S1 : Shape := ⟨1, ![1]⟩
abbrev S256x128 : Shape := ⟨2, ![256, 128]⟩
abbrev S128x512 : Shape := ⟨2, ![128, 512]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 101
  | .vmem => 27
  | .smem => 1
  | _ => 0

abbrev bufTy : (tb : Table) → Fin (tcTables nBuf tb) → BufTy
  | .hbm, ⟨0, _⟩ => ⟨S32768x1024, .bf16⟩
  | .hbm, ⟨1, _⟩ => ⟨S32768x256, .bf16⟩
  | .hbm, ⟨2, _⟩ => ⟨S32768x256, .bf16⟩
  | .hbm, ⟨3, _⟩ => ⟨S128x8192, .f32⟩
  | .hbm, ⟨4, _⟩ => ⟨S32768x1024, .bf16⟩
  | .hbm, ⟨5, _⟩ => ⟨S256x256x512, .bf16⟩
  | .hbm, ⟨6, _⟩ => ⟨S256x256x512, .bf16⟩
  | .hbm, ⟨7, _⟩ => ⟨S32768x1024, .bf16⟩
  | .hbm, ⟨8, _⟩ => ⟨S4x8192x1024, .f32⟩
  | .hbm, ⟨9, _⟩ => ⟨S2x16, .f32⟩
  | .hbm, ⟨10, _⟩ => ⟨S16, .f32⟩
  | .hbm, ⟨11, _⟩ => ⟨S1024, .f32⟩
  | .hbm, ⟨12, _⟩ => ⟨S1024, .f32⟩
  | .hbm, ⟨13, _⟩ => ⟨S1x2048x1024, .f32⟩
  | .hbm, ⟨14, _⟩ => ⟨S1024, .f32⟩
  | .hbm, ⟨15, _⟩ => ⟨S128x128, .i32⟩
  | .hbm, ⟨16, _⟩ => ⟨S128x128, .i32⟩
  | .hbm, ⟨17, _⟩ => ⟨S128x128, .i1⟩
  | .hbm, ⟨18, _⟩ => ⟨S_, .f32⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .bf16⟩
  | .hbm, ⟨24, _⟩ => ⟨S4x256x2048, .i32⟩
  | .hbm, ⟨25, _⟩ => ⟨S4x256x2048, .i32⟩
  | .hbm, ⟨26, _⟩ => ⟨S4x256x2048, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S4x256x2048, .i32⟩
  | .hbm, ⟨34, _⟩ => ⟨S4x256x2048, .i32⟩
  | .hbm, ⟨35, _⟩ => ⟨S_, .i32⟩
  | .hbm, ⟨36, _⟩ => ⟨S4x256x2048, .i32⟩
  | .hbm, ⟨37, _⟩ => ⟨S4x256x2048, .i1⟩
  | .hbm, ⟨38, _⟩ => ⟨S_, .i32⟩
  | .hbm, ⟨39, _⟩ => ⟨S4x256x2048, .i32⟩
  | .hbm, ⟨40, _⟩ => ⟨S4x256x2048, .i1⟩
  | .hbm, ⟨41, _⟩ => ⟨S_, .i32⟩
  | .hbm, ⟨42, _⟩ => ⟨S_, .i1⟩
  | .hbm, ⟨43, _⟩ => ⟨S4x256x2048, .i1⟩
  | .hbm, ⟨44, _⟩ => ⟨S4x256x2048, .i1⟩
  | .hbm, ⟨45, _⟩ => ⟨S4x256x2048, .i1⟩
  | .hbm, ⟨46, _⟩ => ⟨S4x256x2048, .i32⟩
  | .hbm, ⟨47, _⟩ => ⟨S4x256x2048, .i32⟩
  | .hbm, ⟨48, _⟩ => ⟨S4x256x2048, .i32⟩
  | .hbm, ⟨49, _⟩ => ⟨S_, .i32⟩
  | .hbm, ⟨50, _⟩ => ⟨S4x256x2048, .i32⟩
  | .hbm, ⟨51, _⟩ => ⟨S4x256x2048, .i32⟩
  | .hbm, ⟨52, _⟩ => ⟨S_, .i32⟩
  | .hbm, ⟨53, _⟩ => ⟨S4x256x2048, .i32⟩
  | .hbm, ⟨54, _⟩ => ⟨S4x256x2048, .i32⟩
  | .hbm, ⟨55, _⟩ => ⟨S_, .i32⟩
  | .hbm, ⟨56, _⟩ => ⟨S4x256x2048, .i32⟩
  | .hbm, ⟨57, _⟩ => ⟨S4x256x2048, .i32⟩
  | .hbm, ⟨58, _⟩ => ⟨S_, .i32⟩
  | .hbm, ⟨59, _⟩ => ⟨S_, .i32⟩
  | .hbm, ⟨60, _⟩ => ⟨S4x256x2048, .i32⟩
  | .hbm, ⟨61, _⟩ => ⟨S4x256x2048, .i32⟩
  | .hbm, ⟨62, _⟩ => ⟨S4x256x2048, .i32⟩
  | .hbm, ⟨63, _⟩ => ⟨S_, .i32⟩
  | .hbm, ⟨64, _⟩ => ⟨S4x256x2048, .i32⟩
  | .hbm, ⟨65, _⟩ => ⟨S4x256x2048, .i1⟩
  | .hbm, ⟨66, _⟩ => ⟨S4x256x2048, .i32⟩
  | .hbm, ⟨67, _⟩ => ⟨S4x256x2048, .i32⟩
  | .hbm, ⟨68, _⟩ => ⟨S_, .i32⟩
  | .hbm, ⟨69, _⟩ => ⟨S4x256x2048, .i32⟩
  | .hbm, ⟨70, _⟩ => ⟨S4x256x2048, .i1⟩
  | .hbm, ⟨71, _⟩ => ⟨S4x256x2048, .i1⟩
  | .hbm, ⟨72, _⟩ => ⟨S_, .i32⟩
  | .hbm, ⟨73, _⟩ => ⟨S4x256x2048, .i32⟩
  | .hbm, ⟨74, _⟩ => ⟨S4x256x2048, .i32⟩
  | .hbm, ⟨75, _⟩ => ⟨S4x256x2048, .i32⟩
  | .hbm, ⟨76, _⟩ => ⟨S4x256x2048, .i32⟩
  | .hbm, ⟨77, _⟩ => ⟨S4x256x2048, .i1⟩
  | .hbm, ⟨78, _⟩ => ⟨S_, .f32⟩
  | .hbm, ⟨79, _⟩ => ⟨S_, .f32⟩
  | .hbm, ⟨80, _⟩ => ⟨S4x256x2048, .f32⟩
  | .hbm, ⟨81, _⟩ => ⟨S4x256x2048, .f32⟩
  | .hbm, ⟨82, _⟩ => ⟨S4x256x2048, .f32⟩
  | .hbm, ⟨83, _⟩ => ⟨S4x256x2048, .bf16⟩
  | .hbm, ⟨84, _⟩ => ⟨S1x32, .f32⟩
  | .hbm, ⟨85, _⟩ => ⟨S1x1x1x32, .f32⟩
  | .hbm, ⟨86, _⟩ => ⟨S1x1x4x32, .f32⟩
  | .hbm, ⟨87, _⟩ => ⟨S1x128, .f32⟩
  | .hbm, ⟨88, _⟩ => ⟨S2048, .f32⟩
  | .hbm, ⟨89, _⟩ => ⟨S2048x1024, .f32⟩
  | .hbm, ⟨90, _⟩ => ⟨S2048x1, .f32⟩
  | .hbm, ⟨91, _⟩ => ⟨S2048x1024, .f32⟩
  | .hbm, ⟨92, _⟩ => ⟨S2048x1024, .f32⟩
  | .hbm, ⟨93, _⟩ => ⟨S2048x1024, .bf16⟩
  | .hbm, ⟨94, _⟩ => ⟨S32768x1024, .f32⟩
  | .hbm, ⟨95, _⟩ => ⟨S128x128, .bf16⟩
  | .hbm, ⟨96, _⟩ => ⟨S1x128x128, .bf16⟩
  | .hbm, ⟨97, _⟩ => ⟨S1x128x128, .bf16⟩
  | .hbm, ⟨98, _⟩ => ⟨S2x128x128, .bf16⟩
  | .hbm, ⟨99, _⟩ => ⟨S1x1024, .f32⟩
  | .hbm, ⟨100, _⟩ => ⟨S32768x1024, .f32⟩
  | .local _ .vmem, ⟨0, _⟩ => ⟨S1x128, .f32⟩
  | .local _ .vmem, ⟨1, _⟩ => ⟨S4x256x2048, .bf16⟩
  | .local _ .vmem, ⟨2, _⟩ => ⟨S2x128x128, .bf16⟩
  | .local _ .vmem, ⟨3, _⟩ => ⟨S512x1024, .bf16⟩
  | .local _ .vmem, ⟨4, _⟩ => ⟨S512x1024, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S128x128, .f32⟩
  | .local _ .vmem, ⟨10, _⟩ => ⟨S128x128, .f32⟩
  | .local _ .vmem, ⟨11, _⟩ => ⟨S512x1024, .bf16⟩
  | .local _ .vmem, ⟨12, _⟩ => ⟨S512x1024, .bf16⟩
  | .local _ .vmem, ⟨13, _⟩ => ⟨S4x256x512, .bf16⟩
  | .local _ .vmem, ⟨14, _⟩ => ⟨S4x256x512, .bf16⟩
  | .local _ .vmem, ⟨15, _⟩ => ⟨S4x256x512, .bf16⟩
  | .local _ .vmem, ⟨16, _⟩ => ⟨S4x256x512, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S2048x1024, .bf16⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .f32⟩
  | .local _ .smem, ⟨0, _⟩ => ⟨S16, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v8 : Ref sig .tc := ⟨.hbm, 48, rfl⟩
abbrev main_c_1 : Ref sig .tc := ⟨.hbm, 49, rfl⟩
abbrev main_v9 : Ref sig .tc := ⟨.hbm, 50, rfl⟩
abbrev main_v10 : Ref sig .tc := ⟨.hbm, 51, rfl⟩
abbrev main_c_2 : Ref sig .tc := ⟨.hbm, 52, rfl⟩
abbrev main_v11 : Ref sig .tc := ⟨.hbm, 53, rfl⟩
abbrev main_v12 : Ref sig .tc := ⟨.hbm, 54, rfl⟩
abbrev main_c_3 : Ref sig .tc := ⟨.hbm, 55, rfl⟩
abbrev main_v13 : Ref sig .tc := ⟨.hbm, 56, rfl⟩
abbrev main_v14 : Ref sig .tc := ⟨.hbm, 57, rfl⟩
abbrev main_c_4 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_c : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_0 : Ref sig .tc := ⟨.hbm, 72, rfl⟩
abbrev main_call2_v12 : Ref sig .tc := ⟨.hbm, 73, rfl⟩
abbrev main_call2_v13 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_cst_5 : Ref sig .tc := ⟨.hbm, 78, rfl⟩
abbrev main_cst_6 : Ref sig .tc := ⟨.hbm, 79, rfl⟩
abbrev main_call3_v0 : Ref sig .tc := ⟨.hbm, 80, rfl⟩
abbrev main_call3_v1 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2048x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== ReferenceIdeal.lean ====
abbrev S32768x1024 : Shape := ⟨2, ![32768, 1024]⟩
abbrev S32768x256 : Shape := ⟨2, ![32768, 256]⟩
abbrev S128x8192 : Shape := ⟨2, ![128, 8192]⟩
abbrev S256x256x512 : Shape := ⟨3, ![256, 256, 512]⟩
abbrev S4x8192x1024 : Shape := ⟨3, ![4, 8192, 1024]⟩
abbrev S2x16 : Shape := ⟨2, ![2, 16]⟩
abbrev S16 : Shape := ⟨1, ![16]⟩
abbrev S1024 : Shape := ⟨1, ![1024]⟩
abbrev S1x2048x1024 : Shape := ⟨3, ![1, 2048, 1024]⟩
abbrev S4x8192x2x8x64 : Shape := ⟨5, ![4, 8192, 2, 8, 64]⟩
abbrev S4x8192x2x128 : Shape := ⟨4, ![4, 8192, 2, 128]⟩
abbrev S128x4x64x2x16 : Shape := ⟨5, ![128, 4, 64, 2, 16]⟩
abbrev S4x64x128x2x16 : Shape := ⟨5, ![4, 64, 128, 2, 16]⟩
abbrev S4x8192x2x16 : Shape := ⟨4, ![4, 8192, 2, 16]⟩
abbrev S4x8192x1x16 : Shape := ⟨4, ![4, 8192, 1, 16]⟩
abbrev S4x8192x16 : Shape := ⟨3, ![4, 8192, 16]⟩
abbrev S4x8192x2x8 : Shape := ⟨4, ![4, 8192, 2, 8]⟩
abbrev S1x16 : Shape := ⟨2, ![1, 16]⟩
abbrev S2x8 : Shape := ⟨2, ![2, 8]⟩
abbrev S4x64x2x128x8x64 : Shape := ⟨6, ![4, 64, 2, 128, 8, 64]⟩
abbrev S4x8192x2x8x1 : Shape := ⟨5, ![4, 8192, 2, 8, 1]⟩
abbrev S4x64x128x2x8x64 : Shape := ⟨6, ![4, 64, 128, 2, 8, 64]⟩
abbrev S1x1x2x8 : Shape := ⟨4, ![1, 1, 2, 8]⟩
abbrev S4x64x128x2x8 : Shape := ⟨5, ![4, 64, 128, 2, 8]⟩
abbrev S4x2x8x64x128 : Shape := ⟨5, ![4, 2, 8, 64, 128]⟩
abbrev S_ : Shape := ⟨0, ![]⟩
abbrev S128x128 : Shape := ⟨2, ![128, 128]⟩
abbrev S4x2x8x64x128x1 : Shape := ⟨6, ![4, 2, 8, 64, 128, 1]⟩
abbrev S4x2x8x64x1x128 : Shape := ⟨6, ![4, 2, 8, 64, 1, 128]⟩
abbrev S4x2x8x64x128x128 : Shape := ⟨6, ![4, 2, 8, 64, 128, 128]⟩
abbrev S4x64x128x2x128 : Shape := ⟨5, ![4, 64, 128, 2, 128]⟩
abbrev S4x2x64x128x128 : Shape := ⟨5, ![4, 2, 64, 128, 128]⟩
abbrev S4x2x1x64x128x128 : Shape := ⟨6, ![4, 2, 1, 64, 128, 128]⟩
abbrev S4x64x2x8x64x128 : Shape := ⟨6, ![4, 64, 2, 8, 64, 128]⟩
abbrev S4x64x128x2x8x1 : Shape := ⟨6, ![4, 64, 128, 2, 8, 1]⟩
abbrev S2x8x1 : Shape := ⟨3, ![2, 8, 1]⟩
abbrev S1x1x2x8x1 : Shape := ⟨5, ![1, 1, 2, 8, 1]⟩
abbrev S4x8192x2x512 : Shape := ⟨4, ![4, 8192, 2, 512]⟩
abbrev S2x512 : Shape := ⟨2, ![2, 512]⟩
abbrev S4x8192x2 : Shape := ⟨3, ![4, 8192, 2]⟩
abbrev S4x8192x2x1 : Shape := ⟨4, ![4, 8192, 2, 1]⟩
abbrev S1x1x2x512 : Shape := ⟨4, ![1, 1, 2, 512]⟩
abbrev S1x1x1024 : Shape := ⟨3, ![1, 1, 1024]⟩
abbrev S4x8192x2048 : Shape := ⟨3, ![4, 8192, 2048]⟩
abbrev S2048x1024 : Shape := ⟨2, ![2048, 1024]⟩
abbrev S4x8192 : Shape := ⟨2, ![4, 8192]⟩
abbrev S4x8192x1 : Shape := ⟨3, ![4, 8192, 1]⟩

abbrev nBuf : Space → Nat
  | .hbm => 205
  | .vmem => 0
  | .smem => 0
  | _ => 0

abbrev hbmTy0_0 (i : Nat) : BufTy := match i % 128 with
  | 0 => ⟨S32768x1024, .bf16⟩
  | 1 => ⟨S32768x256, .bf16⟩
  | 2 => ⟨S32768x256, .bf16⟩
  | 3 => ⟨S128x8192, .f32⟩
  | 4 => ⟨S32768x1024, .bf16⟩
  | 5 => ⟨S256x256x512, .bf16⟩
  | 6 => ⟨S256x256x512, .bf16⟩
  | 7 => ⟨S32768x1024, .bf16⟩
  | 8 => ⟨S4x8192x1024, .f32⟩
  | 9 => ⟨S2x16, .f32⟩
  | 10 => ⟨S16, .f32⟩
  | 11 => ⟨S1024, .f32⟩
  | 12 => ⟨S1024, .f32⟩
  | 13 => ⟨S1x2048x1024, .f32⟩
  | 14 => ⟨S1024, .f32⟩
  | 15 => ⟨S32768x1024, .f32⟩
  | 16 => ⟨S4x8192x2x8x64, .f32⟩
  | 17 => ⟨S32768x256, .f32⟩
  | 18 => ⟨S4x8192x2x128, .f32⟩
  | 19 => ⟨S32768x256, .f32⟩
  | 20 => ⟨S4x8192x2x128, .f32⟩
  | 21 => ⟨S128x4x64x2x16, .f32⟩
  | 22 => ⟨S4x64x128x2x16, .f32⟩
  | 23 => ⟨S4x8192x2x16, .f32⟩
  | 24 => ⟨S2x16, .f32⟩
  | 25 => ⟨S2x16, .f32⟩
  | 26 => ⟨S4x8192x1x16, .f32⟩
  | 27 => ⟨S4x8192x16, .f32⟩
  | 28 => ⟨S4x8192x2x8, .f32⟩
  | 29 => ⟨S4x8192x1x16, .f32⟩
  | 30 => ⟨S4x8192x16, .f32⟩
  | 31 => ⟨S4x8192x2x8, .f32⟩
  | 32 => ⟨S1x16, .f32⟩
  | 33 => ⟨S16, .f32⟩
  | 34 => ⟨S2x8, .f32⟩
  | 35 => ⟨S1x16, .f32⟩
  | 36 => ⟨S16, .f32⟩
  | 37 => ⟨S2x8, .f32⟩
  | 38 => ⟨S256x256x512, .f32⟩
  | 39 => ⟨S4x64x2x128x8x64, .f32⟩
  | 40 => ⟨S4x8192x2x8x1, .f32⟩
  | 41 => ⟨S4x8192x2x8x64, .f32⟩
  | 42 => ⟨S4x8192x2x8x64, .f32⟩
  | 43 => ⟨S4x64x128x2x8x64, .f32⟩
  | 44 => ⟨S1x1x2x8, .f32⟩
  | 45 => ⟨S4x8192x2x8, .f32⟩
  | 46 => ⟨S4x8192x2x8, .f32⟩
  | 47 => ⟨S4x64x128x2x8, .f32⟩
  | 48 => ⟨S4x2x8x64x128, .f32⟩
  | 49 => ⟨S_, .f32⟩
  | 50 => ⟨S_, .f32⟩
  | 51 => ⟨S4x2x8x64x128, .f32⟩
  | 52 => ⟨S_, .i1⟩
  | 53 => ⟨S128x128, .i1⟩
  | 54 => ⟨S128x128, .i32⟩
  | 55 => ⟨S_, .i32⟩
  | 56 => ⟨S128x128, .i32⟩
  | 57 => ⟨S128x128, .i32⟩
  | 58 => ⟨S128x128, .i32⟩
  | 59 => ⟨S128x128, .i1⟩
  | 60 => ⟨S_, .i1⟩
  | 61 => ⟨S128x128, .i1⟩
  | 62 => ⟨S128x128, .i1⟩
  | 63 => ⟨S4x2x8x64x128x1, .f32⟩
  | 64 => ⟨S4x2x8x64x1x128, .f32⟩
  | 65 => ⟨S4x2x8x64x128x128, .f32⟩
  | 66 => ⟨S4x2x8x64x128x128, .f32⟩
  | 67 => ⟨S4x2x8x64x128x128, .f32⟩
  | 68 => ⟨S_, .f32⟩
  | 69 => ⟨S_, .f32⟩
  | 70 => ⟨S4x2x8x64x128x128, .i1⟩
  | 71 => ⟨S4x2x8x64x128x128, .f32⟩
  | 72 => ⟨S4x2x8x64x128x128, .f32⟩
  | 73 => ⟨S4x2x8x64x128x128, .f32⟩
  | 74 => ⟨S4x64x128x2x128, .f32⟩
  | 75 => ⟨S4x64x128x2x128, .f32⟩
  | 76 => ⟨S4x2x64x128x128, .f32⟩
  | 77 => ⟨S4x2x1x64x128x128, .f32⟩
  | 78 => ⟨S4x2x8x64x128x128, .f32⟩
  | 79 => ⟨S4x2x8x64x128x128, .f32⟩
  | 80 => ⟨S4x64x2x8x64x128, .f32⟩
  | 81 => ⟨S4x64x128x2x8x64, .f32⟩
  | 82 => ⟨S4x64x2x8x64x128, .f32⟩
  | 83 => ⟨S4x64x128x2x8x64, .f32⟩
  | 84 => ⟨S4x2x8x64x128, .f32⟩
  | 85 => ⟨S4x64x128x2x8, .f32⟩
  | 86 => ⟨S4x64x128x2x8x1, .f32⟩
  | 87 => ⟨S4x64x128x2x8x64, .f32⟩
  | 88 => ⟨S4x64x128x2x8x64, .f32⟩
  | 89 => ⟨S4x64x128x2x8x64, .f32⟩
  | 90 => ⟨S4x8192x2x8x64, .f32⟩
  | 91 => ⟨S4x8192x2x8x64, .f32⟩
  | 92 => ⟨S4x8192x2x8, .f32⟩
  | 93 => ⟨S4x8192x2x128, .f32⟩
  | 94 => ⟨S4x8192x2x128, .f32⟩
  | 95 => ⟨S256x256x512, .f32⟩
  | 96 => ⟨S4x64x2x128x8x64, .f32⟩
  | 97 => ⟨S4x64x2x128x8x64, .f32⟩
  | 98 => ⟨S4x8192x2x8x1, .f32⟩
  | 99 => ⟨S4x8192x2x8x64, .f32⟩
  | 100 => ⟨S4x8192x2x8x64, .f32⟩
  | 101 => ⟨S4x64x128x2x8x64, .f32⟩
  | 102 => ⟨S1x1x2x8, .f32⟩
  | 103 => ⟨S4x8192x2x8, .f32⟩
  | 104 => ⟨S4x8192x2x8, .f32⟩
  | 105 => ⟨S4x64x128x2x8, .f32⟩
  | 106 => ⟨S4x2x8x64x128, .f32⟩
  | 107 => ⟨S_, .f32⟩
  | 108 => ⟨S_, .f32⟩
  | 109 => ⟨S4x2x8x64x128, .f32⟩
  | 110 => ⟨S_, .i1⟩
  | 111 => ⟨S128x128, .i1⟩
  | 112 => ⟨S128x128, .i32⟩
  | 113 => ⟨S_, .i32⟩
  | 114 => ⟨S128x128, .i32⟩
  | 115 => ⟨S128x128, .i32⟩
  | 116 => ⟨S128x128, .i32⟩
  | 117 => ⟨S128x128, .i1⟩
  | 118 => ⟨S_, .i1⟩
  | 119 => ⟨S128x128, .i1⟩
  | 120 => ⟨S128x128, .i1⟩
  | 121 => ⟨S4x2x8x64x128x1, .f32⟩
  | 122 => ⟨S4x2x8x64x1x128, .f32⟩
  | 123 => ⟨S4x2x8x64x128x128, .f32⟩
  | 124 => ⟨S4x2x8x64x128x128, .f32⟩
  | 125 => ⟨S4x2x8x64x128x128, .f32⟩
  | 126 => ⟨S_, .f32⟩
  | 127 => ⟨S_, .f32⟩
  | _ => ⟨S32768x1024, .bf16⟩

abbrev hbmTy0_1 (i : Nat) : BufTy := match i % 128 with
  | 0 => ⟨S4x2x8x64x128x128, .i1⟩
  | 1 => ⟨S4x2x8x64x128x128, .f32⟩
  | 2 => ⟨S4x2x8x64x128x128, .f32⟩
  | 3 => ⟨S4x2x8x64x128x128, .f32⟩
  | 4 => ⟨S4x64x128x2x128, .f32⟩
  | 5 => ⟨S4x64x128x2x128, .f32⟩
  | 6 => ⟨S4x2x64x128x128, .f32⟩
  | 7 => ⟨S4x2x1x64x128x128, .f32⟩
  | 8 => ⟨S4x2x8x64x128x128, .f32⟩
  | 9 => ⟨S4x2x8x64x128x128, .f32⟩
  | 10 => ⟨S4x64x2x8x64x128, .f32⟩
  | 11 => ⟨S4x64x128x2x8x64, .f32⟩
  | 12 => ⟨S4x64x2x8x64x128, .f32⟩
  | 13 => ⟨S4x64x128x2x8x64, .f32⟩
  | 14 => ⟨S4x2x8x64x128, .f32⟩
  | 15 => ⟨S4x64x128x2x8, .f32⟩
  | 16 => ⟨S4x64x128x2x8x1, .f32⟩
  | 17 => ⟨S4x64x128x2x8x64, .f32⟩
  | 18 => ⟨S4x64x128x2x8x64, .f32⟩
  | 19 => ⟨S4x64x128x2x8x64, .f32⟩
  | 20 => ⟨S4x8192x2x8x64, .f32⟩
  | 21 => ⟨S4x8192x2x8x64, .f32⟩
  | 22 => ⟨S4x8192x2x8x64, .f32⟩
  | 23 => ⟨S2x8, .f32⟩
  | 24 => ⟨S2x8x1, .f32⟩
  | 25 => ⟨S1x1x2x8x1, .f32⟩
  | 26 => ⟨S4x8192x2x8x64, .f32⟩
  | 27 => ⟨S4x8192x2x8x64, .f32⟩
  | 28 => ⟨S4x8192x2x8x64, .f32⟩
  | 29 => ⟨S4x8192x2x512, .f32⟩
  | 30 => ⟨S32768x1024, .f32⟩
  | 31 => ⟨S4x8192x2x512, .f32⟩
  | 32 => ⟨S4x8192x2x512, .f32⟩
  | 33 => ⟨S2x512, .f32⟩
  | 34 => ⟨S4x8192x2x512, .f32⟩
  | 35 => ⟨S_, .f32⟩
  | 36 => ⟨S4x8192x2, .f32⟩
  | 37 => ⟨S4x8192x2x1, .f32⟩
  | 38 => ⟨S_, .f32⟩
  | 39 => ⟨S4x8192x2x1, .f32⟩
  | 40 => ⟨S4x8192x2x1, .f32⟩
  | 41 => ⟨S_, .f32⟩
  | 42 => ⟨S4x8192x2x1, .f32⟩
  | 43 => ⟨S4x8192x2x1, .f32⟩
  | 44 => ⟨S4x8192x2x1, .f32⟩
  | 45 => ⟨S4x8192x2x512, .f32⟩
  | 46 => ⟨S4x8192x2x512, .f32⟩
  | 47 => ⟨S1x1x2x512, .f32⟩
  | 48 => ⟨S4x8192x2x512, .f32⟩
  | 49 => ⟨S4x8192x2x512, .f32⟩
  | 50 => ⟨S4x8192x1024, .f32⟩
  | 51 => ⟨S32768x1024, .f32⟩
  | 52 => ⟨S4x8192x1024, .f32⟩
  | 53 => ⟨S1x1x1024, .f32⟩
  | 54 => ⟨S4x8192x1024, .f32⟩
  | 55 => ⟨S4x8192x1024, .f32⟩
  | 56 => ⟨S4x8192x2048, .f32⟩
  | 57 => ⟨S2048x1024, .f32⟩
  | 58 => ⟨S4x8192x1024, .f32⟩
  | 59 => ⟨S4x8192x1024, .f32⟩
  | 60 => ⟨S4x8192x1024, .f32⟩
  | 61 => ⟨S_, .f32⟩
  | 62 => ⟨S4x8192, .f32⟩
  | 63 => ⟨S4x8192x1, .f32⟩
  | 64 => ⟨S_, .f32⟩
  | 65 => ⟨S4x8192x1, .f32⟩
  | 66 => ⟨S4x8192x1, .f32⟩
  | 67 => ⟨S_, .f32⟩
  | 68 => ⟨S4x8192x1, .f32⟩
  | 69 => ⟨S4x8192x1, .f32⟩
  | 70 => ⟨S4x8192x1, .f32⟩
  | 71 => ⟨S4x8192x1024, .f32⟩
  | 72 => ⟨S4x8192x1024, .f32⟩
  | 73 => ⟨S1x1x1024, .f32⟩
  | 74 => ⟨S4x8192x1024, .f32⟩
  | 75 => ⟨S4x8192x1024, .f32⟩
  | 76 => ⟨S32768x1024, .f32⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_call0_cst : Ref sig .tc := ⟨.hbm, 49, rfl⟩
abbrev main_call0_call0_v0 : Ref sig .tc := ⟨.hbm, 50, rfl⟩
abbrev main_v34 : Ref sig .tc := ⟨.hbm, 51, rfl⟩
abbrev main_c : Ref sig .tc := ⟨.hbm, 52, rfl⟩
abbrev main_v35 : Ref sig .tc := ⟨.hbm, 53, rfl⟩
abbrev main_call1_v0 : Ref sig .tc := ⟨.hbm, 54, rfl⟩
abbrev main_call1_c : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_0 : Ref sig .tc := ⟨.hbm, 60, rfl⟩
abbrev main_call1_v5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_call3_call0_cst : Ref sig .tc := ⟨.hbm, 107, rfl⟩
abbrev main_call3_call0_v0 : Ref sig .tc := ⟨.hbm, 108, rfl⟩
abbrev main_v77 : Ref sig .tc := ⟨.hbm, 109, rfl⟩
abbrev main_c_0 : Ref sig .tc := ⟨.hbm, 110, rfl⟩
abbrev main_v78 : Ref sig .tc := ⟨.hbm, 111, rfl⟩
abbrev main_call4_v0 : Ref sig .tc := ⟨.hbm, 112, rfl⟩
abbrev main_call4_c : Ref sig .tc := ⟨.hbm, 113, rfl⟩
abbrev main_call4_v1 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_c_0 : Ref sig .tc := ⟨.hbm, 118, rfl⟩
abbrev main_call4_v5 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_1 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_2 : Ref sig .tc := ⟨.hbm, 163, rfl⟩
abbrev main_v118 : Ref sig .tc := ⟨.hbm, 164, rfl⟩
abbrev main_v119 : Ref sig .tc := ⟨.hbm, 165, rfl⟩
abbrev main_cst_3 : Ref sig .tc := ⟨.hbm, 166, rfl⟩
abbrev main_v120 : Ref sig .tc := ⟨.hbm, 167, rfl⟩
abbrev main_v121 : Ref sig .tc := ⟨.hbm, 168, rfl⟩
abbrev main_cst_4 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_5 : Ref sig .tc := ⟨.hbm, 189, rfl⟩
abbrev main_v141 : Ref sig .tc := ⟨.hbm, 190, rfl⟩
abbrev main_v142 : Ref sig .tc := ⟨.hbm, 191, rfl⟩
abbrev main_cst_6 : Ref sig .tc := ⟨.hbm, 192, rfl⟩
abbrev main_v143 : Ref sig .tc := ⟨.hbm, 193, rfl⟩
abbrev main_v144 : Ref sig .tc := ⟨.hbm, 194, rfl⟩
abbrev main_cst_7 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x5152 : Shape := ⟨2, ![1024, 5152]⟩
abbrev S5x1536 : Shape := ⟨2, ![5, 1536]⟩
abbrev S1536 : Shape := ⟨1, ![1536]⟩
abbrev S2x16 : Shape := ⟨2, ![2, 16]⟩
abbrev S1024x2560 : Shape := ⟨2, ![1024, 2560]⟩
abbrev S1024x32 : Shape := ⟨2, ![1024, 32]⟩
abbrev S_ : Shape := ⟨0, ![]⟩
abbrev S1024x128 : Shape := ⟨2, ![1024, 128]⟩
abbrev S1024x256 : Shape := ⟨2, ![1024, 256]⟩
abbrev S1024x4x1x64 : Shape := ⟨4, ![1024, 4, 1, 64]⟩
abbrev S1024x4x2x64 : Shape := ⟨4, ![1024, 4, 2, 64]⟩
abbrev S1024x512 : Shape := ⟨2, ![1024, 512]⟩
abbrev S1x32 : Shape := ⟨2, ![1, 32]⟩
abbrev S1x128 : Shape := ⟨2, ![1, 128]⟩
abbrev S32768x1024 : Shape := ⟨2, ![32768, 1024]⟩
abbrev S1x1024 : Shape := ⟨2, ![1, 1024]⟩
abbrev S1x1536 : Shape := ⟨2, ![1, 1536]⟩
abbrev S32768x256 : Shape := ⟨2, ![32768, 256]⟩
abbrev S128x8192 : Shape := ⟨2, ![128, 8192]⟩
abbrev S32768x512 : Shape := ⟨2, ![32768, 512]⟩
abbrev S512x1024 : Shape := ⟨2, ![512, 1024]⟩
abbrev S512x256 : Shape := ⟨2, ![512, 256]⟩
abbrev S128x128 : Shape := ⟨2, ![128, 128]⟩
abbrev S512x512 : Shape := ⟨2, ![512, 512]⟩
abbrev S3x528x1536 : Shape := ⟨3, ![3, 528, 1536]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1x512x1536 : Shape := ⟨3, ![1, 512, 1536]⟩
abbrev S8x1536 : Shape := ⟨2, ![8, 1536]⟩
abbrev S1x8x1536 : Shape := ⟨3, ![1, 8, 1536]⟩
abbrev S1024x1024 : Shape := ⟨2, ![1024, 1024]⟩
abbrev S512x128 : Shape := ⟨2, ![512, 128]⟩
abbrev S1x64x128 : Shape := ⟨3, ![1, 64, 128]⟩
abbrev S64x128 : Shape := ⟨2, ![64, 128]⟩

abbrev nBuf : Space → Nat
  | .hbm => 35
  | .vmem => 29
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x5152, .f32⟩
  | .hbm, ⟨3, _⟩ => ⟨S5x1536, .f32⟩
  | .hbm, ⟨4, _⟩ => ⟨S1536, .f32⟩
  | .hbm, ⟨5, _⟩ => ⟨S2x16, .f32⟩
  | .hbm, ⟨6, _⟩ => ⟨S1024x2560, .f32⟩
  | .hbm, ⟨7, _⟩ => ⟨S1024x2560, .bf16⟩
  | .hbm, ⟨8, _⟩ => ⟨S1024x32, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1024x2560, .f32⟩
  | .hbm, ⟨14, _⟩ => ⟨S1024x2560, .bf16⟩
  | .hbm, ⟨15, _⟩ => ⟨S1024x256, .bf16⟩
  | .hbm, ⟨16, _⟩ => ⟨S1024x4x1x64, .bf16⟩
  | .hbm, ⟨17, _⟩ => ⟨S1024x4x2x64, .bf16⟩
  | .hbm, ⟨18, _⟩ => ⟨S1024x512, .bf16⟩
  | .hbm, ⟨19, _⟩ => ⟨S1x32, .f32⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S32768x1024, .f32⟩
  | .hbm, ⟨24, _⟩ => ⟨S1x1024, .f32⟩
  | .hbm, ⟨25, _⟩ => ⟨S1x1536, .f32⟩
  | .hbm, ⟨26, _⟩ => ⟨S32768x1024, .bf16⟩
  | .hbm, ⟨27, _⟩ => ⟨S32768x1024, .bf16⟩
  | .hbm, ⟨28, _⟩ => ⟨S32768x256, .bf16⟩
  | .hbm, ⟨29, _⟩ => ⟨S32768x256, .bf16⟩
  | .hbm, ⟨30, _⟩ => ⟨S128x8192, .f32⟩
  | .hbm, ⟨31, _⟩ => ⟨S32768x1024, .bf16⟩
  | .hbm, ⟨32, _⟩ => ⟨S32768x512, .bf16⟩
  | .hbm, ⟨33, _⟩ => ⟨S32768x256, .bf16⟩
  | .hbm, ⟨34, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1024x2560, .bf16⟩
  | .local _ .vmem, ⟨5, _⟩ => ⟨S1024x512, .bf16⟩
  | .local _ .vmem, ⟨6, _⟩ => ⟨S1024x128, .bf16⟩
  | .local _ .vmem, ⟨7, _⟩ => ⟨S5x1536, .f32⟩
  | .local _ .vmem, ⟨8, _⟩ => ⟨S1x1536, .f32⟩
  | .local _ .vmem, ⟨9, _⟩ => ⟨S1x128, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S128x128, .f32⟩
  | .local _ .vmem, ⟨19, _⟩ => ⟨S128x128, .f32⟩
  | .local _ .vmem, ⟨20, _⟩ => ⟨S512x1024, .bf16⟩
  | .local _ .vmem, ⟨21, _⟩ => ⟨S512x1024, .bf16⟩
  | .local _ .vmem, ⟨22, _⟩ => ⟨S512x512, .bf16⟩
  | .local _ .vmem, ⟨23, _⟩ => ⟨S512x512, .bf16⟩
  | .local _ .vmem, ⟨24, _⟩ => ⟨S512x256, .bf16⟩
  | .local _ .vmem, ⟨25, _⟩ => ⟨S512x256, .bf16⟩
  | .local _ .vmem, ⟨26, _⟩ => ⟨S512x1024, .bf16⟩
  | .local _ .vmem, ⟨27, _⟩ => ⟨S512x1024, .bf16⟩
  | .local _ .vmem, ⟨28, _⟩ => ⟨S3x528x1536, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev main_v16_6 : Ref sig .tc := ⟨.hbm, 32, rfl⟩
abbrev main_v16_7 : Ref sig .tc := ⟨.hbm, 33, rfl⟩
abbrev main_v16_8 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![65], ![false]⟩

def k0_off1 (i : grid0.Coords) : Fin 3 → Nat :=
  let arg0 : BitVec 32 := BitVec.ofNat 32 (i 0).val
  let c3_i32 : BitVec 32 := 3#32
  let v21 : BitVec 32 := Scalar.remsi arg0 c3_i32
  let v29 : Index := Scalar.indexCast v21
  let c8 : Index := 8#32
  let c0_10 : Index := 0#32
  ![v29.toNat, 8, 0]
def k0_off2 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v38 : Index := Scalar.indexCast v23
  let c520 : Index := 520#32
  let c0_14 : Index := 0#32
  ![v38.toNat, 520, 0]
def k0_off3 (i : grid0.Coords) : Fin 3 → Nat :=
  let arg0 : BitVec 32 := BitVec.ofNat 32 (i 0).val
  let c1_i32 : BitVec 32 := 1#32
  let v24 : BitVec 32 := Scalar.addi arg0 c1_i32
  let c3_i32_7 : BitVec 32 := 3#32
  let v25 : BitVec 32 := Scalar.remsi v24 c3_i32_7
  let v47 : Index := Scalar.indexCast v25
  let c0_17 : Index := 0#32
  let c0_18 : Index := 0#32
  ![v47.toNat, 0, 0]
def k0_off4 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v116 : Index := Scalar.indexCast v23
  let c6 : Index := 6#32
  let c0_58 : Index := 0#32
  ![v116.toNat, 6, 0]
def k0_off5 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v124 : Index := Scalar.indexCast v23
  let c7 : Index := 7#32
  let c0_60 : Index := 0#32
  ![v124.toNat, 7, 0]
def k0_off6 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v131 : Index := Scalar.indexCast v23
  let c8_62 : Index := 8#32
  let c0_63 : Index := 0#32
  ![v131.toNat, 8, 0]
def k0_off7 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v138 : Index := Scalar.indexCast v23
  let c9 : Index := 9#32
  let c0_65 : Index := 0#32
  ![v138.toNat, 9, 0]
def k0_off8 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v145 : Index := Scalar.indexCast v23
  let c10 : Index := 10#32
  let c0_67 : Index := 0#32
  ![v145.toNat, 10, 0]
def k0_off9 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v158 : Index := Scalar.indexCast v23
  let c70 : Index := 70#32
  let c0_74 : Index := 0#32
  ![v158.toNat, 70, 0]
def k0_off10 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v166 : Index := Scalar.indexCast v23
  let c71 : Index := 71#32
  let c0_77 : Index := 0#32
  ![v166.toNat, 71, 0]
def k0_off11 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v173 : Index := Scalar.indexCast v23
  let c72 : Index := 72#32
  let c0_80 : Index := 0#32
  ![v173.toNat, 72, 0]
def k0_off12 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v180 : Index := Scalar.indexCast v23
  let c73 : Index := 73#32
  let c0_83 : Index := 0#32
  ![v180.toNat, 73, 0]
def k0_off13 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v187 : Index := Scalar.indexCast v23
  let c74 : Index := 74#32
  let c0_86 : Index := 0#32
  ![v187.toNat, 74, 0]
def k0_off14 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v200 : Index := Scalar.indexCast v23
  let c134 : Index := 134#32
  let c0_92 : Index := 0#32
  ![v200.toNat, 134, 0]
def k0_off15 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v208 : Index := Scalar.indexCast v23
  let c135 : Index := 135#32
  let c0_95 : Index := 0#32
  ![v208.toNat, 135, 0]
def k0_off16 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v215 : Index := Scalar.indexCast v23
  let c136 : Index := 136#32
  let c0_98 : Index := 0#32
  ![v215.toNat, 136, 0]
def k0_off17 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v222 : Index := Scalar.indexCast v23
  let c137 : Index := 137#32
  let c0_101 : Index := 0#32
  ![v222.toNat, 137, 0]
def k0_off18 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v229 : Index := Scalar.indexCast v23
  let c138 : Index := 138#32
  let c0_104 : Index := 0#32
  ![v229.toNat, 138, 0]
def k0_off19 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v242 : Index := Scalar.indexCast v23
  let c198 : Index := 198#32
  let c0_110 : Index := 0#32
  ![v242.toNat, 198, 0]
def k0_off20 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v250 : Index := Scalar.indexCast v23
  let c199 : Index := 199#32
  let c0_113 : Index := 0#32
  ![v250.toNat, 199, 0]
def k0_off21 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v257 : Index := Scalar.indexCast v23
  let c200 : Index := 200#32
  let c0_116 : Index := 0#32
  ![v257.toNat, 200, 0]
def k0_off22 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v264 : Index := Scalar.indexCast v23
  let c201 : Index := 201#32
  let c0_119 : Index := 0#32
  ![v264.toNat, 201, 0]
def k0_off23 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v271 : Index := Scalar.indexCast v23
  let c202 : Index := 202#32
  let c0_122 : Index := 0#32
  ![v271.toNat, 202, 0]
def k0_off24 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v284 : Index := Scalar.indexCast v23
  let c262 : Index := 262#32
  let c0_128 : Index := 0#32
  ![v284.toNat, 262, 0]
def k0_off25 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v292 : Index := Scalar.indexCast v23
  let c263 : Index := 263#32
  let c0_131 : Index := 0#32
  ![v292.toNat, 263, 0]
def k0_off26 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v299 : Index := Scalar.indexCast v23
  let c264 : Index := 264#32
  let c0_134 : Index := 0#32
  ![v299.toNat, 264, 0]
def k0_off27 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v306 : Index := Scalar.indexCast v23
  let c265 : Index := 265#32
  let c0_137 : Index := 0#32
  ![v306.toNat, 265, 0]
def k0_off28 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v313 : Index := Scalar.indexCast v23
  let c266 : Index := 266#32
  let c0_140 : Index := 0#32
  ![v313.toNat, 266, 0]
def k0_off29 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v326 : Index := Scalar.indexCast v23
  let c326 : Index := 326#32
  let c0_146 : Index := 0#32
  ![v326.toNat, 326, 0]
def k0_off30 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v334 : Index := Scalar.indexCast v23
  let c327 : Index := 327#32
  let c0_149 : Index := 0#32
  ![v334.toNat, 327, 0]
def k0_off31 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v341 : Index := Scalar.indexCast v23
  let c328 : Index := 328#32
  let c0_152 : Index := 0#32
  ![v341.toNat, 328, 0]
def k0_off32 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v348 : Index := Scalar.indexCast v23
  let c329 : Index := 329#32
  let c0_155 : Index := 0#32
  ![v348.toNat, 329, 0]
def k0_off33 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v355 : Index := Scalar.indexCast v23
  let c330 : Index := 330#32
  let c0_158 : Index := 0#32
  ![v355.toNat, 330, 0]
def k0_off34 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v368 : Index := Scalar.indexCast v23
  let c390 : Index := 390#32
  let c0_164 : Index := 0#32
  ![v368.toNat, 390, 0]
def k0_off35 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v376 : Index := Scalar.indexCast v23
  let c391 : Index := 391#32
  let c0_167 : Index := 0#32
  ![v376.toNat, 391, 0]
def k0_off36 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v383 : Index := Scalar.indexCast v23
  let c392 : Index := 392#32
  let c0_170 : Index := 0#32
  ![v383.toNat, 392, 0]
def k0_off37 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v390 : Index := Scalar.indexCast v23
  let c393 : Index := 393#32
  let c0_173 : Index := 0#32
  ![v390.toNat, 393, 0]
def k0_off38 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v397 : Index := Scalar.indexCast v23
  let c394 : Index := 394#32
  let c0_176 : Index := 0#32
  ![v397.toNat, 394, 0]
def k0_off39 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v410 : Index := Scalar.indexCast v23
  let c454 : Index := 454#32
  let c0_182 : Index := 0#32
  ![v410.toNat, 454, 0]
def k0_off40 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v418 : Index := Scalar.indexCast v23
  let c455 : Index := 455#32
  let c0_185 : Index := 0#32
  ![v418.toNat, 455, 0]
def k0_off41 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v425 : Index := Scalar.indexCast v23
  let c456 : Index := 456#32
  let c0_188 : Index := 0#32
  ![v425.toNat, 456, 0]
def k0_off42 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v432 : Index := Scalar.indexCast v23
  let c457 : Index := 457#32
  let c0_191 : Index := 0#32
  ![v432.toNat, 457, 0]
def k0_off43 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v439 : Index := Scalar.indexCast v23
  let c458 : Index := 458#32
  let c0_194 : Index := 0#32
  ![v439.toNat, 458, 0]
def k0_off44 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v452 : Index := Scalar.indexCast v23
  let c6_200 : Index := 6#32
  let c128_201 : Index := 128#32
  ![v452.toNat, 6, 128]
def k0_off45 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v460 : Index := Scalar.indexCast v23
  let c7_204 : Index := 7#32
  let c128_205 : Index := 128#32
  ![v460.toNat, 7, 128]
def k0_off46 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v467 : Index := Scalar.indexCast v23
  let c8_208 : Index := 8#32
  let c128_209 : Index := 128#32
  ![v467.toNat, 8, 128]
def k0_off47 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v474 : Index := Scalar.indexCast v23
  let c9_212 : Index := 9#32
  let c128_213 : Index := 128#32
  ![v474.toNat, 9, 128]
def k0_off48 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v481 : Index := Scalar.indexCast v23
  let c10_216 : Index := 10#32
  let c128_217 : Index := 128#32
  ![v481.toNat, 10, 128]
def k0_off49 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v494 : Index := Scalar.indexCast v23
  let c70_224 : Index := 70#32
  let c128_225 : Index := 128#32
  ![v494.toNat, 70, 128]
def k0_off50 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v502 : Index := Scalar.indexCast v23
  let c71_228 : Index := 71#32
  let c128_229 : Index := 128#32
  ![v502.toNat, 71, 128]
def k0_off51 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v509 : Index := Scalar.indexCast v23
  let c72_232 : Index := 72#32
  let c128_233 : Index := 128#32
  ![v509.toNat, 72, 128]
def k0_off52 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v516 : Index := Scalar.indexCast v23
  let c73_236 : Index := 73#32
  let c128_237 : Index := 128#32
  ![v516.toNat, 73, 128]
def k0_off53 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v523 : Index := Scalar.indexCast v23
  let c74_240 : Index := 74#32
  let c128_241 : Index := 128#32
  ![v523.toNat, 74, 128]
def k0_off54 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v536 : Index := Scalar.indexCast v23
  let c134_248 : Index := 134#32
  let c128_249 : Index := 128#32
  ![v536.toNat, 134, 128]
def k0_off55 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v544 : Index := Scalar.indexCast v23
  let c135_252 : Index := 135#32
  let c128_253 : Index := 128#32
  ![v544.toNat, 135, 128]
def k0_off56 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v551 : Index := Scalar.indexCast v23
  let c136_256 : Index := 136#32
  let c128_257 : Index := 128#32
  ![v551.toNat, 136, 128]
def k0_off57 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v558 : Index := Scalar.indexCast v23
  let c137_260 : Index := 137#32
  let c128_261 : Index := 128#32
  ![v558.toNat, 137, 128]
def k0_off58 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v565 : Index := Scalar.indexCast v23
  let c138_264 : Index := 138#32
  let c128_265 : Index := 128#32
  ![v565.toNat, 138, 128]
def k0_off59 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v578 : Index := Scalar.indexCast v23
  let c198_272 : Index := 198#32
  let c128_273 : Index := 128#32
  ![v578.toNat, 198, 128]
def k0_off60 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v586 : Index := Scalar.indexCast v23
  let c199_276 : Index := 199#32
  let c128_277 : Index := 128#32
  ![v586.toNat, 199, 128]
def k0_off61 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v593 : Index := Scalar.indexCast v23
  let c200_280 : Index := 200#32
  let c128_281 : Index := 128#32
  ![v593.toNat, 200, 128]
def k0_off62 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v600 : Index := Scalar.indexCast v23
  let c201_284 : Index := 201#32
  let c128_285 : Index := 128#32
  ![v600.toNat, 201, 128]
def k0_off63 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v607 : Index := Scalar.indexCast v23
  let c202_288 : Index := 202#32
  let c128_289 : Index := 128#32
  ![v607.toNat, 202, 128]
def k0_off64 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v620 : Index := Scalar.indexCast v23
  let c262_296 : Index := 262#32
  let c128_297 : Index := 128#32
  ![v620.toNat, 262, 128]
def k0_off65 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v628 : Index := Scalar.indexCast v23
  let c263_300 : Index := 263#32
  let c128_301 : Index := 128#32
  ![v628.toNat, 263, 128]
def k0_off66 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v635 : Index := Scalar.indexCast v23
  let c264_304 : Index := 264#32
  let c128_305 : Index := 128#32
  ![v635.toNat, 264, 128]
def k0_off67 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v642 : Index := Scalar.indexCast v23
  let c265_308 : Index := 265#32
  let c128_309 : Index := 128#32
  ![v642.toNat, 265, 128]
def k0_off68 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v649 : Index := Scalar.indexCast v23
  let c266_312 : Index := 266#32
  let c128_313 : Index := 128#32
  ![v649.toNat, 266, 128]
def k0_off69 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v662 : Index := Scalar.indexCast v23
  let c326_320 : Index := 326#32
  let c128_321 : Index := 128#32
  ![v662.toNat, 326, 128]
def k0_off70 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v670 : Index := Scalar.indexCast v23
  let c327_324 : Index := 327#32
  let c128_325 : Index := 128#32
  ![v670.toNat, 327, 128]
def k0_off71 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v677 : Index := Scalar.indexCast v23
  let c328_328 : Index := 328#32
  let c128_329 : Index := 128#32
  ![v677.toNat, 328, 128]
def k0_off72 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v684 : Index := Scalar.indexCast v23
  let c329_332 : Index := 329#32
  let c128_333 : Index := 128#32
  ![v684.toNat, 329, 128]
def k0_off73 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v691 : Index := Scalar.indexCast v23
  let c330_336 : Index := 330#32
  let c128_337 : Index := 128#32
  ![v691.toNat, 330, 128]
def k0_off74 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v704 : Index := Scalar.indexCast v23
  let c390_344 : Index := 390#32
  let c128_345 : Index := 128#32
  ![v704.toNat, 390, 128]
def k0_off75 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v712 : Index := Scalar.indexCast v23
  let c391_348 : Index := 391#32
  let c128_349 : Index := 128#32
  ![v712.toNat, 391, 128]
def k0_off76 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v719 : Index := Scalar.indexCast v23
  let c392_352 : Index := 392#32
  let c128_353 : Index := 128#32
  ![v719.toNat, 392, 128]
def k0_off77 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v726 : Index := Scalar.indexCast v23
  let c393_356 : Index := 393#32
  let c128_357 : Index := 128#32
  ![v726.toNat, 393, 128]
def k0_off78 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v733 : Index := Scalar.indexCast v23
  let c394_360 : Index := 394#32
  let c128_361 : Index := 128#32
  ![v733.toNat, 394, 128]
def k0_off79 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v746 : Index := Scalar.indexCast v23
  let c454_368 : Index := 454#32
  let c128_369 : Index := 128#32
  ![v746.toNat, 454, 128]
def k0_off80 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v754 : Index := Scalar.indexCast v23
  let c455_372 : Index := 455#32
  let c128_373 : Index := 128#32
  ![v754.toNat, 455, 128]
def k0_off81 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v761 : Index := Scalar.indexCast v23
  let c456_376 : Index := 456#32
  let c128_377 : Index := 128#32
  ![v761.toNat, 456, 128]
def k0_off82 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v768 : Index := Scalar.indexCast v23
  let c457_380 : Index := 457#32
  let c128_381 : Index := 128#32
  ![v768.toNat, 457, 128]
def k0_off83 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v775 : Index := Scalar.indexCast v23
  let c458_384 : Index := 458#32
  let c128_385 : Index := 128#32
  ![v775.toNat, 458, 128]
def k0_off84 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v788 : Index := Scalar.indexCast v23
  let c6_392 : Index := 6#32
  let c256_393 : Index := 256#32
  ![v788.toNat, 6, 256]
def k0_off85 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v796 : Index := Scalar.indexCast v23
  let c7_396 : Index := 7#32
  let c256_397 : Index := 256#32
  ![v796.toNat, 7, 256]
def k0_off86 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v803 : Index := Scalar.indexCast v23
  let c8_400 : Index := 8#32
  let c256_401 : Index := 256#32
  ![v803.toNat, 8, 256]
def k0_off87 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v810 : Index := Scalar.indexCast v23
  let c9_404 : Index := 9#32
  let c256_405 : Index := 256#32
  ![v810.toNat, 9, 256]
def k0_off88 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v817 : Index := Scalar.indexCast v23
  let c10_408 : Index := 10#32
  let c256_409 : Index := 256#32
  ![v817.toNat, 10, 256]
def k0_off89 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v830 : Index := Scalar.indexCast v23
  let c70_416 : Index := 70#32
  let c256_417 : Index := 256#32
  ![v830.toNat, 70, 256]
def k0_off90 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v838 : Index := Scalar.indexCast v23
  let c71_420 : Index := 71#32
  let c256_421 : Index := 256#32
  ![v838.toNat, 71, 256]
def k0_off91 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v845 : Index := Scalar.indexCast v23
  let c72_424 : Index := 72#32
  let c256_425 : Index := 256#32
  ![v845.toNat, 72, 256]
def k0_off92 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v852 : Index := Scalar.indexCast v23
  let c73_428 : Index := 73#32
  let c256_429 : Index := 256#32
  ![v852.toNat, 73, 256]
def k0_off93 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v859 : Index := Scalar.indexCast v23
  let c74_432 : Index := 74#32
  let c256_433 : Index := 256#32
  ![v859.toNat, 74, 256]
def k0_off94 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v872 : Index := Scalar.indexCast v23
  let c134_440 : Index := 134#32
  let c256_441 : Index := 256#32
  ![v872.toNat, 134, 256]
def k0_off95 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v880 : Index := Scalar.indexCast v23
  let c135_444 : Index := 135#32
  let c256_445 : Index := 256#32
  ![v880.toNat, 135, 256]
def k0_off96 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v887 : Index := Scalar.indexCast v23
  let c136_448 : Index := 136#32
  let c256_449 : Index := 256#32
  ![v887.toNat, 136, 256]
def k0_off97 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v894 : Index := Scalar.indexCast v23
  let c137_452 : Index := 137#32
  let c256_453 : Index := 256#32
  ![v894.toNat, 137, 256]
def k0_off98 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v901 : Index := Scalar.indexCast v23
  let c138_456 : Index := 138#32
  let c256_457 : Index := 256#32
  ![v901.toNat, 138, 256]
def k0_off99 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v914 : Index := Scalar.indexCast v23
  let c198_464 : Index := 198#32
  let c256_465 : Index := 256#32
  ![v914.toNat, 198, 256]
def k0_off100 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v922 : Index := Scalar.indexCast v23
  let c199_468 : Index := 199#32
  let c256_469 : Index := 256#32
  ![v922.toNat, 199, 256]
def k0_off101 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v929 : Index := Scalar.indexCast v23
  let c200_472 : Index := 200#32
  let c256_473 : Index := 256#32
  ![v929.toNat, 200, 256]
def k0_off102 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v936 : Index := Scalar.indexCast v23
  let c201_476 : Index := 201#32
  let c256_477 : Index := 256#32
  ![v936.toNat, 201, 256]
def k0_off103 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v943 : Index := Scalar.indexCast v23
  let c202_480 : Index := 202#32
  let c256_481 : Index := 256#32
  ![v943.toNat, 202, 256]
def k0_off104 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v956 : Index := Scalar.indexCast v23
  let c262_488 : Index := 262#32
  let c256_489 : Index := 256#32
  ![v956.toNat, 262, 256]
def k0_off105 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v964 : Index := Scalar.indexCast v23
  let c263_492 : Index := 263#32
  let c256_493 : Index := 256#32
  ![v964.toNat, 263, 256]
def k0_off106 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v971 : Index := Scalar.indexCast v23
  let c264_496 : Index := 264#32
  let c256_497 : Index := 256#32
  ![v971.toNat, 264, 256]
def k0_off107 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v978 : Index := Scalar.indexCast v23
  let c265_500 : Index := 265#32
  let c256_501 : Index := 256#32
  ![v978.toNat, 265, 256]
def k0_off108 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v985 : Index := Scalar.indexCast v23
  let c266_504 : Index := 266#32
  let c256_505 : Index := 256#32
  ![v985.toNat, 266, 256]
def k0_off109 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v998 : Index := Scalar.indexCast v23
  let c326_512 : Index := 326#32
  let c256_513 : Index := 256#32
  ![v998.toNat, 326, 256]
def k0_off110 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1006 : Index := Scalar.indexCast v23
  let c327_516 : Index := 327#32
  let c256_517 : Index := 256#32
  ![v1006.toNat, 327, 256]
def k0_off111 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1013 : Index := Scalar.indexCast v23
  let c328_520 : Index := 328#32
  let c256_521 : Index := 256#32
  ![v1013.toNat, 328, 256]
def k0_off112 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1020 : Index := Scalar.indexCast v23
  let c329_524 : Index := 329#32
  let c256_525 : Index := 256#32
  ![v1020.toNat, 329, 256]
def k0_off113 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1027 : Index := Scalar.indexCast v23
  let c330_528 : Index := 330#32
  let c256_529 : Index := 256#32
  ![v1027.toNat, 330, 256]
def k0_off114 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1040 : Index := Scalar.indexCast v23
  let c390_536 : Index := 390#32
  let c256_537 : Index := 256#32
  ![v1040.toNat, 390, 256]
def k0_off115 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1048 : Index := Scalar.indexCast v23
  let c391_540 : Index := 391#32
  let c256_541 : Index := 256#32
  ![v1048.toNat, 391, 256]
def k0_off116 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1055 : Index := Scalar.indexCast v23
  let c392_544 : Index := 392#32
  let c256_545 : Index := 256#32
  ![v1055.toNat, 392, 256]
def k0_off117 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1062 : Index := Scalar.indexCast v23
  let c393_548 : Index := 393#32
  let c256_549 : Index := 256#32
  ![v1062.toNat, 393, 256]
def k0_off118 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1069 : Index := Scalar.indexCast v23
  let c394_552 : Index := 394#32
  let c256_553 : Index := 256#32
  ![v1069.toNat, 394, 256]
def k0_off119 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1082 : Index := Scalar.indexCast v23
  let c454_560 : Index := 454#32
  let c256_561 : Index := 256#32
  ![v1082.toNat, 454, 256]
def k0_off120 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1090 : Index := Scalar.indexCast v23
  let c455_564 : Index := 455#32
  let c256_565 : Index := 256#32
  ![v1090.toNat, 455, 256]
def k0_off121 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1097 : Index := Scalar.indexCast v23
  let c456_568 : Index := 456#32
  let c256_569 : Index := 256#32
  ![v1097.toNat, 456, 256]
def k0_off122 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1104 : Index := Scalar.indexCast v23
  let c457_572 : Index := 457#32
  let c256_573 : Index := 256#32
  ![v1104.toNat, 457, 256]
def k0_off123 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1111 : Index := Scalar.indexCast v23
  let c458_576 : Index := 458#32
  let c256_577 : Index := 256#32
  ![v1111.toNat, 458, 256]
def k0_off124 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1124 : Index := Scalar.indexCast v23
  let c6_584 : Index := 6#32
  let c384_585 : Index := 384#32
  ![v1124.toNat, 6, 384]
def k0_off125 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1132 : Index := Scalar.indexCast v23
  let c7_588 : Index := 7#32
  let c384_589 : Index := 384#32
  ![v1132.toNat, 7, 384]
def k0_off126 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1139 : Index := Scalar.indexCast v23
  let c8_592 : Index := 8#32
  let c384_593 : Index := 384#32
  ![v1139.toNat, 8, 384]
def k0_off127 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1146 : Index := Scalar.indexCast v23
  let c9_596 : Index := 9#32
  let c384_597 : Index := 384#32
  ![v1146.toNat, 9, 384]
def k0_off128 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1153 : Index := Scalar.indexCast v23
  let c10_600 : Index := 10#32
  let c384_601 : Index := 384#32
  ![v1153.toNat, 10, 384]
def k0_off129 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1166 : Index := Scalar.indexCast v23
  let c70_608 : Index := 70#32
  let c384_609 : Index := 384#32
  ![v1166.toNat, 70, 384]
def k0_off130 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1174 : Index := Scalar.indexCast v23
  let c71_612 : Index := 71#32
  let c384_613 : Index := 384#32
  ![v1174.toNat, 71, 384]
def k0_off131 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1181 : Index := Scalar.indexCast v23
  let c72_616 : Index := 72#32
  let c384_617 : Index := 384#32
  ![v1181.toNat, 72, 384]
def k0_off132 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1188 : Index := Scalar.indexCast v23
  let c73_620 : Index := 73#32
  let c384_621 : Index := 384#32
  ![v1188.toNat, 73, 384]
def k0_off133 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1195 : Index := Scalar.indexCast v23
  let c74_624 : Index := 74#32
  let c384_625 : Index := 384#32
  ![v1195.toNat, 74, 384]
def k0_off134 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1208 : Index := Scalar.indexCast v23
  let c134_632 : Index := 134#32
  let c384_633 : Index := 384#32
  ![v1208.toNat, 134, 384]
def k0_off135 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1216 : Index := Scalar.indexCast v23
  let c135_636 : Index := 135#32
  let c384_637 : Index := 384#32
  ![v1216.toNat, 135, 384]
def k0_off136 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1223 : Index := Scalar.indexCast v23
  let c136_640 : Index := 136#32
  let c384_641 : Index := 384#32
  ![v1223.toNat, 136, 384]
def k0_off137 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1230 : Index := Scalar.indexCast v23
  let c137_644 : Index := 137#32
  let c384_645 : Index := 384#32
  ![v1230.toNat, 137, 384]
def k0_off138 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1237 : Index := Scalar.indexCast v23
  let c138_648 : Index := 138#32
  let c384_649 : Index := 384#32
  ![v1237.toNat, 138, 384]
def k0_off139 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1250 : Index := Scalar.indexCast v23
  let c198_656 : Index := 198#32
  let c384_657 : Index := 384#32
  ![v1250.toNat, 198, 384]
def k0_off140 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1258 : Index := Scalar.indexCast v23
  let c199_660 : Index := 199#32
  let c384_661 : Index := 384#32
  ![v1258.toNat, 199, 384]
def k0_off141 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1265 : Index := Scalar.indexCast v23
  let c200_664 : Index := 200#32
  let c384_665 : Index := 384#32
  ![v1265.toNat, 200, 384]
def k0_off142 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1272 : Index := Scalar.indexCast v23
  let c201_668 : Index := 201#32
  let c384_669 : Index := 384#32
  ![v1272.toNat, 201, 384]
def k0_off143 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1279 : Index := Scalar.indexCast v23
  let c202_672 : Index := 202#32
  let c384_673 : Index := 384#32
  ![v1279.toNat, 202, 384]
def k0_off144 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1292 : Index := Scalar.indexCast v23
  let c262_680 : Index := 262#32
  let c384_681 : Index := 384#32
  ![v1292.toNat, 262, 384]
def k0_off145 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1300 : Index := Scalar.indexCast v23
  let c263_684 : Index := 263#32
  let c384_685 : Index := 384#32
  ![v1300.toNat, 263, 384]
def k0_off146 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1307 : Index := Scalar.indexCast v23
  let c264_688 : Index := 264#32
  let c384_689 : Index := 384#32
  ![v1307.toNat, 264, 384]
def k0_off147 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1314 : Index := Scalar.indexCast v23
  let c265_692 : Index := 265#32
  let c384_693 : Index := 384#32
  ![v1314.toNat, 265, 384]
def k0_off148 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1321 : Index := Scalar.indexCast v23
  let c266_696 : Index := 266#32
  let c384_697 : Index := 384#32
  ![v1321.toNat, 266, 384]
def k0_off149 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1334 : Index := Scalar.indexCast v23
  let c326_704 : Index := 326#32
  let c384_705 : Index := 384#32
  ![v1334.toNat, 326, 384]
def k0_off150 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1342 : Index := Scalar.indexCast v23
  let c327_708 : Index := 327#32
  let c384_709 : Index := 384#32
  ![v1342.toNat, 327, 384]
def k0_off151 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1349 : Index := Scalar.indexCast v23
  let c328_712 : Index := 328#32
  let c384_713 : Index := 384#32
  ![v1349.toNat, 328, 384]
def k0_off152 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1356 : Index := Scalar.indexCast v23
  let c329_716 : Index := 329#32
  let c384_717 : Index := 384#32
  ![v1356.toNat, 329, 384]
def k0_off153 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1363 : Index := Scalar.indexCast v23
  let c330_720 : Index := 330#32
  let c384_721 : Index := 384#32
  ![v1363.toNat, 330, 384]
def k0_off154 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1376 : Index := Scalar.indexCast v23
  let c390_728 : Index := 390#32
  let c384_729 : Index := 384#32
  ![v1376.toNat, 390, 384]
def k0_off155 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1384 : Index := Scalar.indexCast v23
  let c391_732 : Index := 391#32
  let c384_733 : Index := 384#32
  ![v1384.toNat, 391, 384]
def k0_off156 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1391 : Index := Scalar.indexCast v23
  let c392_736 : Index := 392#32
  let c384_737 : Index := 384#32
  ![v1391.toNat, 392, 384]
def k0_off157 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1398 : Index := Scalar.indexCast v23
  let c393_740 : Index := 393#32
  let c384_741 : Index := 384#32
  ![v1398.toNat, 393, 384]
def k0_off158 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1405 : Index := Scalar.indexCast v23
  let c394_744 : Index := 394#32
  let c384_745 : Index := 384#32
  ![v1405.toNat, 394, 384]
def k0_off159 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1418 : Index := Scalar.indexCast v23
  let c454_752 : Index := 454#32
  let c384_753 : Index := 384#32
  ![v1418.toNat, 454, 384]
def k0_off160 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1426 : Index := Scalar.indexCast v23
  let c455_756 : Index := 455#32
  let c384_757 : Index := 384#32
  ![v1426.toNat, 455, 384]
def k0_off161 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1433 : Index := Scalar.indexCast v23
  let c456_760 : Index := 456#32
  let c384_761 : Index := 384#32
  ![v1433.toNat, 456, 384]
def k0_off162 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1440 : Index := Scalar.indexCast v23
  let c457_764 : Index := 457#32
  let c384_765 : Index := 384#32
  ![v1440.toNat, 457, 384]
def k0_off163 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1447 : Index := Scalar.indexCast v23
  let c458_768 : Index := 458#32
  let c384_769 : Index := 384#32
  ![v1447.toNat, 458, 384]
def k0_off164 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1460 : Index := Scalar.indexCast v23
  let c6_775 : Index := 6#32
  let c512_776 : Index := 512#32
  ![v1460.toNat, 6, 512]
def k0_off165 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1468 : Index := Scalar.indexCast v23
  let c7_779 : Index := 7#32
  let c512_780 : Index := 512#32
  ![v1468.toNat, 7, 512]
def k0_off166 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1475 : Index := Scalar.indexCast v23
  let c8_783 : Index := 8#32
  let c512_784 : Index := 512#32
  ![v1475.toNat, 8, 512]
def k0_off167 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1482 : Index := Scalar.indexCast v23
  let c9_787 : Index := 9#32
  let c512_788 : Index := 512#32
  ![v1482.toNat, 9, 512]
def k0_off168 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1489 : Index := Scalar.indexCast v23
  let c10_791 : Index := 10#32
  let c512_792 : Index := 512#32
  ![v1489.toNat, 10, 512]
def k0_off169 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1502 : Index := Scalar.indexCast v23
  let c70_799 : Index := 70#32
  let c512_800 : Index := 512#32
  ![v1502.toNat, 70, 512]
def k0_off170 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1510 : Index := Scalar.indexCast v23
  let c71_803 : Index := 71#32
  let c512_804 : Index := 512#32
  ![v1510.toNat, 71, 512]
def k0_off171 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1517 : Index := Scalar.indexCast v23
  let c72_807 : Index := 72#32
  let c512_808 : Index := 512#32
  ![v1517.toNat, 72, 512]
def k0_off172 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1524 : Index := Scalar.indexCast v23
  let c73_811 : Index := 73#32
  let c512_812 : Index := 512#32
  ![v1524.toNat, 73, 512]
def k0_off173 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1531 : Index := Scalar.indexCast v23
  let c74_815 : Index := 74#32
  let c512_816 : Index := 512#32
  ![v1531.toNat, 74, 512]
def k0_off174 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1544 : Index := Scalar.indexCast v23
  let c134_823 : Index := 134#32
  let c512_824 : Index := 512#32
  ![v1544.toNat, 134, 512]
def k0_off175 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1552 : Index := Scalar.indexCast v23
  let c135_827 : Index := 135#32
  let c512_828 : Index := 512#32
  ![v1552.toNat, 135, 512]
def k0_off176 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1559 : Index := Scalar.indexCast v23
  let c136_831 : Index := 136#32
  let c512_832 : Index := 512#32
  ![v1559.toNat, 136, 512]
def k0_off177 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1566 : Index := Scalar.indexCast v23
  let c137_835 : Index := 137#32
  let c512_836 : Index := 512#32
  ![v1566.toNat, 137, 512]
def k0_off178 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1573 : Index := Scalar.indexCast v23
  let c138_839 : Index := 138#32
  let c512_840 : Index := 512#32
  ![v1573.toNat, 138, 512]
def k0_off179 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1586 : Index := Scalar.indexCast v23
  let c198_847 : Index := 198#32
  let c512_848 : Index := 512#32
  ![v1586.toNat, 198, 512]
def k0_off180 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1594 : Index := Scalar.indexCast v23
  let c199_851 : Index := 199#32
  let c512_852 : Index := 512#32
  ![v1594.toNat, 199, 512]
def k0_off181 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1601 : Index := Scalar.indexCast v23
  let c200_855 : Index := 200#32
  let c512_856 : Index := 512#32
  ![v1601.toNat, 200, 512]
def k0_off182 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1608 : Index := Scalar.indexCast v23
  let c201_859 : Index := 201#32
  let c512_860 : Index := 512#32
  ![v1608.toNat, 201, 512]
def k0_off183 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1615 : Index := Scalar.indexCast v23
  let c202_863 : Index := 202#32
  let c512_864 : Index := 512#32
  ![v1615.toNat, 202, 512]
def k0_off184 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1628 : Index := Scalar.indexCast v23
  let c262_871 : Index := 262#32
  let c512_872 : Index := 512#32
  ![v1628.toNat, 262, 512]
def k0_off185 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1636 : Index := Scalar.indexCast v23
  let c263_875 : Index := 263#32
  let c512_876 : Index := 512#32
  ![v1636.toNat, 263, 512]
def k0_off186 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1643 : Index := Scalar.indexCast v23
  let c264_879 : Index := 264#32
  let c512_880 : Index := 512#32
  ![v1643.toNat, 264, 512]
def k0_off187 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1650 : Index := Scalar.indexCast v23
  let c265_883 : Index := 265#32
  let c512_884 : Index := 512#32
  ![v1650.toNat, 265, 512]
def k0_off188 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1657 : Index := Scalar.indexCast v23
  let c266_887 : Index := 266#32
  let c512_888 : Index := 512#32
  ![v1657.toNat, 266, 512]
def k0_off189 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1670 : Index := Scalar.indexCast v23
  let c326_895 : Index := 326#32
  let c512_896 : Index := 512#32
  ![v1670.toNat, 326, 512]
def k0_off190 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1678 : Index := Scalar.indexCast v23
  let c327_899 : Index := 327#32
  let c512_900 : Index := 512#32
  ![v1678.toNat, 327, 512]
def k0_off191 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1685 : Index := Scalar.indexCast v23
  let c328_903 : Index := 328#32
  let c512_904 : Index := 512#32
  ![v1685.toNat, 328, 512]
def k0_off192 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1692 : Index := Scalar.indexCast v23
  let c329_907 : Index := 329#32
  let c512_908 : Index := 512#32
  ![v1692.toNat, 329, 512]
def k0_off193 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1699 : Index := Scalar.indexCast v23
  let c330_911 : Index := 330#32
  let c512_912 : Index := 512#32
  ![v1699.toNat, 330, 512]
def k0_off194 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1712 : Index := Scalar.indexCast v23
  let c390_919 : Index := 390#32
  let c512_920 : Index := 512#32
  ![v1712.toNat, 390, 512]
def k0_off195 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1720 : Index := Scalar.indexCast v23
  let c391_923 : Index := 391#32
  let c512_924 : Index := 512#32
  ![v1720.toNat, 391, 512]
def k0_off196 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1727 : Index := Scalar.indexCast v23
  let c392_927 : Index := 392#32
  let c512_928 : Index := 512#32
  ![v1727.toNat, 392, 512]
def k0_off197 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1734 : Index := Scalar.indexCast v23
  let c393_931 : Index := 393#32
  let c512_932 : Index := 512#32
  ![v1734.toNat, 393, 512]
def k0_off198 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1741 : Index := Scalar.indexCast v23
  let c394_935 : Index := 394#32
  let c512_936 : Index := 512#32
  ![v1741.toNat, 394, 512]
def k0_off199 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1754 : Index := Scalar.indexCast v23
  let c454_943 : Index := 454#32
  let c512_944 : Index := 512#32
  ![v1754.toNat, 454, 512]
def k0_off200 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1762 : Index := Scalar.indexCast v23
  let c455_947 : Index := 455#32
  let c512_948 : Index := 512#32
  ![v1762.toNat, 455, 512]
def k0_off201 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1769 : Index := Scalar.indexCast v23
  let c456_951 : Index := 456#32
  let c512_952 : Index := 512#32
  ![v1769.toNat, 456, 512]
def k0_off202 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1776 : Index := Scalar.indexCast v23
  let c457_955 : Index := 457#32
  let c512_956 : Index := 512#32
  ![v1776.toNat, 457, 512]
def k0_off203 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1783 : Index := Scalar.indexCast v23
  let c458_959 : Index := 458#32
  let c512_960 : Index := 512#32
  ![v1783.toNat, 458, 512]
def k0_off204 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1796 : Index := Scalar.indexCast v23
  let c6_966 : Index := 6#32
  let c640_967 : Index := 640#32
  ![v1796.toNat, 6, 640]
def k0_off205 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1804 : Index := Scalar.indexCast v23
  let c7_970 : Index := 7#32
  let c640_971 : Index := 640#32
  ![v1804.toNat, 7, 640]
def k0_off206 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1811 : Index := Scalar.indexCast v23
  let c8_974 : Index := 8#32
  let c640_975 : Index := 640#32
  ![v1811.toNat, 8, 640]
def k0_off207 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1818 : Index := Scalar.indexCast v23
  let c9_978 : Index := 9#32
  let c640_979 : Index := 640#32
  ![v1818.toNat, 9, 640]
def k0_off208 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1825 : Index := Scalar.indexCast v23
  let c10_982 : Index := 10#32
  let c640_983 : Index := 640#32
  ![v1825.toNat, 10, 640]
def k0_off209 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1838 : Index := Scalar.indexCast v23
  let c70_990 : Index := 70#32
  let c640_991 : Index := 640#32
  ![v1838.toNat, 70, 640]
def k0_off210 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1846 : Index := Scalar.indexCast v23
  let c71_994 : Index := 71#32
  let c640_995 : Index := 640#32
  ![v1846.toNat, 71, 640]
def k0_off211 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1853 : Index := Scalar.indexCast v23
  let c72_998 : Index := 72#32
  let c640_999 : Index := 640#32
  ![v1853.toNat, 72, 640]
def k0_off212 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1860 : Index := Scalar.indexCast v23
  let c73_1002 : Index := 73#32
  let c640_1003 : Index := 640#32
  ![v1860.toNat, 73, 640]
def k0_off213 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1867 : Index := Scalar.indexCast v23
  let c74_1006 : Index := 74#32
  let c640_1007 : Index := 640#32
  ![v1867.toNat, 74, 640]
def k0_off214 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1880 : Index := Scalar.indexCast v23
  let c134_1014 : Index := 134#32
  let c640_1015 : Index := 640#32
  ![v1880.toNat, 134, 640]
def k0_off215 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1888 : Index := Scalar.indexCast v23
  let c135_1018 : Index := 135#32
  let c640_1019 : Index := 640#32
  ![v1888.toNat, 135, 640]
def k0_off216 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1895 : Index := Scalar.indexCast v23
  let c136_1022 : Index := 136#32
  let c640_1023 : Index := 640#32
  ![v1895.toNat, 136, 640]
def k0_off217 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1902 : Index := Scalar.indexCast v23
  let c137_1026 : Index := 137#32
  let c640_1027 : Index := 640#32
  ![v1902.toNat, 137, 640]
def k0_off218 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1909 : Index := Scalar.indexCast v23
  let c138_1030 : Index := 138#32
  let c640_1031 : Index := 640#32
  ![v1909.toNat, 138, 640]
def k0_off219 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1922 : Index := Scalar.indexCast v23
  let c198_1038 : Index := 198#32
  let c640_1039 : Index := 640#32
  ![v1922.toNat, 198, 640]
def k0_off220 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1930 : Index := Scalar.indexCast v23
  let c199_1042 : Index := 199#32
  let c640_1043 : Index := 640#32
  ![v1930.toNat, 199, 640]
def k0_off221 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1937 : Index := Scalar.indexCast v23
  let c200_1046 : Index := 200#32
  let c640_1047 : Index := 640#32
  ![v1937.toNat, 200, 640]
def k0_off222 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1944 : Index := Scalar.indexCast v23
  let c201_1050 : Index := 201#32
  let c640_1051 : Index := 640#32
  ![v1944.toNat, 201, 640]
def k0_off223 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1951 : Index := Scalar.indexCast v23
  let c202_1054 : Index := 202#32
  let c640_1055 : Index := 640#32
  ![v1951.toNat, 202, 640]
def k0_off224 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1964 : Index := Scalar.indexCast v23
  let c262_1062 : Index := 262#32
  let c640_1063 : Index := 640#32
  ![v1964.toNat, 262, 640]
def k0_off225 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1972 : Index := Scalar.indexCast v23
  let c263_1066 : Index := 263#32
  let c640_1067 : Index := 640#32
  ![v1972.toNat, 263, 640]
def k0_off226 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1979 : Index := Scalar.indexCast v23
  let c264_1070 : Index := 264#32
  let c640_1071 : Index := 640#32
  ![v1979.toNat, 264, 640]
def k0_off227 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1986 : Index := Scalar.indexCast v23
  let c265_1074 : Index := 265#32
  let c640_1075 : Index := 640#32
  ![v1986.toNat, 265, 640]
def k0_off228 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v1993 : Index := Scalar.indexCast v23
  let c266_1078 : Index := 266#32
  let c640_1079 : Index := 640#32
  ![v1993.toNat, 266, 640]
def k0_off229 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2006 : Index := Scalar.indexCast v23
  let c326_1086 : Index := 326#32
  let c640_1087 : Index := 640#32
  ![v2006.toNat, 326, 640]
def k0_off230 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2014 : Index := Scalar.indexCast v23
  let c327_1090 : Index := 327#32
  let c640_1091 : Index := 640#32
  ![v2014.toNat, 327, 640]
def k0_off231 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2021 : Index := Scalar.indexCast v23
  let c328_1094 : Index := 328#32
  let c640_1095 : Index := 640#32
  ![v2021.toNat, 328, 640]
def k0_off232 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2028 : Index := Scalar.indexCast v23
  let c329_1098 : Index := 329#32
  let c640_1099 : Index := 640#32
  ![v2028.toNat, 329, 640]
def k0_off233 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2035 : Index := Scalar.indexCast v23
  let c330_1102 : Index := 330#32
  let c640_1103 : Index := 640#32
  ![v2035.toNat, 330, 640]
def k0_off234 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2048 : Index := Scalar.indexCast v23
  let c390_1110 : Index := 390#32
  let c640_1111 : Index := 640#32
  ![v2048.toNat, 390, 640]
def k0_off235 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2056 : Index := Scalar.indexCast v23
  let c391_1114 : Index := 391#32
  let c640_1115 : Index := 640#32
  ![v2056.toNat, 391, 640]
def k0_off236 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2063 : Index := Scalar.indexCast v23
  let c392_1118 : Index := 392#32
  let c640_1119 : Index := 640#32
  ![v2063.toNat, 392, 640]
def k0_off237 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2070 : Index := Scalar.indexCast v23
  let c393_1122 : Index := 393#32
  let c640_1123 : Index := 640#32
  ![v2070.toNat, 393, 640]
def k0_off238 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2077 : Index := Scalar.indexCast v23
  let c394_1126 : Index := 394#32
  let c640_1127 : Index := 640#32
  ![v2077.toNat, 394, 640]
def k0_off239 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2090 : Index := Scalar.indexCast v23
  let c454_1134 : Index := 454#32
  let c640_1135 : Index := 640#32
  ![v2090.toNat, 454, 640]
def k0_off240 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2098 : Index := Scalar.indexCast v23
  let c455_1138 : Index := 455#32
  let c640_1139 : Index := 640#32
  ![v2098.toNat, 455, 640]
def k0_off241 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2105 : Index := Scalar.indexCast v23
  let c456_1142 : Index := 456#32
  let c640_1143 : Index := 640#32
  ![v2105.toNat, 456, 640]
def k0_off242 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2112 : Index := Scalar.indexCast v23
  let c457_1146 : Index := 457#32
  let c640_1147 : Index := 640#32
  ![v2112.toNat, 457, 640]
def k0_off243 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2119 : Index := Scalar.indexCast v23
  let c458_1150 : Index := 458#32
  let c640_1151 : Index := 640#32
  ![v2119.toNat, 458, 640]
def k0_off244 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2132 : Index := Scalar.indexCast v23
  let c6_1157 : Index := 6#32
  let c768_1158 : Index := 768#32
  ![v2132.toNat, 6, 768]
def k0_off245 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2140 : Index := Scalar.indexCast v23
  let c7_1161 : Index := 7#32
  let c768_1162 : Index := 768#32
  ![v2140.toNat, 7, 768]
def k0_off246 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2147 : Index := Scalar.indexCast v23
  let c8_1165 : Index := 8#32
  let c768_1166 : Index := 768#32
  ![v2147.toNat, 8, 768]
def k0_off247 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2154 : Index := Scalar.indexCast v23
  let c9_1169 : Index := 9#32
  let c768_1170 : Index := 768#32
  ![v2154.toNat, 9, 768]
def k0_off248 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2161 : Index := Scalar.indexCast v23
  let c10_1173 : Index := 10#32
  let c768_1174 : Index := 768#32
  ![v2161.toNat, 10, 768]
def k0_off249 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2174 : Index := Scalar.indexCast v23
  let c70_1181 : Index := 70#32
  let c768_1182 : Index := 768#32
  ![v2174.toNat, 70, 768]
def k0_off250 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2182 : Index := Scalar.indexCast v23
  let c71_1185 : Index := 71#32
  let c768_1186 : Index := 768#32
  ![v2182.toNat, 71, 768]
def k0_off251 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2189 : Index := Scalar.indexCast v23
  let c72_1189 : Index := 72#32
  let c768_1190 : Index := 768#32
  ![v2189.toNat, 72, 768]
def k0_off252 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2196 : Index := Scalar.indexCast v23
  let c73_1193 : Index := 73#32
  let c768_1194 : Index := 768#32
  ![v2196.toNat, 73, 768]
def k0_off253 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2203 : Index := Scalar.indexCast v23
  let c74_1197 : Index := 74#32
  let c768_1198 : Index := 768#32
  ![v2203.toNat, 74, 768]
def k0_off254 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2216 : Index := Scalar.indexCast v23
  let c134_1205 : Index := 134#32
  let c768_1206 : Index := 768#32
  ![v2216.toNat, 134, 768]
def k0_off255 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2224 : Index := Scalar.indexCast v23
  let c135_1209 : Index := 135#32
  let c768_1210 : Index := 768#32
  ![v2224.toNat, 135, 768]
def k0_off256 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2231 : Index := Scalar.indexCast v23
  let c136_1213 : Index := 136#32
  let c768_1214 : Index := 768#32
  ![v2231.toNat, 136, 768]
def k0_off257 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2238 : Index := Scalar.indexCast v23
  let c137_1217 : Index := 137#32
  let c768_1218 : Index := 768#32
  ![v2238.toNat, 137, 768]
def k0_off258 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2245 : Index := Scalar.indexCast v23
  let c138_1221 : Index := 138#32
  let c768_1222 : Index := 768#32
  ![v2245.toNat, 138, 768]
def k0_off259 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2258 : Index := Scalar.indexCast v23
  let c198_1229 : Index := 198#32
  let c768_1230 : Index := 768#32
  ![v2258.toNat, 198, 768]
def k0_off260 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2266 : Index := Scalar.indexCast v23
  let c199_1233 : Index := 199#32
  let c768_1234 : Index := 768#32
  ![v2266.toNat, 199, 768]
def k0_off261 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2273 : Index := Scalar.indexCast v23
  let c200_1237 : Index := 200#32
  let c768_1238 : Index := 768#32
  ![v2273.toNat, 200, 768]
def k0_off262 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2280 : Index := Scalar.indexCast v23
  let c201_1241 : Index := 201#32
  let c768_1242 : Index := 768#32
  ![v2280.toNat, 201, 768]
def k0_off263 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2287 : Index := Scalar.indexCast v23
  let c202_1245 : Index := 202#32
  let c768_1246 : Index := 768#32
  ![v2287.toNat, 202, 768]
def k0_off264 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2300 : Index := Scalar.indexCast v23
  let c262_1253 : Index := 262#32
  let c768_1254 : Index := 768#32
  ![v2300.toNat, 262, 768]
def k0_off265 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2308 : Index := Scalar.indexCast v23
  let c263_1257 : Index := 263#32
  let c768_1258 : Index := 768#32
  ![v2308.toNat, 263, 768]
def k0_off266 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2315 : Index := Scalar.indexCast v23
  let c264_1261 : Index := 264#32
  let c768_1262 : Index := 768#32
  ![v2315.toNat, 264, 768]
def k0_off267 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2322 : Index := Scalar.indexCast v23
  let c265_1265 : Index := 265#32
  let c768_1266 : Index := 768#32
  ![v2322.toNat, 265, 768]
def k0_off268 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2329 : Index := Scalar.indexCast v23
  let c266_1269 : Index := 266#32
  let c768_1270 : Index := 768#32
  ![v2329.toNat, 266, 768]
def k0_off269 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2342 : Index := Scalar.indexCast v23
  let c326_1277 : Index := 326#32
  let c768_1278 : Index := 768#32
  ![v2342.toNat, 326, 768]
def k0_off270 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2350 : Index := Scalar.indexCast v23
  let c327_1281 : Index := 327#32
  let c768_1282 : Index := 768#32
  ![v2350.toNat, 327, 768]
def k0_off271 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2357 : Index := Scalar.indexCast v23
  let c328_1285 : Index := 328#32
  let c768_1286 : Index := 768#32
  ![v2357.toNat, 328, 768]
def k0_off272 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2364 : Index := Scalar.indexCast v23
  let c329_1289 : Index := 329#32
  let c768_1290 : Index := 768#32
  ![v2364.toNat, 329, 768]
def k0_off273 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2371 : Index := Scalar.indexCast v23
  let c330_1293 : Index := 330#32
  let c768_1294 : Index := 768#32
  ![v2371.toNat, 330, 768]
def k0_off274 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2384 : Index := Scalar.indexCast v23
  let c390_1301 : Index := 390#32
  let c768_1302 : Index := 768#32
  ![v2384.toNat, 390, 768]
def k0_off275 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2392 : Index := Scalar.indexCast v23
  let c391_1305 : Index := 391#32
  let c768_1306 : Index := 768#32
  ![v2392.toNat, 391, 768]
def k0_off276 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2399 : Index := Scalar.indexCast v23
  let c392_1309 : Index := 392#32
  let c768_1310 : Index := 768#32
  ![v2399.toNat, 392, 768]
def k0_off277 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2406 : Index := Scalar.indexCast v23
  let c393_1313 : Index := 393#32
  let c768_1314 : Index := 768#32
  ![v2406.toNat, 393, 768]
def k0_off278 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2413 : Index := Scalar.indexCast v23
  let c394_1317 : Index := 394#32
  let c768_1318 : Index := 768#32
  ![v2413.toNat, 394, 768]
def k0_off279 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2426 : Index := Scalar.indexCast v23
  let c454_1325 : Index := 454#32
  let c768_1326 : Index := 768#32
  ![v2426.toNat, 454, 768]
def k0_off280 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2434 : Index := Scalar.indexCast v23
  let c455_1329 : Index := 455#32
  let c768_1330 : Index := 768#32
  ![v2434.toNat, 455, 768]
def k0_off281 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2441 : Index := Scalar.indexCast v23
  let c456_1333 : Index := 456#32
  let c768_1334 : Index := 768#32
  ![v2441.toNat, 456, 768]
def k0_off282 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2448 : Index := Scalar.indexCast v23
  let c457_1337 : Index := 457#32
  let c768_1338 : Index := 768#32
  ![v2448.toNat, 457, 768]
def k0_off283 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2455 : Index := Scalar.indexCast v23
  let c458_1341 : Index := 458#32
  let c768_1342 : Index := 768#32
  ![v2455.toNat, 458, 768]
def k0_off284 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2468 : Index := Scalar.indexCast v23
  let c6_1348 : Index := 6#32
  let c896_1349 : Index := 896#32
  ![v2468.toNat, 6, 896]
def k0_off285 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2476 : Index := Scalar.indexCast v23
  let c7_1352 : Index := 7#32
  let c896_1353 : Index := 896#32
  ![v2476.toNat, 7, 896]
def k0_off286 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2483 : Index := Scalar.indexCast v23
  let c8_1356 : Index := 8#32
  let c896_1357 : Index := 896#32
  ![v2483.toNat, 8, 896]
def k0_off287 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2490 : Index := Scalar.indexCast v23
  let c9_1360 : Index := 9#32
  let c896_1361 : Index := 896#32
  ![v2490.toNat, 9, 896]
def k0_off288 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2497 : Index := Scalar.indexCast v23
  let c10_1364 : Index := 10#32
  let c896_1365 : Index := 896#32
  ![v2497.toNat, 10, 896]
def k0_off289 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2510 : Index := Scalar.indexCast v23
  let c70_1372 : Index := 70#32
  let c896_1373 : Index := 896#32
  ![v2510.toNat, 70, 896]
def k0_off290 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2518 : Index := Scalar.indexCast v23
  let c71_1376 : Index := 71#32
  let c896_1377 : Index := 896#32
  ![v2518.toNat, 71, 896]
def k0_off291 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2525 : Index := Scalar.indexCast v23
  let c72_1380 : Index := 72#32
  let c896_1381 : Index := 896#32
  ![v2525.toNat, 72, 896]
def k0_off292 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2532 : Index := Scalar.indexCast v23
  let c73_1384 : Index := 73#32
  let c896_1385 : Index := 896#32
  ![v2532.toNat, 73, 896]
def k0_off293 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2539 : Index := Scalar.indexCast v23
  let c74_1388 : Index := 74#32
  let c896_1389 : Index := 896#32
  ![v2539.toNat, 74, 896]
def k0_off294 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2552 : Index := Scalar.indexCast v23
  let c134_1396 : Index := 134#32
  let c896_1397 : Index := 896#32
  ![v2552.toNat, 134, 896]
def k0_off295 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2560 : Index := Scalar.indexCast v23
  let c135_1400 : Index := 135#32
  let c896_1401 : Index := 896#32
  ![v2560.toNat, 135, 896]
def k0_off296 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2567 : Index := Scalar.indexCast v23
  let c136_1404 : Index := 136#32
  let c896_1405 : Index := 896#32
  ![v2567.toNat, 136, 896]
def k0_off297 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2574 : Index := Scalar.indexCast v23
  let c137_1408 : Index := 137#32
  let c896_1409 : Index := 896#32
  ![v2574.toNat, 137, 896]
def k0_off298 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2581 : Index := Scalar.indexCast v23
  let c138_1412 : Index := 138#32
  let c896_1413 : Index := 896#32
  ![v2581.toNat, 138, 896]
def k0_off299 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2594 : Index := Scalar.indexCast v23
  let c198_1420 : Index := 198#32
  let c896_1421 : Index := 896#32
  ![v2594.toNat, 198, 896]
def k0_off300 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2602 : Index := Scalar.indexCast v23
  let c199_1424 : Index := 199#32
  let c896_1425 : Index := 896#32
  ![v2602.toNat, 199, 896]
def k0_off301 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2609 : Index := Scalar.indexCast v23
  let c200_1428 : Index := 200#32
  let c896_1429 : Index := 896#32
  ![v2609.toNat, 200, 896]
def k0_off302 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2616 : Index := Scalar.indexCast v23
  let c201_1432 : Index := 201#32
  let c896_1433 : Index := 896#32
  ![v2616.toNat, 201, 896]
def k0_off303 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2623 : Index := Scalar.indexCast v23
  let c202_1436 : Index := 202#32
  let c896_1437 : Index := 896#32
  ![v2623.toNat, 202, 896]
def k0_off304 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2636 : Index := Scalar.indexCast v23
  let c262_1444 : Index := 262#32
  let c896_1445 : Index := 896#32
  ![v2636.toNat, 262, 896]
def k0_off305 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2644 : Index := Scalar.indexCast v23
  let c263_1448 : Index := 263#32
  let c896_1449 : Index := 896#32
  ![v2644.toNat, 263, 896]
def k0_off306 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2651 : Index := Scalar.indexCast v23
  let c264_1452 : Index := 264#32
  let c896_1453 : Index := 896#32
  ![v2651.toNat, 264, 896]
def k0_off307 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2658 : Index := Scalar.indexCast v23
  let c265_1456 : Index := 265#32
  let c896_1457 : Index := 896#32
  ![v2658.toNat, 265, 896]
def k0_off308 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2665 : Index := Scalar.indexCast v23
  let c266_1460 : Index := 266#32
  let c896_1461 : Index := 896#32
  ![v2665.toNat, 266, 896]
def k0_off309 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2678 : Index := Scalar.indexCast v23
  let c326_1468 : Index := 326#32
  let c896_1469 : Index := 896#32
  ![v2678.toNat, 326, 896]
def k0_off310 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2686 : Index := Scalar.indexCast v23
  let c327_1472 : Index := 327#32
  let c896_1473 : Index := 896#32
  ![v2686.toNat, 327, 896]
def k0_off311 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2693 : Index := Scalar.indexCast v23
  let c328_1476 : Index := 328#32
  let c896_1477 : Index := 896#32
  ![v2693.toNat, 328, 896]
def k0_off312 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2700 : Index := Scalar.indexCast v23
  let c329_1480 : Index := 329#32
  let c896_1481 : Index := 896#32
  ![v2700.toNat, 329, 896]
def k0_off313 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2707 : Index := Scalar.indexCast v23
  let c330_1484 : Index := 330#32
  let c896_1485 : Index := 896#32
  ![v2707.toNat, 330, 896]
def k0_off314 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2720 : Index := Scalar.indexCast v23
  let c390_1492 : Index := 390#32
  let c896_1493 : Index := 896#32
  ![v2720.toNat, 390, 896]
def k0_off315 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2728 : Index := Scalar.indexCast v23
  let c391_1496 : Index := 391#32
  let c896_1497 : Index := 896#32
  ![v2728.toNat, 391, 896]
def k0_off316 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2735 : Index := Scalar.indexCast v23
  let c392_1500 : Index := 392#32
  let c896_1501 : Index := 896#32
  ![v2735.toNat, 392, 896]
def k0_off317 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2742 : Index := Scalar.indexCast v23
  let c393_1504 : Index := 393#32
  let c896_1505 : Index := 896#32
  ![v2742.toNat, 393, 896]
def k0_off318 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2749 : Index := Scalar.indexCast v23
  let c394_1508 : Index := 394#32
  let c896_1509 : Index := 896#32
  ![v2749.toNat, 394, 896]
def k0_off319 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2762 : Index := Scalar.indexCast v23
  let c454_1516 : Index := 454#32
  let c896_1517 : Index := 896#32
  ![v2762.toNat, 454, 896]
def k0_off320 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2770 : Index := Scalar.indexCast v23
  let c455_1520 : Index := 455#32
  let c896_1521 : Index := 896#32
  ![v2770.toNat, 455, 896]
def k0_off321 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2777 : Index := Scalar.indexCast v23
  let c456_1524 : Index := 456#32
  let c896_1525 : Index := 896#32
  ![v2777.toNat, 456, 896]
def k0_off322 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2784 : Index := Scalar.indexCast v23
  let c457_1528 : Index := 457#32
  let c896_1529 : Index := 896#32
  ![v2784.toNat, 457, 896]
def k0_off323 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2791 : Index := Scalar.indexCast v23
  let c458_1532 : Index := 458#32
  let c896_1533 : Index := 896#32
  ![v2791.toNat, 458, 896]
def k0_off324 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2804 : Index := Scalar.indexCast v23
  let c6_1540 : Index := 6#32
  let c1024_1541 : Index := 1024#32
  ![v2804.toNat, 6, 1024]
def k0_off325 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2812 : Index := Scalar.indexCast v23
  let c7_1544 : Index := 7#32
  let c1024_1545 : Index := 1024#32
  ![v2812.toNat, 7, 1024]
def k0_off326 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2819 : Index := Scalar.indexCast v23
  let c8_1548 : Index := 8#32
  let c1024_1549 : Index := 1024#32
  ![v2819.toNat, 8, 1024]
def k0_off327 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2826 : Index := Scalar.indexCast v23
  let c9_1552 : Index := 9#32
  let c1024_1553 : Index := 1024#32
  ![v2826.toNat, 9, 1024]
def k0_off328 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2833 : Index := Scalar.indexCast v23
  let c10_1556 : Index := 10#32
  let c1024_1557 : Index := 1024#32
  ![v2833.toNat, 10, 1024]
def k0_off329 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2846 : Index := Scalar.indexCast v23
  let c70_1564 : Index := 70#32
  let c1024_1565 : Index := 1024#32
  ![v2846.toNat, 70, 1024]
def k0_off330 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2854 : Index := Scalar.indexCast v23
  let c71_1568 : Index := 71#32
  let c1024_1569 : Index := 1024#32
  ![v2854.toNat, 71, 1024]
def k0_off331 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2861 : Index := Scalar.indexCast v23
  let c72_1572 : Index := 72#32
  let c1024_1573 : Index := 1024#32
  ![v2861.toNat, 72, 1024]
def k0_off332 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2868 : Index := Scalar.indexCast v23
  let c73_1576 : Index := 73#32
  let c1024_1577 : Index := 1024#32
  ![v2868.toNat, 73, 1024]
def k0_off333 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2875 : Index := Scalar.indexCast v23
  let c74_1580 : Index := 74#32
  let c1024_1581 : Index := 1024#32
  ![v2875.toNat, 74, 1024]
def k0_off334 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2888 : Index := Scalar.indexCast v23
  let c134_1588 : Index := 134#32
  let c1024_1589 : Index := 1024#32
  ![v2888.toNat, 134, 1024]
def k0_off335 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2896 : Index := Scalar.indexCast v23
  let c135_1592 : Index := 135#32
  let c1024_1593 : Index := 1024#32
  ![v2896.toNat, 135, 1024]
def k0_off336 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2903 : Index := Scalar.indexCast v23
  let c136_1596 : Index := 136#32
  let c1024_1597 : Index := 1024#32
  ![v2903.toNat, 136, 1024]
def k0_off337 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2910 : Index := Scalar.indexCast v23
  let c137_1600 : Index := 137#32
  let c1024_1601 : Index := 1024#32
  ![v2910.toNat, 137, 1024]
def k0_off338 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2917 : Index := Scalar.indexCast v23
  let c138_1604 : Index := 138#32
  let c1024_1605 : Index := 1024#32
  ![v2917.toNat, 138, 1024]
def k0_off339 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2930 : Index := Scalar.indexCast v23
  let c198_1612 : Index := 198#32
  let c1024_1613 : Index := 1024#32
  ![v2930.toNat, 198, 1024]
def k0_off340 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2938 : Index := Scalar.indexCast v23
  let c199_1616 : Index := 199#32
  let c1024_1617 : Index := 1024#32
  ![v2938.toNat, 199, 1024]
def k0_off341 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2945 : Index := Scalar.indexCast v23
  let c200_1620 : Index := 200#32
  let c1024_1621 : Index := 1024#32
  ![v2945.toNat, 200, 1024]
def k0_off342 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2952 : Index := Scalar.indexCast v23
  let c201_1624 : Index := 201#32
  let c1024_1625 : Index := 1024#32
  ![v2952.toNat, 201, 1024]
def k0_off343 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2959 : Index := Scalar.indexCast v23
  let c202_1628 : Index := 202#32
  let c1024_1629 : Index := 1024#32
  ![v2959.toNat, 202, 1024]
def k0_off344 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2972 : Index := Scalar.indexCast v23
  let c262_1636 : Index := 262#32
  let c1024_1637 : Index := 1024#32
  ![v2972.toNat, 262, 1024]
def k0_off345 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2980 : Index := Scalar.indexCast v23
  let c263_1640 : Index := 263#32
  let c1024_1641 : Index := 1024#32
  ![v2980.toNat, 263, 1024]
def k0_off346 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2987 : Index := Scalar.indexCast v23
  let c264_1644 : Index := 264#32
  let c1024_1645 : Index := 1024#32
  ![v2987.toNat, 264, 1024]
def k0_off347 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v2994 : Index := Scalar.indexCast v23
  let c265_1648 : Index := 265#32
  let c1024_1649 : Index := 1024#32
  ![v2994.toNat, 265, 1024]
def k0_off348 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3001 : Index := Scalar.indexCast v23
  let c266_1652 : Index := 266#32
  let c1024_1653 : Index := 1024#32
  ![v3001.toNat, 266, 1024]
def k0_off349 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3014 : Index := Scalar.indexCast v23
  let c326_1660 : Index := 326#32
  let c1024_1661 : Index := 1024#32
  ![v3014.toNat, 326, 1024]
def k0_off350 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3022 : Index := Scalar.indexCast v23
  let c327_1664 : Index := 327#32
  let c1024_1665 : Index := 1024#32
  ![v3022.toNat, 327, 1024]
def k0_off351 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3029 : Index := Scalar.indexCast v23
  let c328_1668 : Index := 328#32
  let c1024_1669 : Index := 1024#32
  ![v3029.toNat, 328, 1024]
def k0_off352 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3036 : Index := Scalar.indexCast v23
  let c329_1672 : Index := 329#32
  let c1024_1673 : Index := 1024#32
  ![v3036.toNat, 329, 1024]
def k0_off353 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3043 : Index := Scalar.indexCast v23
  let c330_1676 : Index := 330#32
  let c1024_1677 : Index := 1024#32
  ![v3043.toNat, 330, 1024]
def k0_off354 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3056 : Index := Scalar.indexCast v23
  let c390_1684 : Index := 390#32
  let c1024_1685 : Index := 1024#32
  ![v3056.toNat, 390, 1024]
def k0_off355 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3064 : Index := Scalar.indexCast v23
  let c391_1688 : Index := 391#32
  let c1024_1689 : Index := 1024#32
  ![v3064.toNat, 391, 1024]
def k0_off356 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3071 : Index := Scalar.indexCast v23
  let c392_1692 : Index := 392#32
  let c1024_1693 : Index := 1024#32
  ![v3071.toNat, 392, 1024]
def k0_off357 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3078 : Index := Scalar.indexCast v23
  let c393_1696 : Index := 393#32
  let c1024_1697 : Index := 1024#32
  ![v3078.toNat, 393, 1024]
def k0_off358 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3085 : Index := Scalar.indexCast v23
  let c394_1700 : Index := 394#32
  let c1024_1701 : Index := 1024#32
  ![v3085.toNat, 394, 1024]
def k0_off359 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3098 : Index := Scalar.indexCast v23
  let c454_1708 : Index := 454#32
  let c1024_1709 : Index := 1024#32
  ![v3098.toNat, 454, 1024]
def k0_off360 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3106 : Index := Scalar.indexCast v23
  let c455_1712 : Index := 455#32
  let c1024_1713 : Index := 1024#32
  ![v3106.toNat, 455, 1024]
def k0_off361 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3113 : Index := Scalar.indexCast v23
  let c456_1716 : Index := 456#32
  let c1024_1717 : Index := 1024#32
  ![v3113.toNat, 456, 1024]
def k0_off362 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3120 : Index := Scalar.indexCast v23
  let c457_1720 : Index := 457#32
  let c1024_1721 : Index := 1024#32
  ![v3120.toNat, 457, 1024]
def k0_off363 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3127 : Index := Scalar.indexCast v23
  let c458_1724 : Index := 458#32
  let c1024_1725 : Index := 1024#32
  ![v3127.toNat, 458, 1024]
def k0_off364 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3140 : Index := Scalar.indexCast v23
  let c6_1731 : Index := 6#32
  let c1152_1732 : Index := 1152#32
  ![v3140.toNat, 6, 1152]
def k0_off365 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3148 : Index := Scalar.indexCast v23
  let c7_1735 : Index := 7#32
  let c1152_1736 : Index := 1152#32
  ![v3148.toNat, 7, 1152]
def k0_off366 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3155 : Index := Scalar.indexCast v23
  let c8_1739 : Index := 8#32
  let c1152_1740 : Index := 1152#32
  ![v3155.toNat, 8, 1152]
def k0_off367 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3162 : Index := Scalar.indexCast v23
  let c9_1743 : Index := 9#32
  let c1152_1744 : Index := 1152#32
  ![v3162.toNat, 9, 1152]
def k0_off368 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3169 : Index := Scalar.indexCast v23
  let c10_1747 : Index := 10#32
  let c1152_1748 : Index := 1152#32
  ![v3169.toNat, 10, 1152]
def k0_off369 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3182 : Index := Scalar.indexCast v23
  let c70_1755 : Index := 70#32
  let c1152_1756 : Index := 1152#32
  ![v3182.toNat, 70, 1152]
def k0_off370 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3190 : Index := Scalar.indexCast v23
  let c71_1759 : Index := 71#32
  let c1152_1760 : Index := 1152#32
  ![v3190.toNat, 71, 1152]
def k0_off371 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3197 : Index := Scalar.indexCast v23
  let c72_1763 : Index := 72#32
  let c1152_1764 : Index := 1152#32
  ![v3197.toNat, 72, 1152]
def k0_off372 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3204 : Index := Scalar.indexCast v23
  let c73_1767 : Index := 73#32
  let c1152_1768 : Index := 1152#32
  ![v3204.toNat, 73, 1152]
def k0_off373 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3211 : Index := Scalar.indexCast v23
  let c74_1771 : Index := 74#32
  let c1152_1772 : Index := 1152#32
  ![v3211.toNat, 74, 1152]
def k0_off374 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3224 : Index := Scalar.indexCast v23
  let c134_1779 : Index := 134#32
  let c1152_1780 : Index := 1152#32
  ![v3224.toNat, 134, 1152]
def k0_off375 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3232 : Index := Scalar.indexCast v23
  let c135_1783 : Index := 135#32
  let c1152_1784 : Index := 1152#32
  ![v3232.toNat, 135, 1152]
def k0_off376 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3239 : Index := Scalar.indexCast v23
  let c136_1787 : Index := 136#32
  let c1152_1788 : Index := 1152#32
  ![v3239.toNat, 136, 1152]
def k0_off377 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3246 : Index := Scalar.indexCast v23
  let c137_1791 : Index := 137#32
  let c1152_1792 : Index := 1152#32
  ![v3246.toNat, 137, 1152]
def k0_off378 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3253 : Index := Scalar.indexCast v23
  let c138_1795 : Index := 138#32
  let c1152_1796 : Index := 1152#32
  ![v3253.toNat, 138, 1152]
def k0_off379 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3266 : Index := Scalar.indexCast v23
  let c198_1803 : Index := 198#32
  let c1152_1804 : Index := 1152#32
  ![v3266.toNat, 198, 1152]
def k0_off380 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3274 : Index := Scalar.indexCast v23
  let c199_1807 : Index := 199#32
  let c1152_1808 : Index := 1152#32
  ![v3274.toNat, 199, 1152]
def k0_off381 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3281 : Index := Scalar.indexCast v23
  let c200_1811 : Index := 200#32
  let c1152_1812 : Index := 1152#32
  ![v3281.toNat, 200, 1152]
def k0_off382 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3288 : Index := Scalar.indexCast v23
  let c201_1815 : Index := 201#32
  let c1152_1816 : Index := 1152#32
  ![v3288.toNat, 201, 1152]
def k0_off383 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3295 : Index := Scalar.indexCast v23
  let c202_1819 : Index := 202#32
  let c1152_1820 : Index := 1152#32
  ![v3295.toNat, 202, 1152]
def k0_off384 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3308 : Index := Scalar.indexCast v23
  let c262_1827 : Index := 262#32
  let c1152_1828 : Index := 1152#32
  ![v3308.toNat, 262, 1152]
def k0_off385 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3316 : Index := Scalar.indexCast v23
  let c263_1831 : Index := 263#32
  let c1152_1832 : Index := 1152#32
  ![v3316.toNat, 263, 1152]
def k0_off386 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3323 : Index := Scalar.indexCast v23
  let c264_1835 : Index := 264#32
  let c1152_1836 : Index := 1152#32
  ![v3323.toNat, 264, 1152]
def k0_off387 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3330 : Index := Scalar.indexCast v23
  let c265_1839 : Index := 265#32
  let c1152_1840 : Index := 1152#32
  ![v3330.toNat, 265, 1152]
def k0_off388 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3337 : Index := Scalar.indexCast v23
  let c266_1843 : Index := 266#32
  let c1152_1844 : Index := 1152#32
  ![v3337.toNat, 266, 1152]
def k0_off389 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3350 : Index := Scalar.indexCast v23
  let c326_1851 : Index := 326#32
  let c1152_1852 : Index := 1152#32
  ![v3350.toNat, 326, 1152]
def k0_off390 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3358 : Index := Scalar.indexCast v23
  let c327_1855 : Index := 327#32
  let c1152_1856 : Index := 1152#32
  ![v3358.toNat, 327, 1152]
def k0_off391 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3365 : Index := Scalar.indexCast v23
  let c328_1859 : Index := 328#32
  let c1152_1860 : Index := 1152#32
  ![v3365.toNat, 328, 1152]
def k0_off392 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3372 : Index := Scalar.indexCast v23
  let c329_1863 : Index := 329#32
  let c1152_1864 : Index := 1152#32
  ![v3372.toNat, 329, 1152]
def k0_off393 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3379 : Index := Scalar.indexCast v23
  let c330_1867 : Index := 330#32
  let c1152_1868 : Index := 1152#32
  ![v3379.toNat, 330, 1152]
def k0_off394 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3392 : Index := Scalar.indexCast v23
  let c390_1875 : Index := 390#32
  let c1152_1876 : Index := 1152#32
  ![v3392.toNat, 390, 1152]
def k0_off395 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3400 : Index := Scalar.indexCast v23
  let c391_1879 : Index := 391#32
  let c1152_1880 : Index := 1152#32
  ![v3400.toNat, 391, 1152]
def k0_off396 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3407 : Index := Scalar.indexCast v23
  let c392_1883 : Index := 392#32
  let c1152_1884 : Index := 1152#32
  ![v3407.toNat, 392, 1152]
def k0_off397 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3414 : Index := Scalar.indexCast v23
  let c393_1887 : Index := 393#32
  let c1152_1888 : Index := 1152#32
  ![v3414.toNat, 393, 1152]
def k0_off398 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3421 : Index := Scalar.indexCast v23
  let c394_1891 : Index := 394#32
  let c1152_1892 : Index := 1152#32
  ![v3421.toNat, 394, 1152]
def k0_off399 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3434 : Index := Scalar.indexCast v23
  let c454_1899 : Index := 454#32
  let c1152_1900 : Index := 1152#32
  ![v3434.toNat, 454, 1152]
def k0_off400 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3442 : Index := Scalar.indexCast v23
  let c455_1903 : Index := 455#32
  let c1152_1904 : Index := 1152#32
  ![v3442.toNat, 455, 1152]
def k0_off401 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3449 : Index := Scalar.indexCast v23
  let c456_1907 : Index := 456#32
  let c1152_1908 : Index := 1152#32
  ![v3449.toNat, 456, 1152]
def k0_off402 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3456 : Index := Scalar.indexCast v23
  let c457_1911 : Index := 457#32
  let c1152_1912 : Index := 1152#32
  ![v3456.toNat, 457, 1152]
def k0_off403 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3463 : Index := Scalar.indexCast v23
  let c458_1915 : Index := 458#32
  let c1152_1916 : Index := 1152#32
  ![v3463.toNat, 458, 1152]
def k0_off404 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3476 : Index := Scalar.indexCast v23
  let c6_1923 : Index := 6#32
  let c1280_1924 : Index := 1280#32
  ![v3476.toNat, 6, 1280]
def k0_off405 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3484 : Index := Scalar.indexCast v23
  let c7_1927 : Index := 7#32
  let c1280_1928 : Index := 1280#32
  ![v3484.toNat, 7, 1280]
def k0_off406 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3491 : Index := Scalar.indexCast v23
  let c8_1931 : Index := 8#32
  let c1280_1932 : Index := 1280#32
  ![v3491.toNat, 8, 1280]
def k0_off407 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3498 : Index := Scalar.indexCast v23
  let c9_1935 : Index := 9#32
  let c1280_1936 : Index := 1280#32
  ![v3498.toNat, 9, 1280]
def k0_off408 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3505 : Index := Scalar.indexCast v23
  let c10_1939 : Index := 10#32
  let c1280_1940 : Index := 1280#32
  ![v3505.toNat, 10, 1280]
def k0_off409 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3518 : Index := Scalar.indexCast v23
  let c70_1947 : Index := 70#32
  let c1280_1948 : Index := 1280#32
  ![v3518.toNat, 70, 1280]
def k0_off410 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3526 : Index := Scalar.indexCast v23
  let c71_1951 : Index := 71#32
  let c1280_1952 : Index := 1280#32
  ![v3526.toNat, 71, 1280]
def k0_off411 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3533 : Index := Scalar.indexCast v23
  let c72_1955 : Index := 72#32
  let c1280_1956 : Index := 1280#32
  ![v3533.toNat, 72, 1280]
def k0_off412 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3540 : Index := Scalar.indexCast v23
  let c73_1959 : Index := 73#32
  let c1280_1960 : Index := 1280#32
  ![v3540.toNat, 73, 1280]
def k0_off413 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3547 : Index := Scalar.indexCast v23
  let c74_1963 : Index := 74#32
  let c1280_1964 : Index := 1280#32
  ![v3547.toNat, 74, 1280]
def k0_off414 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3560 : Index := Scalar.indexCast v23
  let c134_1971 : Index := 134#32
  let c1280_1972 : Index := 1280#32
  ![v3560.toNat, 134, 1280]
def k0_off415 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3568 : Index := Scalar.indexCast v23
  let c135_1975 : Index := 135#32
  let c1280_1976 : Index := 1280#32
  ![v3568.toNat, 135, 1280]
def k0_off416 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3575 : Index := Scalar.indexCast v23
  let c136_1979 : Index := 136#32
  let c1280_1980 : Index := 1280#32
  ![v3575.toNat, 136, 1280]
def k0_off417 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3582 : Index := Scalar.indexCast v23
  let c137_1983 : Index := 137#32
  let c1280_1984 : Index := 1280#32
  ![v3582.toNat, 137, 1280]
def k0_off418 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3589 : Index := Scalar.indexCast v23
  let c138_1987 : Index := 138#32
  let c1280_1988 : Index := 1280#32
  ![v3589.toNat, 138, 1280]
def k0_off419 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3602 : Index := Scalar.indexCast v23
  let c198_1995 : Index := 198#32
  let c1280_1996 : Index := 1280#32
  ![v3602.toNat, 198, 1280]
def k0_off420 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3610 : Index := Scalar.indexCast v23
  let c199_1999 : Index := 199#32
  let c1280_2000 : Index := 1280#32
  ![v3610.toNat, 199, 1280]
def k0_off421 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3617 : Index := Scalar.indexCast v23
  let c200_2003 : Index := 200#32
  let c1280_2004 : Index := 1280#32
  ![v3617.toNat, 200, 1280]
def k0_off422 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3624 : Index := Scalar.indexCast v23
  let c201_2007 : Index := 201#32
  let c1280_2008 : Index := 1280#32
  ![v3624.toNat, 201, 1280]
def k0_off423 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3631 : Index := Scalar.indexCast v23
  let c202_2011 : Index := 202#32
  let c1280_2012 : Index := 1280#32
  ![v3631.toNat, 202, 1280]
def k0_off424 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3644 : Index := Scalar.indexCast v23
  let c262_2019 : Index := 262#32
  let c1280_2020 : Index := 1280#32
  ![v3644.toNat, 262, 1280]
def k0_off425 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3652 : Index := Scalar.indexCast v23
  let c263_2023 : Index := 263#32
  let c1280_2024 : Index := 1280#32
  ![v3652.toNat, 263, 1280]
def k0_off426 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3659 : Index := Scalar.indexCast v23
  let c264_2027 : Index := 264#32
  let c1280_2028 : Index := 1280#32
  ![v3659.toNat, 264, 1280]
def k0_off427 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3666 : Index := Scalar.indexCast v23
  let c265_2031 : Index := 265#32
  let c1280_2032 : Index := 1280#32
  ![v3666.toNat, 265, 1280]
def k0_off428 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3673 : Index := Scalar.indexCast v23
  let c266_2035 : Index := 266#32
  let c1280_2036 : Index := 1280#32
  ![v3673.toNat, 266, 1280]
def k0_off429 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3686 : Index := Scalar.indexCast v23
  let c326_2043 : Index := 326#32
  let c1280_2044 : Index := 1280#32
  ![v3686.toNat, 326, 1280]
def k0_off430 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3694 : Index := Scalar.indexCast v23
  let c327_2047 : Index := 327#32
  let c1280_2048 : Index := 1280#32
  ![v3694.toNat, 327, 1280]
def k0_off431 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3701 : Index := Scalar.indexCast v23
  let c328_2051 : Index := 328#32
  let c1280_2052 : Index := 1280#32
  ![v3701.toNat, 328, 1280]
def k0_off432 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3708 : Index := Scalar.indexCast v23
  let c329_2055 : Index := 329#32
  let c1280_2056 : Index := 1280#32
  ![v3708.toNat, 329, 1280]
def k0_off433 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3715 : Index := Scalar.indexCast v23
  let c330_2059 : Index := 330#32
  let c1280_2060 : Index := 1280#32
  ![v3715.toNat, 330, 1280]
def k0_off434 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3728 : Index := Scalar.indexCast v23
  let c390_2067 : Index := 390#32
  let c1280_2068 : Index := 1280#32
  ![v3728.toNat, 390, 1280]
def k0_off435 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3736 : Index := Scalar.indexCast v23
  let c391_2071 : Index := 391#32
  let c1280_2072 : Index := 1280#32
  ![v3736.toNat, 391, 1280]
def k0_off436 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3743 : Index := Scalar.indexCast v23
  let c392_2075 : Index := 392#32
  let c1280_2076 : Index := 1280#32
  ![v3743.toNat, 392, 1280]
def k0_off437 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3750 : Index := Scalar.indexCast v23
  let c393_2079 : Index := 393#32
  let c1280_2080 : Index := 1280#32
  ![v3750.toNat, 393, 1280]
def k0_off438 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3757 : Index := Scalar.indexCast v23
  let c394_2083 : Index := 394#32
  let c1280_2084 : Index := 1280#32
  ![v3757.toNat, 394, 1280]
def k0_off439 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3770 : Index := Scalar.indexCast v23
  let c454_2091 : Index := 454#32
  let c1280_2092 : Index := 1280#32
  ![v3770.toNat, 454, 1280]
def k0_off440 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3778 : Index := Scalar.indexCast v23
  let c455_2095 : Index := 455#32
  let c1280_2096 : Index := 1280#32
  ![v3778.toNat, 455, 1280]
def k0_off441 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3785 : Index := Scalar.indexCast v23
  let c456_2099 : Index := 456#32
  let c1280_2100 : Index := 1280#32
  ![v3785.toNat, 456, 1280]
def k0_off442 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3792 : Index := Scalar.indexCast v23
  let c457_2103 : Index := 457#32
  let c1280_2104 : Index := 1280#32
  ![v3792.toNat, 457, 1280]
def k0_off443 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3799 : Index := Scalar.indexCast v23
  let c458_2107 : Index := 458#32
  let c1280_2108 : Index := 1280#32
  ![v3799.toNat, 458, 1280]
def k0_off444 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3812 : Index := Scalar.indexCast v23
  let c6_2114 : Index := 6#32
  let c1408_2115 : Index := 1408#32
  ![v3812.toNat, 6, 1408]
def k0_off445 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3820 : Index := Scalar.indexCast v23
  let c7_2118 : Index := 7#32
  let c1408_2119 : Index := 1408#32
  ![v3820.toNat, 7, 1408]
def k0_off446 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3827 : Index := Scalar.indexCast v23
  let c8_2122 : Index := 8#32
  let c1408_2123 : Index := 1408#32
  ![v3827.toNat, 8, 1408]
def k0_off447 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3834 : Index := Scalar.indexCast v23
  let c9_2126 : Index := 9#32
  let c1408_2127 : Index := 1408#32
  ![v3834.toNat, 9, 1408]
def k0_off448 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3841 : Index := Scalar.indexCast v23
  let c10_2130 : Index := 10#32
  let c1408_2131 : Index := 1408#32
  ![v3841.toNat, 10, 1408]
def k0_off449 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3854 : Index := Scalar.indexCast v23
  let c70_2138 : Index := 70#32
  let c1408_2139 : Index := 1408#32
  ![v3854.toNat, 70, 1408]
def k0_off450 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3862 : Index := Scalar.indexCast v23
  let c71_2142 : Index := 71#32
  let c1408_2143 : Index := 1408#32
  ![v3862.toNat, 71, 1408]
def k0_off451 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3869 : Index := Scalar.indexCast v23
  let c72_2146 : Index := 72#32
  let c1408_2147 : Index := 1408#32
  ![v3869.toNat, 72, 1408]
def k0_off452 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3876 : Index := Scalar.indexCast v23
  let c73_2150 : Index := 73#32
  let c1408_2151 : Index := 1408#32
  ![v3876.toNat, 73, 1408]
def k0_off453 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3883 : Index := Scalar.indexCast v23
  let c74_2154 : Index := 74#32
  let c1408_2155 : Index := 1408#32
  ![v3883.toNat, 74, 1408]
def k0_off454 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3896 : Index := Scalar.indexCast v23
  let c134_2162 : Index := 134#32
  let c1408_2163 : Index := 1408#32
  ![v3896.toNat, 134, 1408]
def k0_off455 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3904 : Index := Scalar.indexCast v23
  let c135_2166 : Index := 135#32
  let c1408_2167 : Index := 1408#32
  ![v3904.toNat, 135, 1408]
def k0_off456 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3911 : Index := Scalar.indexCast v23
  let c136_2170 : Index := 136#32
  let c1408_2171 : Index := 1408#32
  ![v3911.toNat, 136, 1408]
def k0_off457 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3918 : Index := Scalar.indexCast v23
  let c137_2174 : Index := 137#32
  let c1408_2175 : Index := 1408#32
  ![v3918.toNat, 137, 1408]
def k0_off458 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3925 : Index := Scalar.indexCast v23
  let c138_2178 : Index := 138#32
  let c1408_2179 : Index := 1408#32
  ![v3925.toNat, 138, 1408]
def k0_off459 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3938 : Index := Scalar.indexCast v23
  let c198_2186 : Index := 198#32
  let c1408_2187 : Index := 1408#32
  ![v3938.toNat, 198, 1408]
def k0_off460 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3946 : Index := Scalar.indexCast v23
  let c199_2190 : Index := 199#32
  let c1408_2191 : Index := 1408#32
  ![v3946.toNat, 199, 1408]
def k0_off461 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3953 : Index := Scalar.indexCast v23
  let c200_2194 : Index := 200#32
  let c1408_2195 : Index := 1408#32
  ![v3953.toNat, 200, 1408]
def k0_off462 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3960 : Index := Scalar.indexCast v23
  let c201_2198 : Index := 201#32
  let c1408_2199 : Index := 1408#32
  ![v3960.toNat, 201, 1408]
def k0_off463 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3967 : Index := Scalar.indexCast v23
  let c202_2202 : Index := 202#32
  let c1408_2203 : Index := 1408#32
  ![v3967.toNat, 202, 1408]
def k0_off464 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3980 : Index := Scalar.indexCast v23
  let c262_2210 : Index := 262#32
  let c1408_2211 : Index := 1408#32
  ![v3980.toNat, 262, 1408]
def k0_off465 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3988 : Index := Scalar.indexCast v23
  let c263_2214 : Index := 263#32
  let c1408_2215 : Index := 1408#32
  ![v3988.toNat, 263, 1408]
def k0_off466 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v3995 : Index := Scalar.indexCast v23
  let c264_2218 : Index := 264#32
  let c1408_2219 : Index := 1408#32
  ![v3995.toNat, 264, 1408]
def k0_off467 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v4002 : Index := Scalar.indexCast v23
  let c265_2222 : Index := 265#32
  let c1408_2223 : Index := 1408#32
  ![v4002.toNat, 265, 1408]
def k0_off468 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v4009 : Index := Scalar.indexCast v23
  let c266_2226 : Index := 266#32
  let c1408_2227 : Index := 1408#32
  ![v4009.toNat, 266, 1408]
def k0_off469 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v4022 : Index := Scalar.indexCast v23
  let c326_2234 : Index := 326#32
  let c1408_2235 : Index := 1408#32
  ![v4022.toNat, 326, 1408]
def k0_off470 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v4030 : Index := Scalar.indexCast v23
  let c327_2238 : Index := 327#32
  let c1408_2239 : Index := 1408#32
  ![v4030.toNat, 327, 1408]
def k0_off471 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v4037 : Index := Scalar.indexCast v23
  let c328_2242 : Index := 328#32
  let c1408_2243 : Index := 1408#32
  ![v4037.toNat, 328, 1408]
def k0_off472 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v4044 : Index := Scalar.indexCast v23
  let c329_2246 : Index := 329#32
  let c1408_2247 : Index := 1408#32
  ![v4044.toNat, 329, 1408]
def k0_off473 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v4051 : Index := Scalar.indexCast v23
  let c330_2250 : Index := 330#32
  let c1408_2251 : Index := 1408#32
  ![v4051.toNat, 330, 1408]
def k0_off474 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v4064 : Index := Scalar.indexCast v23
  let c390_2258 : Index := 390#32
  let c1408_2259 : Index := 1408#32
  ![v4064.toNat, 390, 1408]
def k0_off475 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v4072 : Index := Scalar.indexCast v23
  let c391_2262 : Index := 391#32
  let c1408_2263 : Index := 1408#32
  ![v4072.toNat, 391, 1408]
def k0_off476 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v4079 : Index := Scalar.indexCast v23
  let c392_2266 : Index := 392#32
  let c1408_2267 : Index := 1408#32
  ![v4079.toNat, 392, 1408]
def k0_off477 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v4086 : Index := Scalar.indexCast v23
  let c393_2270 : Index := 393#32
  let c1408_2271 : Index := 1408#32
  ![v4086.toNat, 393, 1408]
def k0_off478 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v4093 : Index := Scalar.indexCast v23
  let c394_2274 : Index := 394#32
  let c1408_2275 : Index := 1408#32
  ![v4093.toNat, 394, 1408]
def k0_off479 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v4106 : Index := Scalar.indexCast v23
  let c454_2282 : Index := 454#32
  let c1408_2283 : Index := 1408#32
  ![v4106.toNat, 454, 1408]
def k0_off480 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v4114 : Index := Scalar.indexCast v23
  let c455_2286 : Index := 455#32
  let c1408_2287 : Index := 1408#32
  ![v4114.toNat, 455, 1408]
def k0_off481 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v4121 : Index := Scalar.indexCast v23
  let c456_2290 : Index := 456#32
  let c1408_2291 : Index := 1408#32
  ![v4121.toNat, 456, 1408]
def k0_off482 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v4128 : Index := Scalar.indexCast v23
  let c457_2294 : Index := 457#32
  let c1408_2295 : Index := 1408#32
  ![v4128.toNat, 457, 1408]
def k0_off483 (i : grid0.Coords) : Fin 3 → Nat :=
  let arg0 : BitVec 32 := BitVec.ofNat 32 (i 0).val
  let c2_i32 : BitVec 32 := 2#32
  let v22 : BitVec 32 := Scalar.addi arg0 c2_i32
  let c3_i32_6 : BitVec 32 := 3#32
  let v23 : BitVec 32 := Scalar.remsi v22 c3_i32_6
  let v4135 : Index := Scalar.indexCast v23
  let c458_2298 : Index := 458#32
  let c1408_2299 : Index := 1408#32
  ![v4135.toNat, 458, 1408]
def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel2Ideal.lean ====
variable {F : FTy → Type} [FloatOps F] [Named F]
def κ : String → Option EReal := fun
  | "qscale" => some (((8 * (Real.log 2))⁻¹ : ℝ) : EReal)
  | _ => none
-- ==== Reference2Ideal.lean ====
abbrev S4x8192x1024 : Shape := ⟨3, ![4, 8192, 1024]⟩
abbrev S1024 : Shape := ⟨1, ![1024]⟩
abbrev S1024x5152 : Shape := ⟨2, ![1024, 5152]⟩
abbrev S5x1536 : Shape := ⟨2, ![5, 1536]⟩
abbrev S1536 : Shape := ⟨1, ![1536]⟩
abbrev S2x16 : Shape := ⟨2, ![2, 16]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5152 : Shape := ⟨3, ![4, 8192, 5152]⟩
abbrev S4x8192x1536 : Shape := ⟨3, ![4, 8192, 1536]⟩
abbrev S4x8192x32 : Shape := ⟨3, ![4, 8192, 32]⟩
abbrev S4x8192x256 : Shape := ⟨3, ![4, 8192, 256]⟩
abbrev S4x8192x4x1x64 : Shape := ⟨5, ![4, 8192, 4, 1, 64]⟩
abbrev S4x8192x4x2x64 : Shape := ⟨5, ![4, 8192, 4, 2, 64]⟩
abbrev S32768x1024 : Shape := ⟨2, ![32768, 1024]⟩
abbrev S32768x512 : Shape := ⟨2, ![32768, 512]⟩
abbrev S32768x256 : Shape := ⟨2, ![32768, 256]⟩

abbrev nBuf : Space → Nat
  | .hbm => 68
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x5152, .f32⟩
  | .hbm, ⟨3, _⟩ => ⟨S5x1536, .f32⟩
  | .hbm, ⟨4, _⟩ => ⟨S1536, .f32⟩
  | .hbm, ⟨5, _⟩ => ⟨S2x16, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x8192x5152, .f32⟩
  | .hbm, ⟨23, _⟩ => ⟨S4x8192x1024, .f32⟩
  | .hbm, ⟨24, _⟩ => ⟨S4x8192x1536, .f32⟩
  | .hbm, ⟨25, _⟩ => ⟨S4x8192x32, .f32⟩
  | .hbm, ⟨26, _⟩ => ⟨S4x8192x1024, .f32⟩
  | .hbm, ⟨27, _⟩ => ⟨S4x8192x256, .f32⟩
  | .hbm, ⟨28, _⟩ => ⟨S4x8192x256, .f32⟩
  | .hbm, ⟨29, _⟩ => ⟨S4x8192x1024, .f32⟩
  | .hbm, ⟨30, _⟩ => ⟨S_, .f32⟩
  | .hbm, ⟨31, _⟩ => ⟨S4x8192x1024, .f32⟩
  | .hbm, ⟨32, _⟩ => ⟨S4x8192x1024, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4x8192x1024, .f32⟩
  | .hbm, ⟨37, _⟩ => ⟨S4x8192x1024, .f32⟩
  | .hbm, ⟨38, _⟩ => ⟨S4x8192x4x1x64, .f32⟩
  | .hbm, ⟨39, _⟩ => ⟨S4x8192x4x2x64, .f32⟩
  | .hbm, ⟨40, _⟩ => ⟨S4x8192x1024, .f32⟩
  | .hbm, ⟨41, _⟩ => ⟨S4x8192x1024, .f32⟩
  | .hbm, ⟨42, _⟩ => ⟨S_, .f32⟩
  | .hbm, ⟨43, _⟩ => ⟨S4x8192x1024, .f32⟩
  | .hbm, ⟨44, _⟩ => ⟨S4x8192x1024, .f32⟩
  | .hbm, ⟨45, _⟩ => ⟨S_, .f32⟩
  | .hbm, ⟨46, _⟩ => ⟨S4x8192x1024, .f32⟩
  | .hbm, ⟨47, _⟩ => ⟨S4x8192x1024, .f32⟩
  | .hbm, ⟨48, _⟩ => ⟨S4x8192x1024, .f32⟩
  | .hbm, ⟨49, _⟩ => ⟨S32768x1024, .f32⟩
  | .hbm, ⟨50, _⟩ => ⟨S32768x1024, .bf16⟩
  | .hbm, ⟨51, _⟩ => ⟨S32768x1024, .f32⟩
  | .hbm, ⟨52, _⟩ => ⟨S32768x1024, .bf16⟩
  | .hbm, ⟨53, _⟩ => ⟨S32768x512, .f32⟩
  | .hbm, ⟨54, _⟩ => ⟨S32768x512, .bf16⟩
  | .hbm, ⟨55, _⟩ => ⟨S32768x256, .f32⟩
  | .hbm, ⟨56, _⟩ => ⟨S32768x256, .bf16⟩
  | .hbm, ⟨57, _⟩ => ⟨S4x8192x1024, .f32⟩
  | .hbm, ⟨58, _⟩ => ⟨S4x8192x1024, .f32⟩
  | .hbm, ⟨59, _⟩ => ⟨S_, .f32⟩
  | .hbm, ⟨60, _⟩ => ⟨S4x8192x1024, .f32⟩
  | .hbm, ⟨61, _⟩ => ⟨S4x8192x1024, .f32⟩
  | .hbm, ⟨62, _⟩ => ⟨S_, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | .hbm, ⟨66, _⟩ => ⟨S32768x1024, .f32⟩
  | .hbm, ⟨67, _⟩ => ⟨S32768x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]
-- ==== Proof.Tile.lean ====
module

public import proofs.«01_k».proof.Proof.Gen.KernelIdeal.Value
public import Idealize.ShloMosaic.Lib.Pointwise

/-! The kernel's body as a function of the blocks it loads: one 128x128 tile of the gated scan output, stated once with
the chunk, the group and the pair of heads as numbers; the normalised scan output; the output projection. -/

@[expose] public section
set_option maxRecDepth 16384
noncomputable section

namespace Cert.Tile
open Idealize.ShloMosaic Idealize.SL.Sem Cert.KernelIdeal Cert.KernelIdeal.Gen

variable {F : FTy → Type} [FloatOps F] [Named F]

/-- The loads of the fifteen blocks one grid point reads, each as a function of the rectangle loaded. -/
structure Blocks (F : FTy → Type) where
  alog : (r : Rect S1x128) → Vec F r.shape .f32
  dskip : (r : Rect S16) → Vec F r.shape .f32
  selb : (r : Rect S4x256x2048) → Vec F r.shape .bf16
  tril : (r : Rect S2x128x128) → Vec F r.shape .bf16
  xs : (r : Rect S512x1024) → Vec F r.shape .bf16
  bm : (r : Rect S512x256) → Vec F r.shape .bf16
  cm : (r : Rect S512x256) → Vec F r.shape .bf16
  dt : (r : Rect S128x128) → Vec F r.shape .f32
  z : (r : Rect S512x1024) → Vec F r.shape .bf16
  sf : (r : Rect S4x256x512) → Vec F r.shape .bf16
  sb : (r : Rect S4x256x512) → Vec F r.shape .bf16
  ya : (r : Rect S512x1024) → Vec F r.shape .bf16
  x : (r : Rect S512x1024) → Vec F r.shape .f32
  w : (r : Rect S2048x1024) → Vec F r.shape .bf16
  fg : (r : Rect S1x1024) → Vec F r.shape .f32

variable (B : Blocks F)

/-- The step sizes of the four chunks. -/
def dtq : Vec F S128x128 .f32 := B.dt (Rect.unit ![0, 0] S128x128.size inb_S128x128_S128x128_0_0)
/-- The decay logarithms, one per lane. -/
def alq : Vec F S1x128 .f32 := B.alog (Rect.unit ![0, 0] S1x128.size inb_S1x128_S1x128_0_0)
/-- The lower triangular matrix of ones. -/
def tril0 : Vec F S1x128x128 .bf16 := B.tril (Rect.unit ![0, 0, 0] S1x128x128.size inb_S2x128x128_S1x128x128_0_0_0)
/-- The upper triangular matrix of ones. -/
def tril1 : Vec F S1x128x128 .bf16 := B.tril (Rect.unit ![1, 0, 0] S1x128x128.size inb_S2x128x128_S1x128x128_1_0_0)
/-- The scaled log decay of every step. -/
def aq : FVec F S128x128 .f32 := k0_pay6 (dtq B) (alq B)
/-- Prefix sums (suffix sums in the backward lanes) of the scaled log decay. -/
def colq : FVec F S128x128 .f32 := k0_pay10 (aq B) k0_pay7 (k0_pay8 (dtq B) (alq B) (tril0 B)) (k0_pay9 (tril1 B))
/-- The same, less the logarithm of the step size, transposed. -/
def rowq : FVec F S128x128 .f32 :=
  k0_pay11 (dtq B) (aq B) k0_pay7 (k0_pay8 (dtq B) (alq B) (tril0 B)) (k0_pay9 (tril1 B))
/-- The step sizes transposed. -/
def dtr : FVec F S128x128 .f32 := k0_pay12 (dtq B)
/-- The prefix sums and their rounding remainder side by side. -/
def catq : FVec F S128x256 .bf16 := k0_pay13 (aq B) k0_pay7 (k0_pay8 (dtq B) (alq B) (tril0 B)) (k0_pay9 (tril1 B))

/-- The four matrices of step sums every tile of the point reads. -/
structure Sums (F : FTy → Type) where
  col : FVec F S128x128 .f32
  row : FVec F S128x128 .f32
  dtr : FVec F S128x128 .f32
  cat : FVec F S128x256 .bf16

/-- The four matrices as the body computes them. -/
def sums : Sums F := ⟨colq B, rowq B, Tile.dtr B, catq B⟩

variable (Q : Sums F)

/-- A place of a chunk: the chunk, the group, the half of the group, and the pair within the half. -/
structure Place where
  c : ℕ
  g : ℕ
  u : ℕ
  v : ℕ
  hc : c < 4
  hg : g < 2
  hu : u < 2
  hv : v < 2

/-- A rectangle that fits in both axes of a matrix is within it. -/
theorem inb2 {m n m' n' a b : ℕ} (ha : a + m' ≤ m) (hb : b + n' ≤ n) :
    ∀ i, (![a, b] : Fin 2 → ℕ) i + (⟨2, ![m', n']⟩ : Shape).size i ≤ (⟨2, ![m, n]⟩ : Shape).size i := fun i => by
  fin_cases i <;> assumption

/-- A box that fits in all three axes is within the array. -/
theorem inb3 {k m n k' m' n' e a b : ℕ} (he : e + k' ≤ k) (ha : a + m' ≤ m) (hb : b + n' ≤ n) :
    ∀ i, (![e, a, b] : Fin 3 → ℕ) i + (⟨3, ![k', m', n']⟩ : Shape).size i ≤ (⟨3, ![k, m, n]⟩ : Shape).size i := fun i => by
  fin_cases i <;> assumption

/-- A slice that fits in both axes of a matrix is one. -/
theorem slc2 {m n m' n' a b : ℕ} (ha : a + m' ≤ m) (hb : b + n' ≤ n) :
    Shape.Slices (⟨2, ![m, n]⟩ : Shape) ![a, b] ⟨2, ![m', n']⟩ := ⟨rfl, fun i => by fin_cases i <;> assumption⟩

namespace Place
variable (P : Place)
/-- The first head of the pair. -/
def hd : ℕ := P.g * 8 + P.u * 4 + P.v * 2
/-- The first of its lanes in the scan's width. -/
def col : ℕ := P.g * 512 + P.u * 256 + P.v * 128
/-- The pair's heads are among the sixteen. -/
theorem hd_lt : P.hd + 2 ≤ 16 := by have := P.hg; have := P.hu; have := P.hv; unfold hd; omega
/-- The pair's columns are among the 1024. -/
theorem col_le : P.col + 128 ≤ 1024 := by have := P.hg; have := P.hu; have := P.hv; unfold col; omega
/-- The chunk's rows are among the 512. -/
theorem row_le : P.c * 128 + 128 ≤ 512 := by have := P.hc; omega
/-- The group's columns are among the 256. -/
theorem gr_le : P.g * 128 + 128 ≤ 256 := by have := P.hg; omega
end Place

variable (P : Place)

/-- The chunk's and group's tile of C. -/
def cmg : Vec F S128x128 .bf16 := B.cm (Rect.unit ![P.c * 128, P.g * 128] S128x128.size (inb2 P.row_le P.gr_le))
/-- The chunk's and group's tile of B. -/
def bmg : Vec F S128x128 .bf16 := B.bm (Rect.unit ![P.c * 128, P.g * 128] S128x128.size (inb2 P.row_le P.gr_le))
/-- The score products with the diagonal cleared. -/
def cboff : FVec F S128x128 .bf16 := k0_pay15 k0_pay3 (cmg B P) (bmg B P)
/-- The diagonal of the score products, as a row. -/
def cbdiag : FVec F S1x128 .f32 := k0_pay16 k0_pay3 (cmg B P) (bmg B P)
/-- The forward states read out at every row. -/
def csf : FVec F S128x256 .f32 := k0_pay18 (cmg B P) (B.sf (Rect.unit ![P.c, P.g * 128, P.u * 256] S1x128x256.size
    (inb3 (by have := P.hc; omega) P.gr_le (by have := P.hu; omega))))
/-- The backward states read out at every row. -/
def csb : FVec F S128x256 .f32 := k0_pay18 (cmg B P) (B.sb (Rect.unit ![P.c, P.g * 128, P.u * 256] S1x128x256.size
    (inb3 (by have := P.hc; omega) P.gr_le (by have := P.hu; omega))))
/-- The backward sums of the pair's two heads, spread over 128 lanes each. -/
def colb : FVec F S128x256 .f32 := k0_pay21 Q.cat (B.selb (Rect.unit ![P.c, 0, P.hd * 128] S1x256x256.size
    (inb3 (by have := P.hc; omega) (by omega) (by have := P.hd_lt; omega))))

/-- Column `k` of the forward sums spread over the lanes. -/
def colF (k : ℕ) (hk : k + 1 ≤ 128) : FVec F S128x128 .f32 :=
  broadcastTo S128x128 (shapeCast S128x1 (extractStridedSlice S128x1 ![0, k] Q.col (slc2 (by omega) hk))
    shapeCasts_S128x1_S128x1) broadcasts_S128x1_S128x128
/-- The backward sums of one of the two heads, spread over the lanes. -/
def colB (hh : ℕ) (hk : hh * 128 + 128 ≤ 256) : FVec F S128x128 .f32 :=
  extractStridedSlice S128x128 ![0, hh * 128] (colb B Q P) (slc2 (by omega) hk)
/-- Row `k` of a matrix as a one-row matrix. -/
def rowOf (k : ℕ) (hk : k + 1 ≤ 128) (x : FVec F S128x128 .f32) : FVec F S1x128 .f32 :=
  extractStridedSlice S1x128 ![k, 0] x (slc2 hk (by omega))

/-- A forward lane is among the 128. -/
theorem hF {hh : ℕ} (h : hh < 2) : P.c * 32 + P.hd + hh + 1 ≤ 128 := by have := P.hc; have := P.hd_lt; omega
/-- A backward lane is among the 128. -/
theorem hB {hh : ℕ} (h : hh < 2) : P.c * 32 + P.hd + hh + 16 + 1 ≤ 128 := by have := P.hc; have := P.hd_lt; omega

/-- The skip weight of one head. -/
def dsk (k : ℕ) (hk : k + 1 ≤ 16) : F .f32 :=
  B.dskip (Rect.unit ![k] S1.size (fun a => by fin_cases a; exact hk)) (Shape.Idx.first (s := S1) (by decide))

/-- The scores of one head: both directions' products off the diagonal, the whole diagonal with the skip weight. -/
def score (hh : ℕ) (h : hh < 2) : FVec F S128x128 .bf16 :=
  addf (mulf (cboff B P) (truncf .bf16 (exp2 (select k0_pay2
      (subf (colF Q (P.c * 32 + P.hd + hh) (hF P h)) (broadcastTo S128x128 (rowOf (P.c * 32 + P.hd + hh) (hF P h) Q.row) broadcasts_S1x128_S128x128))
      (subf (colB B Q P hh (by omega)) (broadcastTo S128x128 (rowOf (P.c * 32 + P.hd + hh + 16) (hB P h) Q.row) broadcasts_S1x128_S128x128))))
      bitsLt_bf16_f32))
    (mulf k0_pay4 (broadcastTo S128x128 (truncf .bf16 (addf (mulf (cbdiag B P)
      (addf (rowOf (P.c * 32 + P.hd + hh) (hF P h) Q.dtr) (rowOf (P.c * 32 + P.hd + hh + 16) (hB P h) Q.dtr)))
      (broadcast S1x128 (dsk B (P.hd + hh) (by have := P.hd_lt; omega)))) bitsLt_bf16_f32) broadcasts_S1x128_S128x128))

/-- The pair's tile of the scan's input. -/
def xst : Vec F S128x128 .bf16 := B.xs (Rect.unit ![P.c * 128, P.col] S128x128.size (inb2 P.row_le P.col_le))
/-- The pair's tile of the gate. -/
def zt : Vec F S128x128 .bf16 := B.z (Rect.unit ![P.c * 128, P.col] S128x128.size (inb2 P.row_le P.col_le))

/-- The scan's inputs of the pair, one head above the other. -/
def rhs : FVec F S256x128 .bf16 :=
  concatenate S256x128 0 [⟨S128x128, select k0_pay5 (xst B P) (broadcast S128x128 (Scalar.ofBits .bf16 0x0000#16))⟩,
    ⟨S128x128, select k0_pay5 (broadcast S128x128 (Scalar.ofBits .bf16 0x0000#16)) (xst B P)⟩] concatenates_S128x128_S128x128_S256x128_d0

/-- The gated scan output of one pair of heads on one chunk. -/
def gated : FVec F S128x128 .f32 :=
  mulf (addf (matmul dot_S128x256_S256x128_S128x128_1_0_0_1_n_n none
      (concatenate S128x256 1 [⟨S128x128, score B Q P 0 (by omega)⟩, ⟨S128x128, score B Q P 1 (by omega)⟩] concatenates_S128x128_S128x128_S128x256_d1)
      (rhs B P) (constant S128x128 .f32 0x00000000#32))
    (addf (mulf (extractStridedSlice S128x128 ![0, P.v * 128] (csf B P) (slc2 (by omega) (by have := P.hv; omega)))
        (exp2 (select k0_pay5 (colF Q (P.c * 32 + P.hd + 0) (hF P (by omega))) (colF Q (P.c * 32 + P.hd + 1) (hF P (by omega))))))
      (mulf (extractStridedSlice S128x128 ![0, P.v * 128] (csb B P) (slc2 (by omega) (by have := P.hv; omega)))
        (exp2 (select k0_pay5 (colB B Q P 0 (by omega)) (colB B Q P 1 (by omega)))))))
    (extf .f32 (zt B P) bitsLt_bf16_f32)

/-- The sum of squares of every row of a tile, as a column. -/
def sqs (G : FVec F S128x128 .f32) : FVec F S128x1 .f32 :=
  shapeCast S128x1 (multiReduction .add [1] S128 (mulf G G) 0x00000000#32 reduces_S128x128_S128_2 (.inl rfl) rfl) shapeCasts_S128_S128x1

/-- The scan output of one group on one chunk, normalised by the root of its mean square. -/
def normed (V : Vec F S128x512 .f32) (G0 G1 G2 G3 : FVec F S128x128 .f32) : FVec F S128x512 .bf16 :=
  k0_pay405 (addf (addf (addf k0_pay17 (sqs G0)) (sqs G1)) (sqs G2)) (mulf G3 G3) V

/-- The output projection of two chunks, with the residual and the final norm. -/
def projected (Y : Vec F S256x1024 .bf16) (r : ℕ) (hr : r + 256 ≤ 512) : FVec F S256x1024 .f32 :=
  k0_pay1 (k0_pay406 Y (B.w (Rect.unit ![0, 0] S1024x1024.size inb_S2048x1024_S1024x1024_0_0))
    (B.ya (Rect.unit ![r, 0] S256x1024.size (inb2 hr (by omega))))
    (B.w (Rect.unit ![1024, 0] S1024x1024.size inb_S2048x1024_S1024x1024_1024_0))
    (B.x (Rect.unit ![r, 0] S256x1024.size (inb2 hr (by omega)))))
    (B.fg (Rect.unit ![0, 0] S1x1024.size inb_S1x1024_S1x1024_0_0))

end Cert.Tile
-- ==== Proof.Scalars.lean ====
/- Facts about extended reals that the two programs' values meet in: the base-two exponential against the natural one,
   a row of a masked score product against the two causal sums, prefix sums as the window sums of the host. -/
module

public import Idealize.ShloMosaic.Lib.Pointwise
public import Idealize.ShloMosaic.Lib.IdealHost

@[expose] public section

noncomputable section

namespace Cert.Scalars

open Idealize.ShloMosaic
open scoped BigOperators

/-- The reciprocal of the natural logarithm of two, the value the kernel's base change is named. -/
def lg : ℝ := (Real.log 2)⁻¹

/-- One over the logarithm of two is positive. -/
theorem lg_pos : 0 < lg := inv_pos.2 (Real.log_pos (by norm_num))

/-- A base-two exponential of a multiple of `lg` is the natural exponential. -/
theorem exp2_lg (u : ℝ) : Ideal.exp2 ((u * lg : ℝ) : EReal) = Ideal.exp (u : EReal) := by
  show ((Real.rpow 2 (u * lg) : ℝ) : EReal) = ((Real.exp u : ℝ) : EReal)
  have h : Real.log 2 ≠ 0 := (Real.log_pos (by norm_num)).ne'
  rw [show Real.rpow 2 (u * lg) = (2 : ℝ) ^ (u * lg) from rfl, Real.rpow_def_of_pos (by norm_num)]
  congr 2
  unfold lg
  field_simp

/-- An exponent that subtracts a row value less the logarithm of the step carries the step as a factor; a zero step
    makes the whole factor zero. -/
theorem exp2_row (u v d : ℝ) (hd : 0 ≤ d) :
    Ideal.exp2 (((u * lg : ℝ) : EReal) - (((v * lg : ℝ) : EReal) - Ideal.log (d : EReal) * (lg : EReal)))
      = Ideal.exp ((u : EReal) - (v : EReal)) * (d : EReal) := by
  rcases hd.eq_or_lt with rfl | hd
  · have h : Ideal.log ((0 : ℝ) : EReal) = ⊥ := if_pos le_rfl
    rw [h, EReal.bot_mul_coe_of_pos lg_pos]
    rw [show ((v * lg : ℝ) : EReal) - ⊥ = ⊤ from rfl, show ((u * lg : ℝ) : EReal) - ⊤ = ⊥ from rfl]
    simp
  · have h : Ideal.log (d : EReal) = (Real.log d : EReal) := if_neg hd.not_ge
    rw [h, ← EReal.coe_mul, ← EReal.coe_sub, ← EReal.coe_sub, ← EReal.coe_sub,
      show u * lg - (v * lg - Real.log d * lg) = (u - v + Real.log d) * lg by ring, exp2_lg]
    show ((Real.exp _ : ℝ) : EReal) = ((Real.exp _ : ℝ) : EReal) * _
    rw [← EReal.coe_mul, Real.exp_add, Real.exp_log hd]

/-- On the diagonal: the score times the two steps, plus the skip weight, distributes over the row's input, whatever the
    score is. -/
theorem diag_split (c : EReal) (d e w x : ℝ) (hd : 0 ≤ d) (he : 0 ≤ e) :
    (c * ((d : EReal) + (e : EReal)) + (w : EReal)) * (x : EReal)
      = (x : EReal) * (d : EReal) * c + (x : EReal) * (e : EReal) * c + (w : EReal) * (x : EReal) := by
  induction c with
  | coe c => norm_cast; ring
  | top =>
    rcases hd.eq_or_lt with rfl | hd <;> rcases he.eq_or_lt with rfl | he <;> rcases lt_trichotomy x 0 with hx | rfl | hx
    all_goals first
      | (simp; done)
      | (norm_cast
         simp [EReal.top_mul_coe_of_pos, EReal.top_mul_coe_of_neg, EReal.coe_mul_top_of_pos, EReal.coe_mul_top_of_neg, mul_pos, mul_neg_of_neg_of_pos, add_pos, *, -EReal.coe_mul, -EReal.coe_add]
         done)
  | bot =>
    rcases hd.eq_or_lt with rfl | hd <;> rcases he.eq_or_lt with rfl | he <;> rcases lt_trichotomy x 0 with hx | rfl | hx
    all_goals first
      | (simp; done)
      | (norm_cast
         simp [EReal.bot_mul_coe_of_pos, EReal.bot_mul_coe_of_neg, EReal.coe_mul_bot_of_pos, EReal.coe_mul_bot_of_neg, mul_pos, mul_neg_of_neg_of_pos, add_pos, *, -EReal.coe_mul, -EReal.coe_add]
         done)

/-- A left fold of additions is the sum. -/
theorem foldl_add {n : ℕ} (v : EReal) (f : Fin n → EReal) :
    (List.finRange n).foldl (fun r i => r + f i) v = v + ∑ i, f i := by
  have h : ∀ (l : List (Fin n)) (v : EReal), l.foldl (fun r i => r + f i) v = v + (l.map f).sum := by
    intro l
    induction l with
    | nil => intro v; simp
    | cons a l ih => intro v; rw [List.foldl_cons, ih, List.map_cons, List.sum_cons, add_assoc]
  rw [h, ← List.sum_ofFn, List.ofFn_eq_map]

/-- What position `w` of the padded window ending at `l` contributes to a running sum along the last axis. -/
def window {A B C D M : ℕ} (x : FVec Ideal ⟨5, ![A, B, C, D, M + 1]⟩ .f32) (a : Fin A) (b : Fin B) (c : Fin C)
    (d : Fin D) (l w : Fin (M + 1)) : EReal :=
  if hw : M ≤ l.val + w.val then x (ix5 a b c d ⟨l.val + w.val - M, by omega⟩) else 0

/-- A padded running sum read inside the window. -/
theorem window_pos {A B C D M : ℕ} (x : FVec Ideal ⟨5, ![A, B, C, D, M + 1]⟩ .f32) (a : Fin A) (b : Fin B) (c : Fin C)
    (d : Fin D) (l w : Fin (M + 1)) (hw : M ≤ l.val + w.val) :
    window x a b c d l w = x (ix5 a b c d ⟨l.val + w.val - M, by omega⟩) := dif_pos hw

/-- A padded running sum read outside the window. -/
theorem window_neg {A B C D M : ℕ} (x : FVec Ideal ⟨5, ![A, B, C, D, M + 1]⟩ .f32) (a : Fin A) (b : Fin B) (c : Fin C)
    (d : Fin D) (l w : Fin (M + 1)) (hw : ¬ M ≤ l.val + w.val) : window x a b c d l w = 0 := dif_neg hw

/-- The last coordinate of a window position. -/
def lastc {M : ℕ} (w : (⟨5, ![1, 1, 1, 1, M + 1]⟩ : Shape).Idx) : Fin (M + 1) := ⟨(w 4).val, (w 4).isLt⟩

/-- A running sum along the last of five axes, as the host's padded window sum computes it. -/
theorem cumsum_last {A B C D N M : ℕ} (hN : M + 1 = N) (x : FVec Ideal ⟨5, ![A, B, C, D, N]⟩ .f32)
    (init : FVec Ideal ⟨0, ![]⟩ .f32) (h : (⟨5, ![A, B, C, D, N]⟩ : Shape).ReduceWindows ![1, 1, 1, 1, N] ![1, 1, 1, 1, 1]
      ![0, 0, 0, 0, M] ![0, 0, 0, 0, 0] ⟨5, ![A, B, C, D, N]⟩) (hu : 0 < (⟨0, ![]⟩ : Shape).numel)
    (hz : init (Shape.Idx.first hu) = 0) (a : Fin A) (b : Fin B) (c : Fin C) (d : Fin D) (l : Fin N) :
    Host.reduceWindowAdd ![1, 1, 1, 1, N] ![1, 1, 1, 1, 1] ![0, 0, 0, 0, M] ![0, 0, 0, 0, 0] x init h hu (ix5 a b c d l)
      = ∑ t : Fin N, if t ≤ l then x (ix5 a b c d t) else 0 := by
  subst hN
  show Ideal.hostReduceWindowAdd _ _ _ _ h x (init (Shape.Idx.first hu)) _ = _
  unfold Ideal.hostReduceWindowAdd Host.reduceWindow
  dsimp only
  rw [hz, foldl_add, zero_add]
  let e : Fin (M + 1) ≃ (⟨5, ![1, 1, 1, 1, M + 1]⟩ : Shape).Idx :=
    { toFun := fun w => ix5 (0 : Fin 1) (0 : Fin 1) (0 : Fin 1) (0 : Fin 1) w
      invFun := fun w => lastc w
      left_inv := fun w => rfl
      right_inv := fun w => by
        funext i
        fin_cases i
        · exact Subsingleton.elim (α := Fin 1) _ _
        · exact Subsingleton.elim (α := Fin 1) _ _
        · exact Subsingleton.elim (α := Fin 1) _ _
        · exact Subsingleton.elim (α := Fin 1) _ _
        · rfl }
  refine (Finset.sum_congr rfl fun n _ => (?_ : _ = window x a b c d l
    (lastc ((⟨5, ![1, 1, 1, 1, M + 1]⟩ : Shape).rowMajor.symm n)))).trans ?_
  · let W : Shape := ⟨5, ![1, 1, 1, 1, M + 1]⟩
    have h0 : (W.rowMajor.symm n 0).val = 0 := Nat.lt_one_iff.1 (W.rowMajor.symm n 0).isLt
    have h1 : (W.rowMajor.symm n 1).val = 0 := Nat.lt_one_iff.1 (W.rowMajor.symm n 1).isLt
    have h2 : (W.rowMajor.symm n 2).val = 0 := Nat.lt_one_iff.1 (W.rowMajor.symm n 2).isLt
    have h3 : (W.rowMajor.symm n 3).val = 0 := Nat.lt_one_iff.1 (W.rowMajor.symm n 3).isLt
    have h4 : (W.rowMajor.symm n 4).val < M + 1 := (W.rowMajor.symm n 4).isLt
    have hl := l.isLt
    split
    · next hin =>
      have h : M ≤ l.val * 1 + (W.rowMajor.symm n 4).val := (hin 4).1
      have hw : M ≤ l.val + (W.rowMajor.symm n 4).val := by omega
      refine Eq.trans (congrArg x (funext fun i => Fin.ext ?_)) (window_pos x a b c d l (lastc (W.rowMajor.symm n)) hw).symm
      fin_cases i
      · show a.val * 1 + (W.rowMajor.symm n 0).val - 0 = a.val; omega
      · show b.val * 1 + (W.rowMajor.symm n 1).val - 0 = b.val; omega
      · show c.val * 1 + (W.rowMajor.symm n 2).val - 0 = c.val; omega
      · show d.val * 1 + (W.rowMajor.symm n 3).val - 0 = d.val; omega
      · show l.val * 1 + (W.rowMajor.symm n 4).val - M = l.val + (W.rowMajor.symm n 4).val - M; omega
    · next hin =>
      refine (window_neg x a b c d l (lastc (W.rowMajor.symm n)) fun hw => hin fun i => ?_).symm
      have ha := a.isLt; have hb := b.isLt; have hc := c.isLt; have hd := d.isLt
      have hw : M ≤ l.val + (W.rowMajor.symm n 4).val := hw
      fin_cases i
      · show 0 ≤ a.val * 1 + (W.rowMajor.symm n 0).val ∧ a.val * 1 + (W.rowMajor.symm n 0).val - 0 < A; omega
      · show 0 ≤ b.val * 1 + (W.rowMajor.symm n 1).val ∧ b.val * 1 + (W.rowMajor.symm n 1).val - 0 < B; omega
      · show 0 ≤ c.val * 1 + (W.rowMajor.symm n 2).val ∧ c.val * 1 + (W.rowMajor.symm n 2).val - 0 < C; omega
      · show 0 ≤ d.val * 1 + (W.rowMajor.symm n 3).val ∧ d.val * 1 + (W.rowMajor.symm n 3).val - 0 < D; omega
      · show M ≤ l.val * 1 + (W.rowMajor.symm n 4).val ∧ l.val * 1 + (W.rowMajor.symm n 4).val - M < M + 1; omega
  calc _ = ∑ w : (⟨5, ![1, 1, 1, 1, M + 1]⟩ : Shape).Idx, window x a b c d l (lastc w) :=
        Equiv.sum_comp (⟨5, ![1, 1, 1, 1, M + 1]⟩ : Shape).rowMajor.symm fun w => window x a b c d l (lastc w)
    _ = ∑ w : Fin (M + 1), window x a b c d l w :=
        (Equiv.sum_comp e fun w => window x a b c d l (lastc w)).symm
    _ = _ := by
        have hl := l.isLt
        rw [← Finset.sum_filter]
        refine Eq.trans (b := ∑ w ∈ Finset.univ.filter (fun w : Fin (M + 1) => M ≤ l.val + w.val), window x a b c d l w)
          (Finset.sum_filter_of_ne fun w _ hne => ?_).symm ?_
        · by_contra hw
          exact hne (dif_neg hw)
        · refine Finset.sum_nbij' (fun w => ⟨l.val + w.val - M, by omega⟩) (fun t => ⟨min (t.val + M - l.val) M, by omega⟩)
            (fun w hw => ?_) (fun t ht => ?_) (fun w hw => ?_) (fun t ht => ?_) (fun w hw => ?_)
          · have := (Finset.mem_filter.1 hw).2
            exact Finset.mem_filter.2 ⟨Finset.mem_univ _, Fin.le_def.2 (show l.val + w.val - M ≤ l.val by omega)⟩
          · have := Fin.le_def.1 (Finset.mem_filter.1 ht).2
            exact Finset.mem_filter.2 ⟨Finset.mem_univ _, show M ≤ l.val + min (t.val + M - l.val) M by omega⟩
          · have := (Finset.mem_filter.1 hw).2
            exact Fin.ext (show min (l.val + w.val - M + M - l.val) M = w.val by omega)
          · have := Fin.le_def.1 (Finset.mem_filter.1 ht).2
            exact Fin.ext (show l.val + min (t.val + M - l.val) M - M = t.val by omega)
          · exact dif_pos (Finset.mem_filter.1 hw).2

end Cert.Scalars

end
-- ==== Proof.TileRead.lean ====
module

public import proofs.«01_k».proof.Proof.Tile
public import proofs.«01_k».proof.Proof.Scalars

/-! The tile read at a row and a lane. -/

@[expose] public section
set_option maxRecDepth 16384
noncomputable section

namespace Cert.Tile
open Idealize.ShloMosaic Idealize.SL.Sem Cert.KernelIdeal Cert.KernelIdeal.Gen
open scoped BigOperators

/-- A choice by a decided proposition is the `if` on it. -/
theorem select_decide {α : Type} (p : Prop) [Decidable p] (a b : α) :
    Scalar.select (BitVec.ofBool (decide p)) a b = if p then a else b := by
  by_cases h : p <;> simp [h, Scalar.select]

/-- Comparing two lane numbers as words for equality. -/
theorem cmp_eq (l s : Fin 128) : IntOp.cmpi .eq (BitVec.ofNat 32 ↑l) (BitVec.ofNat 32 ↑s) = BitVec.ofBool (decide (l = s)) := by
  rw [WordCmp.cmpi_eq_ofNat (by omega) (by omega)]; simp only [Fin.ext_iff]

/-- Comparing a row with a column as words. -/
theorem cmp_ge (l s : Fin 128) : IntOp.cmpi .sge (BitVec.ofNat 32 ↑l) (BitVec.ofNat 32 ↑s) = BitVec.ofBool (decide (s ≤ l)) := by
  rw [WordCmp.cmpi_sge_ofNat (by omega) (by omega)]; simp only [Fin.le_def]

/-- Comparing a lane with 64 as words. -/
theorem cmp_left (s : Fin 128) : IntOp.cmpi .slt (BitVec.ofNat 32 ↑s) 64#32 = BitVec.ofBool (decide (s.val < 64)) := by
  rw [show (64#32 : BitVec 32) = BitVec.ofNat 32 64 from rfl, WordCmp.cmpi_slt_ofNat (by omega) (by omega)]

/-- Whether a lane is a forward one, on words. -/
theorem cmp_fwd (s : Fin 128) : IntOp.cmpi .slt (IntOp.andi (BitVec.ofNat 32 ↑s) 31#32) 16#32
    = BitVec.ofBool (decide (s.val % 32 < 16)) := by
  revert s; decide

variable (B : Blocks Ideal) (Q : Sums Ideal) (P : Place)

/-- A forward lane spread over a tile, entry by entry. -/
theorem colF_at (k : ℕ) (hk : k + 1 ≤ 128) (l s : Fin 128) : colF Q k hk (ix2 l s) = Q.col (ix2 l ⟨k, by omega⟩) := by
  pointwise [colF]

/-- A row spread over a tile, entry by entry. -/
theorem rowOf_at (k : ℕ) (hk : k + 1 ≤ 128) (x : FVec Ideal S128x128 .f32) (s : Fin 128) :
    rowOf k hk x (ix2 0 s) = x (ix2 ⟨k, by omega⟩ s) := by
  pointwise [rowOf]

/-- A backward lane spread over a tile, entry by entry. -/
theorem colB_at (hh : ℕ) (hk : hh * 128 + 128 ≤ 256) (l s : Fin 128) :
    colB B Q P hh hk (ix2 l s) = colb B Q P (ix2 l ⟨hh * 128 + s, by omega⟩) := by
  pointwise [colB]

/-- The score products of two rows of the chunk. -/
def cb (l s : Fin 128) : EReal := ∑ n : Fin 128, cmg B P (ix2 l n) * bmg B P (ix2 s n)

/-- The products of C and B without their diagonal. -/
theorem cboff_at (l s : Fin 128) : cboff B P (ix2 l s) = if l = s then (0 : EReal) else cb B P l s := by
  pointwise [cboff, k0_pay15, k0_pay14, k0_pay3]
  rw [cmp_eq, select_decide]; rfl

/-- The diagonal of the products of C and B. -/
theorem cbdiag_at (s : Fin 128) : cbdiag B P (ix2 0 s) = cb B P s s := by
  pointwise [cbdiag, k0_pay16, k0_pay14, k0_pay3]
  simp only [cmp_eq, select_decide]
  rw [Finset.sum_ite_eq' Finset.univ s]; simp [cb]

/-- The identity matrix, entry by entry. -/
theorem eyeb_at (l s : Fin 128) : (k0_pay4 : FVec Ideal S128x128 .bf16) (ix2 l s) = if l = s then (1 : EReal) else 0 := by
  pointwise [k0_pay4, k0_pay3]
  rw [cmp_eq, select_decide]

/-- A tile of the scores, entry by entry. -/
theorem score_at (hh : ℕ) (h : hh < 2) (l s : Fin 128) : score B Q P hh h (ix2 l s)
    = (if l = s then (0 : EReal) else cb B P l s)
        * Ideal.exp2 (if s ≤ l then
            Q.col (ix2 l ⟨P.c * 32 + P.hd + hh, by have := hF P h; omega⟩) - Q.row (ix2 ⟨P.c * 32 + P.hd + hh, by have := hF P h; omega⟩ s)
          else colb B Q P (ix2 l ⟨hh * 128 + s, by omega⟩) - Q.row (ix2 ⟨P.c * 32 + P.hd + hh + 16, by have := hB P h; omega⟩ s))
      + (if l = s then (1 : EReal) else 0) * (cb B P s s * (Q.dtr (ix2 ⟨P.c * 32 + P.hd + hh, by have := hF P h; omega⟩ s)
          + Q.dtr (ix2 ⟨P.c * 32 + P.hd + hh + 16, by have := hB P h; omega⟩ s)) + dsk B (P.hd + hh) (by have := P.hd_lt; omega)) := by
  pointwise [score, k0_pay2]
  simp only [cmp_ge, select_decide, cboff_at, cbdiag_at, eyeb_at, colF_at, colB_at, rowOf_at]
  rfl

/-- The upper half of the right-hand side: the first head's lanes, zero elsewhere. -/
theorem rhs_lo (k : Fin 128) (p : Fin 128) : rhs B P (ix2 ⟨k.val, by omega⟩ p)
    = if p.val < 64 then xst B P (ix2 k p) else (0 : EReal) := by
  pointwise [rhs, k0_pay5]
  rw [cmp_left, select_decide]

/-- The lower half of the right-hand side: the second head's lanes, zero elsewhere. -/
theorem rhs_hi (k : Fin 128) (p : Fin 128) : rhs B P (ix2 ⟨128 + k.val, by omega⟩ p)
    = if p.val < 64 then (0 : EReal) else xst B P (ix2 k p) := by
  pointwise [rhs, k0_pay5]
  rw [cmp_left, select_decide]

/-- Which of the pair's two heads a lane belongs to. -/
def half (p : Fin 128) : ℕ := p.val / 64
/-- A lane belongs to one of the pair's two heads. -/
theorem half_lt (p : Fin 128) : half p < 2 := by unfold half; omega

/-- A tile of the gated scan, entry by entry. -/
theorem gated_at (l p : Fin 128) : gated B Q P (ix2 l p)
    = (∑ s : Fin 128, score B Q P (half p) (half_lt p) (ix2 l s) * xst B P (ix2 s p)
      + (csf B P (ix2 l ⟨P.v * 128 + p, by have := P.hv; omega⟩)
          * Ideal.exp2 (Q.col (ix2 l ⟨P.c * 32 + P.hd + half p, by have := hF P (half_lt p); omega⟩))
        + csb B P (ix2 l ⟨P.v * 128 + p, by have := P.hv; omega⟩)
          * Ideal.exp2 (colb B Q P (ix2 l ⟨half p * 128 + p, by have := half_lt p; omega⟩)))) * zt B P (ix2 l p) := by
  pointwise [gated, k0_pay5]
  simp only [rhs_lo, rhs_hi, cmp_left, select_decide, colF_at, colB_at]
  by_cases h : p.val < 64
  · have h0 : half p = 0 := by unfold half; omega
    simp only [h, if_true, mul_zero, Finset.sum_const_zero, add_zero, h0]
    rfl
  · have h0 : half p = 1 := by unfold half; omega
    simp only [h, if_false, mul_zero, Finset.sum_const_zero, zero_add, h0]
    rfl

/-- The first named constant is one over the logarithm of two. -/
theorem named_lg : (Named.named (F := Ideal) (φ := .f32) κ "log2e" 0x3FB8AA3B#32 : EReal) = (Scalars.lg : EReal) := by
  rfl
/-- The second named constant is minus one over the logarithm of two. -/
theorem named_neg : (Named.named (F := Ideal) (φ := .f32) κ "neg_log2e" 0xBFB8AA3B#32 : EReal) = ((-Scalars.lg : ℝ) : EReal) := by
  rfl

/-- What the step sizes, the decays and the triangular matrices of a point hold: reals, zeros and ones. -/
structure Steps where
  d : Fin 128 → Fin 128 → ℝ
  A : Fin 128 → ℝ
  nonneg : ∀ l k, 0 ≤ d l k
  hd : ∀ l k, dtq B (ix2 l k) = ((d l k : ℝ) : EReal)
  hA : ∀ k, Ideal.exp (alq B (ix2 0 k)) = ((A k : ℝ) : EReal)
  lo : ∀ l s, tril0 B (ix3 0 l s) = if s ≤ l then (1 : EReal) else 0
  up : ∀ l s, tril1 B (ix3 0 l s) = if l ≤ s then (1 : EReal) else 0

variable {B} (T : Steps B)

/-- The log decay summed up to the row in the forward lanes, from the row on in the backward lanes. -/
def csum (l k : Fin 128) : ℝ :=
  ∑ t : Fin 128, if (if k.val % 32 < 16 then t ≤ l else l ≤ t) then T.d t k * -T.A k else 0

/-- The embedding of the reals carries finite sums. -/
theorem coe_sum {ι : Type} (S : Finset ι) (f : ι → ℝ) : ((∑ t ∈ S, f t : ℝ) : EReal) = ∑ t ∈ S, ((f t : ℝ) : EReal) := by
  classical
  induction S using Finset.induction_on with
  | empty => simp
  | insert a S ha ih => rw [Finset.sum_insert ha, Finset.sum_insert ha, EReal.coe_add, ih]

/-- A sum of terms kept where a condition holds. -/
theorem masked_sum (p : Fin 128 → Prop) [DecidablePred p] (f : Fin 128 → ℝ) :
    ∑ t : Fin 128, (if p t then (1 : EReal) else 0) * ((f t * Scalars.lg : ℝ) : EReal)
      = (((∑ t : Fin 128, if p t then f t else 0) * Scalars.lg : ℝ) : EReal) := by
  rw [Finset.sum_mul, coe_sum]
  refine Finset.sum_congr rfl fun t _ => ?_
  by_cases h : p t <;> simp [h]

/-- The running sums in powers of two, entry by entry. -/
theorem colq_at (l k : Fin 128) : colq B (ix2 l k) = ((csum T l k * Scalars.lg : ℝ) : EReal) := by
  pointwise [colq, k0_pay10, k0_pay7, k0_pay8, k0_pay9, aq, k0_pay6]
  have ha : ∀ x : Fin 128, dtq B (ix2 x k) * (Named.named (F := Ideal) (φ := .f32) κ "neg_log2e" 0xBFB8AA3B#32 * Ideal.exp (alq B (ix2 0 k)))
      = ((T.d x k * -T.A k * Scalars.lg : ℝ) : EReal) := fun x => by
    rw [named_neg, T.hd, T.hA, ← EReal.coe_mul, ← EReal.coe_mul]; congr 1; ring
  have hz : ∀ u : ℝ, (u : EReal) - (u : EReal) = 0 := fun u => by rw [← EReal.coe_sub, sub_self, EReal.coe_zero]
  have hz0 : (0 : EReal) - 0 = 0 := by simp
  simp only [ha, hz, hz0, cmp_fwd, select_decide, mul_zero, Finset.sum_const_zero, add_zero, T.lo, T.up, masked_sum, csum]
  split <;> rfl

/-- The running sums minus the logarithm of the step size, transposed, entry by entry. -/
theorem rowq_at (k s : Fin 128) : rowq B (ix2 k s)
    = ((csum T s k * Scalars.lg : ℝ) : EReal) - Ideal.log ((T.d s k : ℝ) : EReal) * (Scalars.lg : EReal) := by
  pointwise [rowq, k0_pay11]
  rw [named_lg, T.hd]
  exact congrArg (· - _) (colq_at T s k)

/-- The transposed step sizes, entry by entry. -/
theorem dtr_at (k s : Fin 128) : Tile.dtr B (ix2 k s) = ((T.d s k : ℝ) : EReal) := by
  pointwise [dtr, k0_pay12]
  exact T.hd s k

/-- The split running sums, entry by entry. -/
theorem catq_at (l : Fin 128) (k : Fin 256) : catq B (ix2 l k)
    = if k.val < 128 then ((csum T l ⟨k % 128, by omega⟩ * Scalars.lg : ℝ) : EReal) else 0 := by
  pointwise [catq, k0_pay13]
  have hc : ∀ k', k0_pay10 (aq B) k0_pay7 (k0_pay8 (dtq B) (alq B) (tril0 B)) (k0_pay9 (tril1 B)) (ix2 l k') = _ := fun k' => colq_at T l k'
  simp only [hc]
  split
  · next h => congr 3; simp [Nat.mod_eq_of_lt h]
  · rw [← EReal.coe_sub, sub_self, EReal.coe_zero]

/-- The sum of the squares of a tile's row. -/
theorem sqs_at (G : FVec Ideal S128x128 .f32) (l : Fin 128) : sqs G (ix2 l 0) = ∑ p : Fin 128, G (ix2 l p) * G (ix2 l p) := by
  pointwise [sqs]

/-- The normalised row of a chunk and group, entry by entry. -/
theorem normed_at (V : Vec Ideal S128x512 .f32) (G0 G1 G2 G3 : FVec Ideal S128x128 .f32) (l : Fin 128) (j : Fin 512) :
    normed V G0 G1 G2 G3 (ix2 l j) = V (ix2 l j) * Ideal.rsqrt
      ((∑ p : Fin 128, G0 (ix2 l p) * G0 (ix2 l p) + ∑ p : Fin 128, G1 (ix2 l p) * G1 (ix2 l p)
        + ∑ p : Fin 128, G2 (ix2 l p) * G2 (ix2 l p) + ∑ p : Fin 128, G3 (ix2 l p) * G3 (ix2 l p))
          * Ideal.ofBits .f32 0x3B000000#32 + Ideal.ofBits .f32 0x358637BD#32) := by
  pointwise [normed, k0_pay405, k0_pay17]
  simp only [sqs_at]

/-- C times the state entering from the left, entry by entry. -/
theorem csf_at (l : Fin 128) (k : Fin 256) : csf B P (ix2 l k) = ∑ n : Fin 128, cmg B P (ix2 l n)
    * B.sf (Rect.unit ![P.c, P.g * 128, P.u * 256] S1x128x256.size
      (inb3 (by have := P.hc; omega) P.gr_le (by have := P.hu; omega))) (ix3 0 n k) := by
  pointwise [csf, k0_pay18]

/-- C times the state entering from the right, entry by entry. -/
theorem csb_at (l : Fin 128) (k : Fin 256) : csb B P (ix2 l k) = ∑ n : Fin 128, cmg B P (ix2 l n)
    * B.sb (Rect.unit ![P.c, P.g * 128, P.u * 256] S1x128x256.size
      (inb3 (by have := P.hc; omega) P.gr_le (by have := P.hu; omega))) (ix3 0 n k) := by
  pointwise [csb, k0_pay18]

/-- The one-hot matrix picks the backward sums of the head a lane belongs to. -/
theorem colb_at (hQ : Q.cat = catq B)
    (hsel : ∀ (x k : Fin 256), B.selb (Rect.unit ![P.c, 0, P.hd * 128] S1x256x256.size
      (inb3 (by have := P.hc; omega) (by omega) (by have := P.hd_lt; omega))) (ix3 0 x k)
        = if x.val % 128 = P.c * 32 + 16 + P.hd + k.val / 128 then (1 : EReal) else 0)
    (l : Fin 128) (k : Fin 256) : colb B Q P (ix2 l k)
      = ((csum T l ⟨P.c * 32 + P.hd + k.val / 128 + 16, by have := P.hc; have := P.hd_lt; omega⟩ * Scalars.lg : ℝ) : EReal) := by
  pointwise [colb, k0_pay21]
  rw [hQ]
  simp only [hsel, catq_at T]
  have hlt : P.c * 32 + P.hd + k.val / 128 + 16 < 128 := by have := P.hc; have := P.hd_lt; omega
  rw [Finset.sum_eq_single (⟨P.c * 32 + P.hd + k.val / 128 + 16, by omega⟩ : Fin 256)]
  · have e : (P.c * 32 + P.hd + k.val / 128 + 16) % 128 = P.c * 32 + P.hd + k.val / 128 + 16 := Nat.mod_eq_of_lt hlt
    rw [if_pos hlt, if_pos (by simp only [e]; omega), mul_one]
    simp only [e]
  · intro x _ hx
    by_cases h : x.val < 128
    · rw [if_neg (c := _ = _), mul_zero]
      intro h'
      rw [Nat.mod_eq_of_lt h] at h'
      exact hx (Fin.ext (by simp only; omega))
    · rw [if_neg h, zero_mul]
  · intro h; exact absurd (Finset.mem_univ _) h

end Cert.Tile
-- ==== Proof.Host.lean ====
module

public import proofs.«01_k».proof.Proof.Gen.KernelIdeal.Value
public import proofs.«01_k».proof.Proof.TileRead
public import Idealize.ShloMosaic.Lib.Claim
public import Idealize.ShloMosaic.Lib.Pipeline.ValueKit.Point

/-! The arrays prepared before the grid runs, entry by entry. -/

@[expose] public section
set_option maxRecDepth 16384
noncomputable section

namespace Cert.Host
open Idealize.ShloMosaic Idealize.ShloMosaic.TcCoe Idealize.SL.Sem Cert.KernelIdeal Cert.KernelIdeal.Gen

variable (m : (ℓ : Loc nD τ sig) → Buf (Elt Ideal) ℓ) (c : Dev nD)

/-- The decay logarithms repeated for the four chunks. -/
def alog4 : S1x128.Idx → EReal := V m c main_v23
/-- The output weight with the two gains. -/
def wg : S2048x1024.Idx → EReal := V m c main_v29
/-- The residual stream as a matrix. -/
def xr : S32768x1024.Idx → EReal := V m c main_v30
/-- The two triangular matrices. -/
def tri : S2x128x128.Idx → EReal := V m c main_v34
/-- The final gain as a row. -/
def fgr : S1x1024.Idx → EReal := V m c main_v35
/-- The one-hot matrices. -/
def sel : S4x256x2048.Idx → EReal := V m c main_v19
/-- An argument as launched. -/
def ar {s : Shape} (x : s.Idx → EReal) : s.Idx → EReal := x

/-- The tiled decay logarithms, entry by entry: the lane's direction and head. -/
theorem alog4_at (k : Fin 128) : alog4 m c (ix2 0 k)
    = ar (m (c.tc.loc main_arg9)) (ix2 (⟨k.val % 32 / 16, by omega⟩ : Fin 2) (⟨k.val % 16, by omega⟩ : Fin 16)) := by
  unfold alog4
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  pointwise [ar]
  have e : k.val % 32 % 16 = k.val % 16 := by omega
  simp only [e]

/-- The reshaped residual stream, entry by entry. -/
theorem xr_at (n : Fin 32768) (j : Fin 1024) : xr m c (ix2 n j)
    = ar (m (c.tc.loc main_arg8)) (ix3 (⟨n.val / 8192, by omega⟩ : Fin 4) (⟨n.val % 8192, by omega⟩ : Fin 8192) j) := by
  unfold xr
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  pointwise [ar]

/-- The reshaped gain of the last norm, entry by entry. -/
theorem fgr_at (j : Fin 1024) : fgr m c (ix2 0 j) = ar (m (c.tc.loc main_arg14)) (ix1 j) := by
  unfold fgr
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  pointwise [ar]

/-- The upper half of the output weight carries the scan norm's gain. -/
theorem wg_lo (k j : Fin 1024) : wg m c (ix2 (⟨k.val, by omega⟩ : Fin 2048) j)
    = ar (m (c.tc.loc main_arg13)) (ix3 0 (⟨k.val, by omega⟩ : Fin 2048) j) * ar (m (c.tc.loc main_arg11)) (ix1 k) := by
  unfold wg
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  pointwise [ar]
  after_results_simp

/-- The lower half of the output weight carries the attention norm's gain. -/
theorem wg_hi (k j : Fin 1024) : wg m c (ix2 (⟨1024 + k.val, by omega⟩ : Fin 2048) j)
    = ar (m (c.tc.loc main_arg13)) (ix3 0 (⟨1024 + k.val, by omega⟩ : Fin 2048) j) * ar (m (c.tc.loc main_arg12)) (ix1 k) := by
  unfold wg
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  pointwise [ar]
  after_results_simp

/-- The first triangle has ones on and below the diagonal. -/
theorem tri_lo (l s : Fin 128) : tri m c (ix3 0 l s) = if s ≤ l then (1 : EReal) else 0 := by
  unfold tri
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [StableHlo.TRef.ofBuf_toBuf, StableHlo.TRef.toBuf, StableHlo.TRef.ofBuf, cast_eq, id_eq]
  pointwise []
  rw [Tile.cmp_ge, Tile.select_decide]

/-- The second triangle has ones on and above the diagonal. -/
theorem tri_up (l s : Fin 128) : tri m c (ix3 1 l s) = if l ≤ s then (1 : EReal) else 0 := by
  unfold tri
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [StableHlo.TRef.ofBuf_toBuf, StableHlo.TRef.toBuf, StableHlo.TRef.ofBuf, cast_eq, id_eq]
  pointwise []
  rw [Tile.cmp_ge, Tile.select_decide]

/-- The remainder of a lane number, as words. -/
def remWord (x : BitVec 32) : BitVec 32 :=
  Scalar.select
    (IntOp.andi
      (IntOp.cmpi .ne
        (IntOp.cmpi .slt (IntOp.remsi .host x (Scalar.select (IntOp.cmpi .eq 128#32 0#32) 1#32 128#32)) 0#32)
        (IntOp.cmpi .slt (Scalar.select (IntOp.cmpi .eq 128#32 0#32) 1#32 128#32) 0#32))
      (IntOp.cmpi .ne (IntOp.remsi .host x (Scalar.select (IntOp.cmpi .eq 128#32 0#32) 1#32 128#32)) 0#32))
    (IntOp.addi (IntOp.remsi .host x (Scalar.select (IntOp.cmpi .eq 128#32 0#32) 1#32 128#32))
      (Scalar.select (IntOp.cmpi .eq 128#32 0#32) 1#32 128#32))
    (IntOp.remsi .host x (Scalar.select (IntOp.cmpi .eq 128#32 0#32) 1#32 128#32))

/-- The quotient of a column number, as words. -/
def floorWord (k : BitVec 32) : BitVec 32 :=
  Scalar.select
    (IntOp.andi
      (IntOp.cmpi .ne (if k = 0 then (0 : BitVec 32) else if k.msb = true then -1 else 1)
        (if 128#32 = 0 then (0 : BitVec 32) else if (128#32).msb = true then -1 else 1))
      (IntOp.cmpi .ne (IntOp.remsi .host k 128#32) 0#32))
    (IntOp.subi (IntOp.divsi .host k 128#32) 1#32)
    (IntOp.divsi .host k 128#32)

/-- The remainder by 128 computed on words is that of the numbers. -/
theorem rem_word : ∀ x : Fin 256, remWord (BitVec.ofNat 32 x) = BitVec.ofNat 32 (x.val % 128) := by decide +kernel
/-- The floor division by 128 computed on words is that of the numbers. -/
theorem floor_word : ∀ k : Fin 2048, floorWord (BitVec.ofNat 32 k) = BitVec.ofNat 32 (k.val / 128) := by decide +kernel
/-- The selector's column number computed on words is that of the numbers. -/
theorem sel_word (q : Fin 4) (k : Fin 2048) :
    IntOp.addi (IntOp.muli (IntOp.addi (IntOp.muli (BitVec.ofNat 32 ↑q) 2#32) 1#32) 16#32) (BitVec.ofNat 32 (k.val / 128))
      = BitVec.ofNat 32 (q.val * 32 + 16 + k.val / 128) := by
  have h : ∀ (q : Fin 4) (j : Fin 16), IntOp.addi (IntOp.muli (IntOp.addi (IntOp.muli (BitVec.ofNat 32 ↑q) 2#32) 1#32) 16#32)
      (BitVec.ofNat 32 j.val) = BitVec.ofNat 32 (q.val * 32 + 16 + j.val) := by decide +kernel
  exact h q ⟨k.val / 128, by omega⟩

/-- The selector has a one exactly where the row is the column that its lanes spread. -/
theorem sel_at (q : Fin 4) (x : Fin 256) (k : Fin 2048) : sel m c (ix3 q x k)
    = if x.val % 128 = q.val * 32 + 16 + k.val / 128 then (1 : EReal) else 0 := by
  unfold sel
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [StableHlo.TRef.ofBuf_toBuf, StableHlo.TRef.toBuf, StableHlo.TRef.ofBuf, cast_eq, id_eq]
  pointwise []
  change Scalar.select (IntOp.cmpi .eq (remWord (BitVec.ofNat 32 ↑x)) (IntOp.addi (IntOp.muli (IntOp.addi (IntOp.muli
    (BitVec.ofNat 32 ↑q) 2#32) 1#32) 16#32) (floorWord (BitVec.ofNat 32 ↑k)))) (1 : EReal) 0 = _
  rw [rem_word, floor_word, sel_word, WordCmp.cmpi_eq_ofNat (by omega) (by omega), Tile.select_decide]

end Cert.Host
-- ==== Proof.Pieces.lean ====
module

public import proofs.«01_k».proof.Proof.TileRead

/-! What the two scratch buffers read back as: the pieces stored in them are the tiles, each at its place. -/

@[expose] public section
set_option maxRecDepth 16384
noncomputable section

namespace Cert.Tile
open Idealize.ShloMosaic Idealize.SL.Sem Cert.KernelIdeal Cert.KernelIdeal.Gen
open scoped BigOperators

section Generic
variable {F : FTy → Type} [FloatOps F] [Named F]
variable (B : Blocks F) (Q : Sums F)

/-- A tile stored at its place in the scan's scratch. -/
def vpiece (P : Place) : View.Piece (Elt F) S512x1024 .f32 :=
  ⟨Rect.unit ![P.c * 128, P.col] S128x128.size (inb2 P.row_le P.col_le), shapeCast S128x128 (gated B Q P) shapeCasts_S128x128_S128x128⟩

/-- The place of a group's pair. -/
def place (c g u v : ℕ) (hc : c < 4) (hg : g < 2) (hu : u < 2) (hv : v < 2) : Place := ⟨c, g, u, v, hc, hg, hu, hv⟩

/-- The four tiles of a group on a chunk, the last stored first. -/
def vgroup (c g : ℕ) (hc : c < 4) (hg : g < 2) : List (View.Piece (Elt F) S512x1024 .f32) :=
  [vpiece B Q ⟨c, g, 1, 1, hc, hg, by decide, by decide⟩, vpiece B Q ⟨c, g, 1, 0, hc, hg, by decide, by decide⟩,
   vpiece B Q ⟨c, g, 0, 1, hc, hg, by decide, by decide⟩, vpiece B Q ⟨c, g, 0, 0, hc, hg, by decide, by decide⟩]

end Generic

variable (B : Blocks Ideal) (Q : Sums Ideal)

/-- The place an entry of the scratch belongs to. -/
def placeAt (r k : ℕ) (hr : r < 512) (hk : k < 1024) : Place :=
  ⟨r / 128, k / 512, k / 256 % 2, k / 128 % 2, by omega, by omega, by omega, by omega⟩

/-- The gated scan output at an entry of the scratch. -/
def scanAt (r k : ℕ) (hr : r < 512) (hk : k < 1024) : EReal :=
  gated B Q (placeAt r k hr hk) (ix2 ⟨r % 128, by omega⟩ ⟨k % 128, by omega⟩)

/-- The tile that a row and a column of the block belong to. -/
theorem placeAt_eq (P : Place) (l k : ℕ) (hl : l < 128) (hk : k < 128) (hr : P.c * 128 + l < 512) (hc : P.col + k < 1024) :
    placeAt (P.c * 128 + l) (P.col + k) hr hc = P := by
  obtain ⟨c, g, u, v, h1, h2, h3, h4⟩ := P
  simp only [placeAt, Place.col, Place.mk.injEq]
  omega

/-- The gated scan of the block at a place of a tile is the tile's entry. -/
theorem scanAt_eq (P : Place) (l k : Fin 128) (hr : P.c * 128 + l.val < 512) (hc : P.col + k.val < 1024) :
    scanAt B Q (P.c * 128 + l) (P.col + k) hr hc = gated B Q P (ix2 l k) := by
  unfold scanAt
  rw [placeAt_eq P l k l.isLt k.isLt]
  have e1 : (P.c * 128 + l.val) % 128 = l := by omega
  have e2 : (P.col + k.val) % 128 = k := by unfold Place.col; omega
  simp only [e1, e2]

/-- The scan's scratch as one function of its entries. -/
def scanF (y : S512x1024.Idx) : EReal := scanAt B Q (y 0).val (y 1).val (y 0).isLt (y 1).isLt

/-- A stored tile, entry by entry, is the gated scan at the place where it is stored. -/
theorem vpiece_apply (P : Place) (x : (vpiece B Q P).1.shape.Idx) :
    (vpiece B Q P).2 x = scanF B Q ((vpiece B Q P).1.emb x) := by
  have h : (vpiece B Q P).2 x = gated B Q P (ix2 (x 0) (x 1)) := by
    unfold vpiece
    show shapeCast S128x128 (gated B Q P) _ x = _
    obtain ⟨l, k, rfl⟩ : ∃ l k, x = ix2 l k := ⟨x 0, x 1, by funext a; fin_cases a <;> rfl⟩
    pointwise []
  rw [h]
  have hl : (x 0).val < 128 := (x 0).isLt
  have hk : (x 1).val < 128 := (x 1).isLt
  have := P.row_le; have := P.col_le
  rw [← scanAt_eq B Q P (x 0) (x 1) (by omega) (by omega)]
  unfold scanF
  congr 1
  · show P.c * 128 + (x 0).val = P.c * 128 + 1 * (x 0).val
    omega
  · show P.col + (x 1).val = P.col + 1 * (x 1).val
    omega

/-- Every piece of the list is a tile at its place. -/
def Tiles (L : List (View.Piece (Elt Ideal) S512x1024 .f32)) : Prop := ∀ p ∈ L, ∃ P, p = vpiece B Q P

/-- No piece is stored at first. -/
theorem tiles_nil : Tiles B Q [] := fun _ h => absurd h List.not_mem_nil

/-- Storing a group's four tiles keeps every piece a tile of the gated scan. -/
theorem tiles_group {L} (hL : Tiles B Q L) (c g : ℕ) (hc : c < 4) (hg : g < 2) : Tiles B Q (vgroup B Q c g hc hg ++ L) := by
  intro p hp
  rcases List.mem_append.mp hp with h | h
  · simp only [vgroup, List.mem_cons, List.not_mem_nil, or_false] at h
    rcases h with h | h | h | h <;> exact ⟨_, h⟩
  · exact hL p h

/-- A group's list contains each of its four tiles. -/
theorem group_mem (c g u v : ℕ) (hc : c < 4) (hg : g < 2) (hu : u < 2) (hv : v < 2) :
    vpiece B Q ⟨c, g, u, v, hc, hg, hu, hv⟩ ∈ vgroup B Q c g hc hg := by
  have e : (u = 0 ∨ u = 1) ∧ (v = 0 ∨ v = 1) := by omega
  obtain ⟨rfl | rfl, rfl | rfl⟩ := e <;> simp [vgroup]

/-- An index within a rectangle's bounds lies in the rectangle. -/
theorem mem2 {m n m' n' a b : ℕ} {inb} (y : (⟨2, ![m, n]⟩ : Shape).Idx) (h0 : a ≤ (y 0).val ∧ (y 0).val < a + m')
    (h1 : b ≤ (y 1).val ∧ (y 1).val < b + n') :
    y ∈ (Rect.unit (s := (⟨2, ![m, n]⟩ : Shape)) ![a, b] (⟨2, ![m', n']⟩ : Shape).size inb).set :=
  Rect.mem_set_unit.mpr fun i => by
    fin_cases i
    · exact h0
    · exact h1

/-- The scan's scratch, read back over a group just stored. -/
theorem readCov_group {κ : Kind} {sp : Space} (V : View sig κ sp S512x1024 .f32) {L} (hL : Tiles B Q L) (c g : ℕ) (hc : c < 4)
    (hg : g < 2) (l : Fin 128) (k : Fin 512) :
    V.readCov (vgroup B Q c g hc hg ++ L)
        (Rect.unit (s := S512x1024) ![c * 128, g * 512] S128x512.size (inb2 (by omega) (by omega))).toLoadRect (ix2 l k)
      = scanAt B Q (c * 128 + l) (g * 512 + k) (by omega) (by omega) := by
  rw [View.readCov_eq_canon']
  refine (View.canon_apply_of_pieces (scanF B Q) _ (fun p hp x => ?_) _ ?_).trans ?_
  · obtain ⟨P, rfl⟩ := tiles_group B Q hL c g hc hg p hp
    exact vpiece_apply B Q P x
  · refine ⟨_, List.mem_append_left _ (group_mem B Q c g (k.val / 256) (k.val / 128 % 2) hc hg (by omega) (by omega)), ?_⟩
    refine mem2 (inb := inb2 (Place.row_le _) (Place.col_le _)) _ ?_ ?_
    · show c * 128 ≤ c * 128 + 1 * l.val ∧ c * 128 + 1 * l.val < c * 128 + 128
      omega
    · show g * 512 + k.val / 256 * 256 + k.val / 128 % 2 * 128 ≤ g * 512 + 1 * k.val
        ∧ g * 512 + 1 * k.val < g * 512 + k.val / 256 * 256 + k.val / 128 % 2 * 128 + 128
      omega
  · unfold scanF
    congr 1
    · show c * 128 + 1 * l.val = _
      omega
    · show g * 512 + 1 * k.val = _
      omega

/-- A sum over 512 columns is the sum of four over 128. -/
theorem sum_four (f : Fin 512 → EReal) :
    (∑ p : Fin 128, f ⟨p, by omega⟩) + (∑ p : Fin 128, f ⟨128 + p, by omega⟩) + (∑ p : Fin 128, f ⟨256 + p, by omega⟩)
      + (∑ p : Fin 128, f ⟨384 + p, by omega⟩) = ∑ k, f k := by
  have h := Fin.sum_univ_add (a := 128) (b := 128 + 128 + 128) f
  rw [Fin.sum_univ_add (a := 128) (b := 128 + 128), Fin.sum_univ_add (a := 128) (b := 128)] at h
  refine Eq.trans ?_ h.symm
  rw [add_assoc, add_assoc]
  refine congrArg₂ _ rfl (congrArg₂ _ rfl (congrArg₂ _ ?_ ?_))
  · exact Finset.sum_congr rfl fun p _ => congrArg f (Fin.ext (by show 256 + p.val = 128 + (128 + p.val); omega))
  · exact Finset.sum_congr rfl fun p _ => congrArg f (Fin.ext (by show 384 + p.val = 128 + (128 + (128 + p.val)); omega))

/-- The normalised scan output at an entry of its scratch. -/
def normAt (r k : ℕ) (hr : r < 512) (hk : k < 1024) : EReal :=
  scanAt B Q r k hr hk * Ideal.rsqrt ((∑ j : Fin 512, scanAt B Q r (k / 512 * 512 + j) hr (by omega)
    * scanAt B Q r (k / 512 * 512 + j) hr (by omega)) * Ideal.ofBits .f32 0x3B000000#32 + Ideal.ofBits .f32 0x358637BD#32)

/-- The normalised scratch as one function of its entries. -/
def normF (y : S512x1024.Idx) : EReal := normAt B Q (y 0).val (y 1).val (y 0).isLt (y 1).isLt

/-- A piece of the normalised scratch: the group's tiles, read back and normalised. -/
def IsNormed (p : View.Piece (Elt Ideal) S512x1024 .bf16) (c g : ℕ) : Prop :=
  ∃ (hc : c < 4) (hg : g < 2) (κ : Kind) (sp : Space) (V : View sig κ sp S512x1024 .f32) (L : _) (_ : Tiles B Q L),
    p = ⟨Rect.unit ![c * 128, g * 512] S128x512.size (inb2 (by omega) (by omega)),
      normed (V.readCov (vgroup B Q c g hc hg ++ L)
        (Rect.unit (s := S512x1024) ![c * 128, g * 512] S128x512.size (inb2 (by omega) (by omega))).toLoadRect)
        (gated B Q ⟨c, g, 0, 0, hc, hg, by decide, by decide⟩) (gated B Q ⟨c, g, 0, 1, hc, hg, by decide, by decide⟩)
        (gated B Q ⟨c, g, 1, 0, hc, hg, by decide, by decide⟩) (gated B Q ⟨c, g, 1, 1, hc, hg, by decide, by decide⟩)⟩

/-- A normalised piece, entry by entry, is the norm of the gated scan where it is stored. -/
theorem normed_piece (p) (c g : ℕ) (h : IsNormed B Q p c g) (x : p.1.shape.Idx) : p.2 x = normF B Q (p.1.emb x) := by
  obtain ⟨hc, hg, κ, sp, V, L, hL, rfl⟩ := h
  obtain ⟨l, k, rfl⟩ : ∃ (l : Fin 128) (k : Fin 512), x = ix2 l k := ⟨x 0, x 1, by funext a; fin_cases a <;> rfl⟩
  refine (normed_at _ _ _ _ _ l k).trans ?_
  rw [readCov_group B Q V hL]
  have hs : ∀ (u v : ℕ) (hu : u < 2) (hv : v < 2) (j : Fin 128), gated B Q ⟨c, g, u, v, hc, hg, hu, hv⟩ (ix2 l j)
      = scanAt B Q (c * 128 + l) (g * 512 + (u * 256 + v * 128 + j)) (by omega) (by omega) := fun u v hu hv j => by
    rw [← scanAt_eq B Q ⟨c, g, u, v, hc, hg, hu, hv⟩ l j (by show c * 128 + _ < _; omega)
      (by show g * 512 + u * 256 + v * 128 + _ < _; omega)]
    congr 1
    show g * 512 + u * 256 + v * 128 + _ = _
    omega
  have key : normF B Q ((Rect.unit (s := S512x1024) ![c * 128, g * 512] S128x512.size (inb2 (by omega) (by omega))).emb (ix2 l k))
      = normAt B Q (c * 128 + l) (g * 512 + k) (by omega) (by omega) := by
    unfold normF
    congr 1
    · show c * 128 + 1 * l.val = _
      omega
    · show g * 512 + 1 * k.val = _
      omega
  refine Eq.trans ?_ key.symm
  unfold normAt
  have e : (g * 512 + k.val) / 512 * 512 = g * 512 := by omega
  simp only [e]
  rw [← sum_four]
  simp only [hs]
  simp only [Nat.zero_mul, Nat.one_mul, Nat.zero_add, Nat.add_zero]

/-- The normalised scratch, read back over two chunks. -/
theorem readCov_normed {κ : Kind} {sp : Space} (V : View sig κ sp S512x1024 .bf16) (L : List (View.Piece (Elt Ideal) S512x1024 .bf16))
    (hL : ∀ p ∈ L, ∃ c g, IsNormed B Q p c g) (r : ℕ) (hr : r + 256 ≤ 512) (l : Fin 256) (k : Fin 1024)
    (hcov : ∃ p ∈ L, IsNormed B Q p ((r + l) / 128) (k / 512)) :
    V.readCov L (Rect.unit (s := S512x1024) ![r, 0] S256x1024.size (inb2 hr (by omega))).toLoadRect (ix2 l k)
      = normAt B Q (r + l) k (by omega) (by omega) := by
  rw [View.readCov_eq_canon']
  refine (View.canon_apply_of_pieces (normF B Q) _ (fun p hp x => ?_) _ ?_).trans ?_
  · obtain ⟨c, g, h⟩ := hL p hp
    exact normed_piece B Q p c g h x
  · obtain ⟨p, hp, hc, hg, κ, sp, V, L, hL, rfl⟩ := hcov
    refine ⟨_, hp, mem2 (inb := inb2 (by omega) (by omega)) _ ?_ ?_⟩
    · show (r + l.val) / 128 * 128 ≤ r + 1 * l.val ∧ r + 1 * l.val < (r + l.val) / 128 * 128 + 128
      omega
    · show k.val / 512 * 512 ≤ 0 + 1 * k.val ∧ 0 + 1 * k.val < k.val / 512 * 512 + 512
      omega
  · unfold normF
    congr 1
    · show r + 1 * l.val = _
      omega
    · show 0 + 1 * k.val = _
      omega

end Cert.Tile
-- ==== Proof.TileValue.lean ====
module

public import proofs.«01_k».proof.Proof.TileRead

/-! The value of a tile: the two causal sums, the two state read-outs and the skip term, gated. -/

@[expose] public section
set_option maxRecDepth 16384
noncomputable section

namespace Cert.Tile
open Idealize.ShloMosaic Idealize.SL.Sem Cert.KernelIdeal Cert.KernelIdeal.Gen Cert.Scalars
open scoped BigOperators

/-- One column of a row of the kernel's scores, times the scan's input, is the two directions' terms and, on the
    diagonal, the skip term. -/
theorem row_split (l s : Fin 128) (c cd : EReal) (hcd : l = s → cd = c) (fl fs bl bs df db w x : ℝ) (hf : 0 ≤ df) (hb : 0 ≤ db)
    (hfl : l = s → fl = fs) (hbl : l = s → bl = bs) :
    ((if l = s then (0 : EReal) else c)
        * Ideal.exp2 (if s ≤ l then ((fl * lg : ℝ) : EReal) - (((fs * lg : ℝ) : EReal) - Ideal.log (df : EReal) * (lg : EReal))
            else ((bl * lg : ℝ) : EReal) - (((bs * lg : ℝ) : EReal) - Ideal.log (db : EReal) * (lg : EReal)))
      + (if l = s then (1 : EReal) else 0) * (cd * ((df : EReal) + (db : EReal)) + (w : EReal))) * (x : EReal)
    = (x : EReal) * (df : EReal) * (c * Ideal.exp (if s ≤ l then (fl : EReal) - (fs : EReal) else ⊥))
      + (x : EReal) * (db : EReal) * (c * Ideal.exp (if l ≤ s then (bl : EReal) - (bs : EReal) else ⊥))
      + (if l = s then (w : EReal) * (x : EReal) else 0) := by
  have hbot : Ideal.exp ⊥ = 0 := rfl
  have hone : Ideal.exp ((0 : ℝ) : EReal) = 1 := by
    show ((Real.exp 0 : ℝ) : EReal) = 1
    rw [Real.exp_zero, EReal.coe_one]
  rcases lt_trichotomy l s with h | h | h
  · rw [if_neg h.ne, if_neg h.ne, if_neg h.ne, if_neg h.not_ge, if_neg h.not_ge, if_pos h.le, exp2_row _ _ _ hb, hbot]
    simp only [mul_zero, zero_mul, zero_add, add_zero]
    rw [mul_comm (c * _), ← mul_assoc c, mul_comm (c * _) (db : EReal), ← mul_assoc]
  · subst h
    rw [hcd rfl, if_pos rfl, if_pos rfl, if_pos rfl, if_pos le_rfl, if_pos le_rfl, if_pos le_rfl, hfl rfl, hbl rfl,
      ← EReal.coe_sub, ← EReal.coe_sub, sub_self, sub_self, hone, zero_mul, zero_add, one_mul, mul_one]
    exact diag_split c df db w x hf hb
  · rw [if_neg h.ne', if_neg h.ne', if_neg h.ne', if_pos h.le, if_pos h.le, if_neg h.not_ge, exp2_row _ _ _ hf, hbot]
    simp only [mul_zero, zero_mul, add_zero]
    rw [mul_comm (c * _), ← mul_assoc c, mul_comm (c * _) (df : EReal), ← mul_assoc]

variable {B : Blocks Ideal} (T : Steps B) (P : Place)

/-- The lane of the forward sums of the head a column of the tile belongs to. -/
def laneF (p : Fin 128) : Fin 128 := ⟨P.c * 32 + P.hd + half p, by have := hF P (half_lt p); omega⟩
/-- The lane of the backward sums of that head. -/
def laneB (p : Fin 128) : Fin 128 := ⟨P.c * 32 + P.hd + half p + 16, by have := hB P (half_lt p); omega⟩

/-- A causal sum of one column with its state read-out, the mask a relation of the rows. -/
def causal (m : Fin 128 → Prop) [DecidablePred m] (x : Fin 128 → EReal) (d cs : Fin 128 → ℝ) (c : Fin 128 → EReal) (l : Fin 128)
    (st : EReal) : EReal :=
  ∑ s : Fin 128, x s * (d s : EReal) * (c s * Ideal.exp (if m s then ((cs l : ℝ) : EReal) - ((cs s : ℝ) : EReal) else ⊥))
    + st * Ideal.exp (cs l : EReal)

/-- A tile of the gated scan is the specified gated scan. -/
theorem gated_value
    (hsel : ∀ (x k : Fin 256), B.selb (Rect.unit ![P.c, 0, P.hd * 128] S1x256x256.size
      (inb3 (by have := P.hc; omega) (by omega) (by have := P.hd_lt; omega))) (ix3 0 x k)
        = if x.val % 128 = P.c * 32 + 16 + P.hd + k.val / 128 then (1 : EReal) else 0)
    (l p : Fin 128) (x : Fin 128 → ℝ) (hx : ∀ s, xst B P (ix2 s p) = ((x s : ℝ) : EReal))
    (w : ℝ) (hw : dsk B (P.hd + half p) (by have := P.hd_lt; have := half_lt p; omega) = ((w : ℝ) : EReal)) :
    gated B (sums B) P (ix2 l p)
      = (causal (· ≤ l) (fun s => (x s : EReal)) (T.d · (laneF P p)) (csum T · (laneF P p)) (cb B P l) l
            (csf B P (ix2 l ⟨P.v * 128 + p, by have := P.hv; omega⟩))
          + causal (l ≤ ·) (fun s => (x s : EReal)) (T.d · (laneB P p)) (csum T · (laneB P p)) (cb B P l) l
            (csb B P (ix2 l ⟨P.v * 128 + p, by have := P.hv; omega⟩))
          + (w : EReal) * (x l : EReal)) * zt B P (ix2 l p) := by
  rw [gated_at]
  refine congrArg (· * _) ?_
  have hcol : ∀ l, (sums B).col (ix2 l (laneF P p)) = ((csum T l (laneF P p) * lg : ℝ) : EReal) := fun l => colq_at T l _
  have hcolb : ∀ s : Fin 128, colb B (sums B) P (ix2 l ⟨half p * 128 + s, by have := half_lt p; omega⟩)
      = ((csum T l (laneB P p) * lg : ℝ) : EReal) := fun s => by
    rw [colb_at (sums B) P T rfl hsel]
    have e : (half p * 128 + s.val) / 128 = half p := by omega
    simp only [e]; rfl
  have hrowF : ∀ s, (sums B).row (ix2 (laneF P p) s) = _ := fun s => rowq_at T _ s
  have hrowB : ∀ s, (sums B).row (ix2 (laneB P p) s) = _ := fun s => rowq_at T _ s
  have hdF : ∀ s, (sums B).dtr (ix2 (laneF P p) s) = _ := fun s => dtr_at T _ s
  have hdB : ∀ s, (sums B).dtr (ix2 (laneB P p) s) = _ := fun s => dtr_at T _ s
  have hs : ∀ s : Fin 128, score B (sums B) P (half p) (half_lt p) (ix2 l s) * xst B P (ix2 s p)
      = (x s : EReal) * (T.d s (laneF P p) : EReal) * (cb B P l s * Ideal.exp (if s ≤ l then (csum T l (laneF P p) : EReal)
            - (csum T s (laneF P p) : EReal) else ⊥))
        + (x s : EReal) * (T.d s (laneB P p) : EReal) * (cb B P l s * Ideal.exp (if l ≤ s then (csum T l (laneB P p) : EReal)
            - (csum T s (laneB P p) : EReal) else ⊥))
        + (if l = s then (w : EReal) * (x s : EReal) else 0) := fun s => by
    rw [score_at, hx, hw, hcolb]
    change ((if l = s then (0 : EReal) else cb B P l s)
        * Ideal.exp2 (if s ≤ l then (sums B).col (ix2 l (laneF P p)) - (sums B).row (ix2 (laneF P p) s)
          else ((csum T l (laneB P p) * lg : ℝ) : EReal) - (sums B).row (ix2 (laneB P p) s))
      + (if l = s then (1 : EReal) else 0) * (cb B P s s * ((sums B).dtr (ix2 (laneF P p) s) + (sums B).dtr (ix2 (laneB P p) s))
          + (w : EReal))) * (x s : EReal) = _
    rw [hcol, hrowF, hrowB, hdF, hdB]
    exact row_split l s (cb B P l s) (cb B P s s) (fun h => by rw [h]) _ _ _ _ _ _ w (x s) (T.nonneg s _) (T.nonneg s _)
      (fun h => by rw [h]) (fun h => by rw [h])
  rw [Finset.sum_congr rfl fun s _ => hs s, Finset.sum_add_distrib, Finset.sum_add_distrib, Finset.sum_ite_eq, if_pos (Finset.mem_univ l)]
  change _ + (_ * Ideal.exp2 ((sums B).col (ix2 l (laneF P p))) + _) = _
  rw [hcol, hcolb, exp2_lg, exp2_lg]
  unfold causal
  abel

end Cert.Tile
-- ==== Proof.Block.lean ====
module

public import proofs.«01_k».proof.Proof.Pieces
public import proofs.«01_k».proof.Proof.TileValue
public import Idealize.ShloMosaic.Lib.Pipeline.ValueKit.Tiles

/-! One grid point's result as a function of the fifteen blocks it reads, entry by entry. -/

@[expose] public section
set_option maxRecDepth 16384
noncomputable section

namespace Cert.Tile
open Idealize.ShloMosaic Idealize.SL.Sem Cert.KernelIdeal Cert.KernelIdeal.Gen
open scoped BigOperators

/-- The contents of the fifteen blocks. -/
structure Inputs where
  alog : Vec Ideal S1x128 .f32
  dskip : Vec Ideal S16 .f32
  selb : Vec Ideal S4x256x2048 .bf16
  tril : Vec Ideal S2x128x128 .bf16
  xs : Vec Ideal S512x1024 .bf16
  bm : Vec Ideal S512x256 .bf16
  cm : Vec Ideal S512x256 .bf16
  dt : Vec Ideal S128x128 .f32
  z : Vec Ideal S512x1024 .bf16
  sf : Vec Ideal S4x256x512 .bf16
  sb : Vec Ideal S4x256x512 .bf16
  ya : Vec Ideal S512x1024 .bf16
  x : Vec Ideal S512x1024 .f32
  w : Vec Ideal S2048x1024 .bf16
  fg : Vec Ideal S1x1024 .f32

variable (X : Inputs)

/-- The loads of the blocks with these contents. -/
def Inputs.loads : Blocks Ideal := ⟨View.ld X.alog, View.ld X.dskip, View.ld X.selb, View.ld X.tril, View.ld X.xs, View.ld X.bm,
  View.ld X.cm, View.ld X.dt, View.ld X.z, View.ld X.sf, View.ld X.sb, View.ld X.ya, View.ld X.x, View.ld X.w, View.ld X.fg⟩

/-- A load of a rectangle of a matrix, entry by entry. -/
theorem ld2 {e : EltTy} {m n m' n' a b : ℕ} (Y : (⟨2, ![m, n]⟩ : Shape).Idx → Elt Ideal e) (inb) (l : Fin m') (k : Fin n')
    (hl : a + l < m) (hk : b + k < n) :
    View.ld Y (Rect.unit (s := (⟨2, ![m, n]⟩ : Shape)) ![a, b] (⟨2, ![m', n']⟩ : Shape).size inb) (ix2 l k)
      = Y (ix2 ⟨a + l, hl⟩ ⟨b + k, hk⟩) :=
  View.ld_unit_apply_of Y _ _ inb _ _ fun i => by fin_cases i <;> rfl

/-- A load of a block of a stack of matrices, entry by entry. -/
theorem ld3 {e : EltTy} {p m n p' m' n' c a b : ℕ} (Y : (⟨3, ![p, m, n]⟩ : Shape).Idx → Elt Ideal e) (inb) (q : Fin p') (l : Fin m')
    (k : Fin n') (hq : c + q < p) (hl : a + l < m) (hk : b + k < n) :
    View.ld Y (Rect.unit (s := (⟨3, ![p, m, n]⟩ : Shape)) ![c, a, b] (⟨3, ![p', m', n']⟩ : Shape).size inb) (ix3 q l k)
      = Y (ix3 ⟨c + q, hq⟩ ⟨a + l, hl⟩ ⟨b + k, hk⟩) :=
  View.ld_unit_apply_of Y _ _ inb _ _ fun i => by fin_cases i <;> rfl

/-- The residual stream after the projection, at an entry of the block. -/
def hidAt (r : Fin 512) (j : Fin 1024) : EReal :=
  X.x (ix2 r j) + (∑ k : Fin 1024, normAt X.loads (sums X.loads) r k r.isLt k.isLt * X.w (ix2 (⟨k.val, by omega⟩ : Fin 2048) j)
    + ∑ k : Fin 1024, X.ya (ix2 r k) * X.w (ix2 (⟨1024 + k.val, by omega⟩ : Fin 2048) j))

/-- The result at an entry of the block. -/
def outAt (r : Fin 512) (j : Fin 1024) : EReal :=
  hidAt X r j * Ideal.rsqrt (Ideal.div (∑ i : Fin 1024, hidAt X r i * hidAt X r i) (Ideal.ofBits .f32 0x44800000#32)
    + Ideal.ofBits .f32 0x358637BD#32) * X.fg (ix2 0 j)

/-- An entry of one half of the projected, normalised output, from the entries of its rows. -/
theorem projected_at (B : Blocks Ideal) (Y : Vec Ideal S256x1024 .bf16) (r : ℕ) (hr : r + 256 ≤ 512) (l : Fin 256) (h : Fin 1024 → EReal)
    (hh : ∀ i : Fin 1024, h i = B.x (Rect.unit ![r, 0] S256x1024.size (inb2 hr (by omega))) (ix2 l i)
      + (∑ k : Fin 1024, Y (ix2 l k) * B.w (Rect.unit ![0, 0] S1024x1024.size inb_S2048x1024_S1024x1024_0_0) (ix2 k i)
        + ∑ k : Fin 1024, B.ya (Rect.unit ![r, 0] S256x1024.size (inb2 hr (by omega))) (ix2 l k)
          * B.w (Rect.unit ![1024, 0] S1024x1024.size inb_S2048x1024_S1024x1024_1024_0) (ix2 k i))) (j : Fin 1024) :
    projected B Y r hr (ix2 l j) = h j * Ideal.rsqrt (Ideal.div (∑ i : Fin 1024, h i * h i) (Ideal.ofBits .f32 0x44800000#32)
      + Ideal.ofBits .f32 0x358637BD#32) * B.fg (Rect.unit ![0, 0] S1x1024.size inb_S1x1024_S1x1024_0_0) (ix2 0 j) := by
  pointwise [projected, k0_pay1, k0_pay406]
  simp only [hh]

/-- The output half as computed from the blocks that a grid step reads. -/
theorem projected_loads (Y : Vec Ideal S256x1024 .bf16) (r : ℕ) (hr : r + 256 ≤ 512)
    (hY : ∀ (l : Fin 256) (k : Fin 1024), Y (ix2 l k) = normAt X.loads (sums X.loads) (r + l) k (by omega) k.isLt)
    (l : Fin 256) (j : Fin 1024) : projected X.loads Y r hr (ix2 l j) = outAt X (⟨r + l.val, by omega⟩ : Fin 512) j := by
  refine (projected_at X.loads Y r hr l (hidAt X (⟨r + l.val, by omega⟩ : Fin 512)) (fun i => ?_) j).trans ?_
  · have e1 : ∀ i : Fin 1024, X.loads.x (Rect.unit ![r, 0] S256x1024.size (inb2 hr (by omega))) (ix2 l i) = X.x (ix2 (⟨r + l.val, by omega⟩ : Fin 512) i) :=
      fun i => (ld2 X.x _ l i (by omega) (by omega)).trans (by simp only [Nat.zero_add])
    have e2 : ∀ i : Fin 1024, X.loads.ya (Rect.unit ![r, 0] S256x1024.size (inb2 hr (by omega))) (ix2 l i) = X.ya (ix2 (⟨r + l.val, by omega⟩ : Fin 512) i) :=
      fun i => (ld2 X.ya _ l i (by omega) (by omega)).trans (by simp only [Nat.zero_add])
    have e3 : ∀ k i : Fin 1024, X.loads.w (Rect.unit ![0, 0] S1024x1024.size inb_S2048x1024_S1024x1024_0_0) (ix2 k i)
        = X.w (ix2 (⟨k.val, by omega⟩ : Fin 2048) i) :=
      fun k i => (ld2 X.w _ k i (by omega) (by omega)).trans (by simp only [Nat.zero_add])
    have e4 : ∀ k i : Fin 1024, X.loads.w (Rect.unit ![1024, 0] S1024x1024.size inb_S2048x1024_S1024x1024_1024_0) (ix2 k i)
        = X.w (ix2 (⟨1024 + k.val, by omega⟩ : Fin 2048) i) :=
      fun k i => (ld2 X.w _ k i (by omega) (by omega)).trans (by simp only [Nat.zero_add])
    simp only [e1, e2, e3, e4, hY]
    rfl
  · have e5 : X.loads.fg (Rect.unit ![0, 0] S1x1024.size inb_S1x1024_S1x1024_0_0) (ix2 0 j) = X.fg (ix2 0 j) :=
      (ld2 X.fg _ 0 j (by decide) (by omega)).trans (by simp only [Nat.zero_add])
    rw [e5]
    rfl

end Cert.Tile
-- ==== Proof.Spec.lean ====
module

public import Idealize.ShloMosaic.Lib.Pointwise

/-! The layer's last part, entry by entry, over the extended reals: the two causal sums of a chunk, their state
read-outs, the skip term and the gate; the group norm; the output projection with its residual; the final norm. -/

@[expose] public section
noncomputable section

namespace Cert.Spec
open Idealize.ShloMosaic
open scoped BigOperators

/-- The fifteen arguments. -/
structure Args where
  xs : (⟨2, ![32768, 1024]⟩ : Shape).Idx → EReal
  bm : (⟨2, ![32768, 256]⟩ : Shape).Idx → EReal
  cm : (⟨2, ![32768, 256]⟩ : Shape).Idx → EReal
  dt : (⟨2, ![128, 8192]⟩ : Shape).Idx → EReal
  z : (⟨2, ![32768, 1024]⟩ : Shape).Idx → EReal
  sf : (⟨3, ![256, 256, 512]⟩ : Shape).Idx → EReal
  sb : (⟨3, ![256, 256, 512]⟩ : Shape).Idx → EReal
  ya : (⟨2, ![32768, 1024]⟩ : Shape).Idx → EReal
  x : (⟨3, ![4, 8192, 1024]⟩ : Shape).Idx → EReal
  alog : (⟨2, ![2, 16]⟩ : Shape).Idx → EReal
  dskip : (⟨1, ![16]⟩ : Shape).Idx → EReal
  sg : (⟨1, ![1024]⟩ : Shape).Idx → EReal
  ag : (⟨1, ![1024]⟩ : Shape).Idx → EReal
  wo : (⟨3, ![1, 2048, 1024]⟩ : Shape).Idx → EReal
  fg : (⟨1, ![1024]⟩ : Shape).Idx → EReal

variable (A : Args)

/-- A row of a chunk. -/
def row (q : Fin 256) (l : Fin 128) : Fin 32768 := ⟨q.val * 128 + l.val, by omega⟩
/-- A head of a group. -/
def hd (g : Fin 2) (h : Fin 8) : Fin 16 := ⟨g.val * 8 + h.val, by omega⟩
/-- A lane of a head. -/
def lane (g : Fin 2) (h : Fin 8) (p : Fin 64) : Fin 1024 := ⟨g.val * 512 + h.val * 64 + p.val, by omega⟩
/-- A state index of a group. -/
def st (g : Fin 2) (n : Fin 128) : Fin 256 := ⟨g.val * 128 + n.val, by omega⟩

/-- The negated decay rate of a direction's head. -/
def decay (d : Fin 2) (h : Fin 16) : EReal := -Ideal.exp (A.alog (ix2 d h))
/-- The step size at a row of a chunk. -/
def step (q : Fin 256) (d : Fin 2) (h : Fin 16) (l : Fin 128) : EReal :=
  A.dt (ix2 l (⟨q.val * 32 + d.val * 16 + h.val, by omega⟩ : Fin 8192))
/-- The log decay up to a row. -/
def cumF (q : Fin 256) (h : Fin 16) (l : Fin 128) : EReal :=
  ∑ t : Fin 128, if t ≤ l then step A q 0 h t * decay A 0 h else 0
/-- The log decay from a row on. -/
def cumB (q : Fin 256) (h : Fin 16) (l : Fin 128) : EReal :=
  ∑ t : Fin 128, if l ≤ t then step A q 1 h t * decay A 1 h else 0
/-- The score product of two rows. -/
def prod (q : Fin 256) (g : Fin 2) (l s : Fin 128) : EReal :=
  ∑ n : Fin 128, A.cm (ix2 (row q l) (st g n)) * A.bm (ix2 (row q s) (st g n))

/-- A causal sum of a chunk's rows with its state read-out; the mask is a relation of the rows. -/
def causal (m : Fin 128 → Prop) [DecidablePred m] (x d cs c : Fin 128 → EReal) (l : Fin 128) (r : EReal) : EReal :=
  ∑ s : Fin 128, x s * d s * (c s * Ideal.exp (if m s then cs l - cs s else ⊥)) + r * Ideal.exp (cs l)

/-- The forward scan's output. -/
def fwd (q : Fin 256) (l : Fin 128) (g : Fin 2) (h : Fin 8) (p : Fin 64) : EReal :=
  causal (· ≤ l) (fun s => A.xs (ix2 (row q s) (lane g h p))) (step A q 0 (hd g h)) (cumF A q (hd g h)) (prod A q g l) l
    (∑ n : Fin 128, A.cm (ix2 (row q l) (st g n)) * A.sf (ix3 q (st g n) (⟨h.val * 64 + p.val, by omega⟩ : Fin 512)))
/-- The backward scan's output. -/
def bwd (q : Fin 256) (l : Fin 128) (g : Fin 2) (h : Fin 8) (p : Fin 64) : EReal :=
  causal (l ≤ ·) (fun s => A.xs (ix2 (row q s) (lane g h p))) (step A q 1 (hd g h)) (cumB A q (hd g h)) (prod A q g l) l
    (∑ n : Fin 128, A.cm (ix2 (row q l) (st g n)) * A.sb (ix3 q (st g n) (⟨h.val * 64 + p.val, by omega⟩ : Fin 512)))
/-- Both scans with the skip term, gated. -/
def scan (q : Fin 256) (l : Fin 128) (g : Fin 2) (h : Fin 8) (p : Fin 64) : EReal :=
  (fwd A q l g h p + bwd A q l g h p + A.dskip (ix1 (hd g h)) * A.xs (ix2 (row q l) (lane g h p)))
    * A.z (ix2 (row q l) (lane g h p))
/-- The gated scan at a row and a lane. -/
def scanR (n : Fin 32768) (k : Fin 1024) : EReal :=
  scan A ⟨n.val / 128, by omega⟩ ⟨n.val % 128, by omega⟩ ⟨k.val / 512, by omega⟩ ⟨k.val / 64 % 8, by omega⟩ ⟨k.val % 64, by omega⟩
/-- The sum of squares of a group of lanes. -/
def squares (n : Fin 32768) (g : Fin 2) : EReal :=
  ∑ j : Fin 512, scanR A n (⟨g.val * 512 + j.val, by omega⟩ : Fin 1024) * scanR A n (⟨g.val * 512 + j.val, by omega⟩ : Fin 1024)
/-- The residual stream after the projection. -/
def hid (n : Fin 32768) (j : Fin 1024) : EReal :=
  A.x (ix3 (⟨n.val / 8192, by omega⟩ : Fin 4) (⟨n.val % 8192, by omega⟩ : Fin 8192) j)
    + (∑ k : Fin 1024, scanR A n k
          * Ideal.rsqrt (Ideal.div (squares A n ⟨k.val / 512, by omega⟩) (Ideal.ofBits .f32 0x44000000#32) + Ideal.ofBits .f32 0x358637BD#32)
          * A.sg (ix1 k) * A.wo (ix3 0 (⟨k.val, by omega⟩ : Fin 2048) j)
        + ∑ k : Fin 1024, A.ya (ix2 n k) * A.ag (ix1 k) * A.wo (ix3 0 (⟨1024 + k.val, by omega⟩ : Fin 2048) j))
/-- The layer's output. -/
def out (n : Fin 32768) (j : Fin 1024) : EReal :=
  hid A n j * Ideal.rsqrt (Ideal.div (∑ i : Fin 1024, hid A n i * hid A n i) (Ideal.ofBits .f32 0x44800000#32)
    + Ideal.ofBits .f32 0x358637BD#32) * A.fg (ix1 j)

end Cert.Spec
-- ==== Proof.Equation.lean ====
module

public import proofs.«01_k».proof.Proof.Block
public import proofs.«01_k».proof.Proof.Spec

/-! A grid point's result is the layer's, entry by entry, whenever its fifteen blocks hold the point's part of the arguments
and the arguments are admissible. -/

@[expose] public section
set_option maxRecDepth 16384
noncomputable section

namespace Cert.Equation
open Idealize.ShloMosaic Idealize.SL.Sem Cert.KernelIdeal Cert.KernelIdeal.Gen Cert.Tile
open scoped BigOperators

/-- The row of the whole sequence at a row of a grid point's block. -/
def rowAt (t : Fin 64) (r : Fin 512) : Fin 32768 := ⟨t.val * 512 + r.val, by omega⟩
/-- The chunk of the whole sequence at a chunk of a grid point's block. -/
def chunkAt (t : Fin 64) (q : Fin 4) : Fin 256 := ⟨t.val * 4 + q.val, by omega⟩

/-- The blocks of a grid point hold its part of the arguments. -/
structure Reads (X : Inputs) (A : Spec.Args) (t : Fin 64) : Prop where
  alog : ∀ k : Fin 128, X.alog (ix2 0 k) = A.alog (ix2 (⟨k.val % 32 / 16, by omega⟩ : Fin 2) (⟨k.val % 16, by omega⟩ : Fin 16))
  dskip : ∀ h : Fin 16, X.dskip (ix1 h) = A.dskip (ix1 h)
  selb : ∀ (q : Fin 4) (x : Fin 256) (k : Fin 2048), X.selb (ix3 q x k) = if x.val % 128 = q.val * 32 + 16 + k.val / 128 then (1 : EReal) else 0
  lo : ∀ l s : Fin 128, X.tril (ix3 0 l s) = if s ≤ l then (1 : EReal) else 0
  up : ∀ l s : Fin 128, X.tril (ix3 1 l s) = if l ≤ s then (1 : EReal) else 0
  xs : ∀ (r : Fin 512) (j : Fin 1024), X.xs (ix2 r j) = A.xs (ix2 (rowAt t r) j)
  bm : ∀ (r : Fin 512) (j : Fin 256), X.bm (ix2 r j) = A.bm (ix2 (rowAt t r) j)
  cm : ∀ (r : Fin 512) (j : Fin 256), X.cm (ix2 r j) = A.cm (ix2 (rowAt t r) j)
  dt : ∀ l k : Fin 128, X.dt (ix2 l k) = A.dt (ix2 l (⟨t.val * 128 + k.val, by omega⟩ : Fin 8192))
  z : ∀ (r : Fin 512) (j : Fin 1024), X.z (ix2 r j) = A.z (ix2 (rowAt t r) j)
  sf : ∀ (q : Fin 4) (n : Fin 256) (k : Fin 512), X.sf (ix3 q n k) = A.sf (ix3 (chunkAt t q) n k)
  sb : ∀ (q : Fin 4) (n : Fin 256) (k : Fin 512), X.sb (ix3 q n k) = A.sb (ix3 (chunkAt t q) n k)
  ya : ∀ (r : Fin 512) (j : Fin 1024), X.ya (ix2 r j) = A.ya (ix2 (rowAt t r) j)
  x : ∀ (r : Fin 512) (j : Fin 1024), X.x (ix2 r j)
    = A.x (ix3 (⟨(rowAt t r).val / 8192, by omega⟩ : Fin 4) (⟨(rowAt t r).val % 8192, by omega⟩ : Fin 8192) j)
  wlo : ∀ k j : Fin 1024, X.w (ix2 (⟨k.val, by omega⟩ : Fin 2048) j) = A.wo (ix3 0 (⟨k.val, by omega⟩ : Fin 2048) j) * A.sg (ix1 k)
  whi : ∀ k j : Fin 1024, X.w (ix2 (⟨1024 + k.val, by omega⟩ : Fin 2048) j)
    = A.wo (ix3 0 (⟨1024 + k.val, by omega⟩ : Fin 2048) j) * A.ag (ix1 k)
  fg : ∀ j : Fin 1024, X.fg (ix2 0 j) = A.fg (ix1 j)

/-- The scan's input, the step sizes, the decay rates and the skip weights are reals, and the step sizes are not negative. -/
structure Admits (A : Spec.Args) : Prop where
  xs : ∀ i, A.xs i = ((A.xs i).toReal : EReal)
  dt : ∀ i, A.dt i = ((A.dt i).toReal : EReal)
  nonneg : ∀ i, 0 ≤ (A.dt i).toReal
  alog : ∀ i, Ideal.exp (A.alog i) = ((Ideal.exp (A.alog i)).toReal : EReal)
  dskip : ∀ i, A.dskip i = ((A.dskip i).toReal : EReal)

variable {X : Inputs} {A : Spec.Args} {t : Fin 64} (R : Reads X A t) (H : Admits A)

/-- The steps of a grid point. -/
def steps : Steps X.loads where
  d l k := (A.dt (ix2 l (⟨t.val * 128 + k.val, by omega⟩ : Fin 8192))).toReal
  A k := (Ideal.exp (A.alog (ix2 (⟨k.val % 32 / 16, by omega⟩ : Fin 2) (⟨k.val % 16, by omega⟩ : Fin 16)))).toReal
  nonneg _ _ := H.nonneg _
  hd l k := by
    rw [← H.dt, ← R.dt]
    exact (ld2 X.dt _ l k (by omega) (by omega)).trans (by simp only [Nat.zero_add])
  hA k := by
    rw [← H.alog, ← R.alog]
    exact congrArg Ideal.exp ((ld2 X.alog _ 0 k (by decide) (by omega)).trans (by simp only [Nat.zero_add]))
  lo l s := by
    rw [← R.lo]
    exact (ld3 X.tril _ 0 l s (by decide) (by omega) (by omega)).trans (by simp only [Nat.zero_add]; rfl)
  up l s := by
    rw [← R.up]
    exact (ld3 X.tril _ 0 l s (by decide) (by omega) (by omega)).trans (by simp only [Nat.zero_add]; rfl)

variable (P : Place)

/-- The place's chunk of the whole sequence. -/
def chunk (t : Fin 64) (P : Place) : Fin 256 := ⟨t.val * 4 + P.c, by have := P.hc; omega⟩
/-- The head, within its group, of a column of the place's tile. -/
def head (P : Place) (p : Fin 128) : Fin 8 := ⟨P.u * 4 + P.v * 2 + half p, by have := P.hu; have := P.hv; have := half_lt p; omega⟩
/-- The place's group. -/
def group (P : Place) : Fin 2 := ⟨P.g, P.hg⟩
/-- A column of the place's tile, within its head. -/
def lan (p : Fin 128) : Fin 64 := ⟨p.val % 64, by omega⟩

include R in
/-- An entry of the tile of the scan's input is the argument's entry at that row and lane. -/
theorem xst_at (s p : Fin 128) : xst X.loads P (ix2 s p) = A.xs (ix2 (Spec.row (chunk t P) s) (Spec.lane (group P) (head P p) (lan p))) := by
  have hc := P.hc; have hg := P.hg; have hu := P.hu; have hv := P.hv
  refine (ld2 X.xs _ s p (by omega) (by unfold Place.col; omega)).trans ((R.xs _ _).trans ?_)
  congr 2
  · refine Fin.ext ?_
    dsimp only [rowAt, Spec.row, chunk]; omega
  · refine Fin.ext ?_
    dsimp only [Spec.lane, group, head, lan, half, Place.col]; omega

include R in
/-- An entry of the tile of the gate is the argument's entry at that row and lane. -/
theorem zt_at (s p : Fin 128) : zt X.loads P (ix2 s p) = A.z (ix2 (Spec.row (chunk t P) s) (Spec.lane (group P) (head P p) (lan p))) := by
  have hc := P.hc; have hg := P.hg; have hu := P.hu; have hv := P.hv
  refine (ld2 X.z _ s p (by omega) (by unfold Place.col; omega)).trans ((R.z _ _).trans ?_)
  congr 2
  · refine Fin.ext ?_
    dsimp only [rowAt, Spec.row, chunk]; omega
  · refine Fin.ext ?_
    dsimp only [Spec.lane, group, head, lan, half, Place.col]; omega

include R in
/-- An entry of the tile of C is the argument's entry for the chunk and group. -/
theorem cmg_at (s n : Fin 128) : cmg X.loads P (ix2 s n) = A.cm (ix2 (Spec.row (chunk t P) s) (Spec.st (group P) n)) := by
  have hc := P.hc; have hg := P.hg
  refine (ld2 X.cm _ s n (by omega) (by omega)).trans ((R.cm _ _).trans ?_)
  congr 2
  refine Fin.ext ?_
  dsimp only [rowAt, Spec.row, chunk]; omega

include R in
/-- An entry of the tile of B is the argument's entry for the chunk and group. -/
theorem bmg_at (s n : Fin 128) : bmg X.loads P (ix2 s n) = A.bm (ix2 (Spec.row (chunk t P) s) (Spec.st (group P) n)) := by
  have hc := P.hc; have hg := P.hg
  refine (ld2 X.bm _ s n (by omega) (by omega)).trans ((R.bm _ _).trans ?_)
  congr 2
  refine Fin.ext ?_
  dsimp only [rowAt, Spec.row, chunk]; omega

include R in
/-- The products of C and B in a tile are those of the chunk and group. -/
theorem cb_at (l : Fin 128) : cb X.loads P l = Spec.prod A (chunk t P) (group P) l := by
  funext s
  exact Finset.sum_congr rfl fun n _ => by rw [cmg_at R, bmg_at R]

include R in
/-- C times the state that enters from the left, for a lane of the tile. -/
theorem csf_eq (l p : Fin 128) : csf X.loads P (ix2 l ⟨P.v * 128 + p, by have := P.hv; omega⟩)
    = ∑ n : Fin 128, A.cm (ix2 (Spec.row (chunk t P) l) (Spec.st (group P) n))
        * A.sf (ix3 (chunk t P) (Spec.st (group P) n) (⟨(head P p).val * 64 + (lan p).val, by omega⟩ : Fin 512)) := by
  have hc := P.hc; have hg := P.hg; have hu := P.hu; have hv := P.hv
  refine (csf_at P l _).trans (Finset.sum_congr rfl fun n _ => ?_)
  rw [cmg_at R]
  refine congrArg _ ((ld3 X.sf _ 0 n _ (by show P.c + 0 < 4; omega) (by omega) (by dsimp only; omega)).trans ((R.sf _ _ _).trans ?_))
  congr 2
  refine Fin.ext ?_
  dsimp only [head, lan, half]; omega

include R in
/-- C times the state that enters from the right, for a lane of the tile. -/
theorem csb_eq (l p : Fin 128) : csb X.loads P (ix2 l ⟨P.v * 128 + p, by have := P.hv; omega⟩)
    = ∑ n : Fin 128, A.cm (ix2 (Spec.row (chunk t P) l) (Spec.st (group P) n))
        * A.sb (ix3 (chunk t P) (Spec.st (group P) n) (⟨(head P p).val * 64 + (lan p).val, by omega⟩ : Fin 512)) := by
  have hc := P.hc; have hg := P.hg; have hu := P.hu; have hv := P.hv
  refine (csb_at P l _).trans (Finset.sum_congr rfl fun n _ => ?_)
  rw [cmg_at R]
  refine congrArg _ ((ld3 X.sb _ 0 n _ (by show P.c + 0 < 4; omega) (by omega) (by dsimp only; omega)).trans ((R.sb _ _ _).trans ?_))
  congr 2
  refine Fin.ext ?_
  dsimp only [head, lan, half]; omega

include R in
/-- The skip weight read for a lane is that of the lane's head. -/
theorem dsk_at (p : Fin 128) : dsk X.loads (P.hd + half p) (by have := P.hd_lt; have := half_lt p; omega)
    = A.dskip (ix1 (Spec.hd (group P) (head P p))) := by
  have h : dsk X.loads (P.hd + half p) (by have := P.hd_lt; have := half_lt p; omega)
      = X.dskip (ix1 (⟨P.hd + half p, by have := P.hd_lt; have := half_lt p; omega⟩ : Fin 16)) :=
    View.ld_unit_apply_of X.dskip _ _ _ _ _ fun i => by fin_cases i; rfl
  rw [h, R.dskip]
  congr 2
  refine Fin.ext ?_
  dsimp only [Spec.hd, group, head, Place.hd]; omega

/-- The step size in the lane of a head's forward scan is the forward step size of that head. -/
theorem stepF_at (s p : Fin 128) : (((steps R H).d s (laneF P p) : ℝ) : EReal) = Spec.step A (chunk t P) 0 (Spec.hd (group P) (head P p)) s := by
  refine (H.dt _).symm.trans ?_
  unfold Spec.step
  congr 2
  refine Fin.ext ?_
  dsimp only [laneF, chunk, Spec.hd, group, head, Place.hd, Fin.val_zero]; omega

/-- The step size in the lane of a head's backward scan is the backward step size of that head. -/
theorem stepB_at (s p : Fin 128) : (((steps R H).d s (laneB P p) : ℝ) : EReal) = Spec.step A (chunk t P) 1 (Spec.hd (group P) (head P p)) s := by
  refine (H.dt _).symm.trans ?_
  unfold Spec.step
  congr 2
  refine Fin.ext ?_
  have h1 : (1 : Fin 2).val = 1 := rfl
  dsimp only [laneB, chunk, Spec.hd, group, head, Place.hd]; rw [h1]; omega

/-- The decay in a head's forward lane is that head's forward decay. -/
theorem decayF_at (p : Fin 128) : ((-(steps R H).A (laneF P p) : ℝ) : EReal) = Spec.decay A 0 (Spec.hd (group P) (head P p)) := by
  have hc := P.hc; have hg := P.hg; have hu := P.hu; have hv := P.hv; have hp := half_lt p
  rw [EReal.coe_neg]
  refine congrArg (- ·) ((H.alog _).symm.trans ?_)
  congr 3
  · refine Fin.ext ?_
    dsimp only [laneF, Place.hd, Fin.val_zero]; omega
  · refine Fin.ext ?_
    dsimp only [laneF, Spec.hd, group, head, Place.hd]; omega

/-- The decay in a head's backward lane is that head's backward decay. -/
theorem decayB_at (p : Fin 128) : ((-(steps R H).A (laneB P p) : ℝ) : EReal) = Spec.decay A 1 (Spec.hd (group P) (head P p)) := by
  have hc := P.hc; have hg := P.hg; have hu := P.hu; have hv := P.hv; have hp := half_lt p
  rw [EReal.coe_neg]
  refine congrArg (- ·) ((H.alog _).symm.trans ?_)
  congr 3
  · refine Fin.ext ?_
    have h1 : (1 : Fin 2).val = 1 := rfl
    dsimp only [laneB, Place.hd]; rw [h1]; omega
  · refine Fin.ext ?_
    dsimp only [laneB, Spec.hd, group, head, Place.hd]; omega

/-- The running sum in a forward lane is the sum of the decays up to the row. -/
theorem cumF_at (l p : Fin 128) : ((csum (steps R H) l (laneF P p) : ℝ) : EReal) = Spec.cumF A (chunk t P) (Spec.hd (group P) (head P p)) l := by
  have hk : (laneF P p).val % 32 < 16 := by
    have hc := P.hc; have hg := P.hg; have hu := P.hu; have hv := P.hv; have hp := half_lt p
    dsimp only [laneF, Place.hd]; omega
  unfold csum Spec.cumF
  rw [coe_sum]
  refine Finset.sum_congr rfl fun s _ => ?_
  simp only [hk, if_true]
  by_cases h : s ≤ l
  · rw [if_pos h, if_pos h, EReal.coe_mul, stepF_at, decayF_at]
  · rw [if_neg h, if_neg h, EReal.coe_zero]

/-- The running sum in a backward lane is the sum of the decays from the row on. -/
theorem cumB_at (l p : Fin 128) : ((csum (steps R H) l (laneB P p) : ℝ) : EReal) = Spec.cumB A (chunk t P) (Spec.hd (group P) (head P p)) l := by
  have hk : ¬ (laneB P p).val % 32 < 16 := by
    have hc := P.hc; have hg := P.hg; have hu := P.hu; have hv := P.hv; have hp := half_lt p
    dsimp only [laneB, Place.hd]; omega
  unfold csum Spec.cumB
  rw [coe_sum]
  refine Finset.sum_congr rfl fun s _ => ?_
  simp only [hk, if_false]
  by_cases h : l ≤ s
  · rw [if_pos h, if_pos h, EReal.coe_mul, stepB_at, decayB_at]
  · rw [if_neg h, if_neg h, EReal.coe_zero]

include R H in
/-- A tile of the gated scan holds the layer's gated scan. -/
theorem gated_eq (l p : Fin 128) : gated X.loads (sums X.loads) P (ix2 l p)
    = Spec.scan A (chunk t P) l (group P) (head P p) (lan p) := by
  have hc := P.hc; have hhd := P.hd_lt
  refine (gated_value (steps R H) P (fun x k => ?_) l p
    (fun s => (A.xs (ix2 (Spec.row (chunk t P) s) (Spec.lane (group P) (head P p) (lan p)))).toReal)
    (fun s => by rw [xst_at R, ← H.xs]) (A.dskip (ix1 (Spec.hd (group P) (head P p)))).toReal (by rw [dsk_at R, ← H.dskip])).trans ?_
  · refine (ld3 X.selb _ 0 x k (by show P.c + 0 < 4; omega) (by omega) (by omega)).trans ((R.selb _ _ _).trans ?_)
    dsimp only
    refine if_congr ?_ rfl rfl
    simp only [Fin.val_zero]
    omega
  · have e1 : (fun s : Fin 128 => (((A.xs (ix2 (Spec.row (chunk t P) s) (Spec.lane (group P) (head P p) (lan p)))).toReal : ℝ) : EReal))
        = fun s => A.xs (ix2 (Spec.row (chunk t P) s) (Spec.lane (group P) (head P p) (lan p))) := funext fun s => (H.xs _).symm
    have e2 : (fun s : Fin 128 => (((steps R H).d s (laneF P p) : ℝ) : EReal)) = Spec.step A (chunk t P) 0 (Spec.hd (group P) (head P p)) :=
      funext fun s => stepF_at R H P s p
    have e3 : (fun s : Fin 128 => (((steps R H).d s (laneB P p) : ℝ) : EReal)) = Spec.step A (chunk t P) 1 (Spec.hd (group P) (head P p)) :=
      funext fun s => stepB_at R H P s p
    have e4 : (fun s : Fin 128 => ((csum (steps R H) s (laneF P p) : ℝ) : EReal)) = Spec.cumF A (chunk t P) (Spec.hd (group P) (head P p)) :=
      funext fun s => cumF_at R H P s p
    have e5 : (fun s : Fin 128 => ((csum (steps R H) s (laneB P p) : ℝ) : EReal)) = Spec.cumB A (chunk t P) (Spec.hd (group P) (head P p)) :=
      funext fun s => cumB_at R H P s p
    have c1 : ∀ (m : Fin 128 → Prop) [DecidablePred m] (x : Fin 128 → EReal) (d cs : Fin 128 → ℝ) (c : Fin 128 → EReal) (l : Fin 128)
        (r : EReal), Tile.causal m x d cs c l r = Spec.causal m x (fun s => (d s : EReal)) (fun s => (cs s : EReal)) c l r :=
      fun _ _ _ _ _ _ _ _ => rfl
    rw [c1, c1, e1, e2, e3, e4, e5, cb_at R, csf_eq R, csb_eq R, zt_at R, ← H.dskip, ← H.xs]
    rfl

include R H in
/-- The gated scan of a grid step equals the specified one, row by row. -/
theorem scan_eq (r : Fin 512) (k : Fin 1024) : scanAt X.loads (sums X.loads) r k r.isLt k.isLt = Spec.scanR A (rowAt t r) k := by
  unfold scanAt Spec.scanR
  rw [gated_eq R H]
  congr 1 <;> refine Fin.ext ?_ <;> dsimp only [chunk, placeAt, rowAt, group, head, lan, half] <;> omega

/-- The float word of 512 denotes 512. -/
theorem ofBits_512 : Ideal.ofBits .f32 0x44000000#32 = ((512 : ℝ) : EReal) := by
  simp [Ideal.ofBits, Ideal.ieee, -EReal.coe_mul]; norm_num

/-- The float word of 1/512 denotes 1/512. -/
theorem ofBits_inv512 : Ideal.ofBits .f32 0x3B000000#32 = ((1 / 512 : ℝ) : EReal) := by
  simp [Ideal.ofBits, Ideal.ieee, -EReal.coe_mul]; norm_num

include R H in
/-- The normalised gated scan of a grid step equals the specified one. -/
theorem norm_eq (r : Fin 512) (k : Fin 1024) : normAt X.loads (sums X.loads) r k r.isLt k.isLt
    = Spec.scanR A (rowAt t r) k * Ideal.rsqrt (Ideal.div (Spec.squares A (rowAt t r) ⟨k.val / 512, by omega⟩)
      (Ideal.ofBits .f32 0x44000000#32) + Ideal.ofBits .f32 0x358637BD#32) := by
  unfold normAt
  have e : ∀ j : Fin 512, scanAt X.loads (sums X.loads) r (k / 512 * 512 + j) r.isLt (by omega)
      = Spec.scanR A (rowAt t r) (⟨k.val / 512 * 512 + j.val, by omega⟩ : Fin 1024) :=
    fun j => scan_eq R H r (⟨k.val / 512 * 512 + j.val, by omega⟩ : Fin 1024)
  rw [scan_eq R H r k, ofBits_512, Ideal.div_coe (by norm_num), ofBits_inv512]
  simp only [e]
  rfl

include R H in
/-- The residual plus the projection of a grid step equals the specified one. -/
theorem hid_eq (r : Fin 512) (j : Fin 1024) : hidAt X r j = Spec.hid A (rowAt t r) j := by
  unfold hidAt Spec.hid
  rw [R.x]
  refine congrArg (_ + ·) (congrArg₂ (· + ·) (Finset.sum_congr rfl fun k _ => ?_) (Finset.sum_congr rfl fun k _ => ?_))
  · rw [norm_eq R H, R.wlo, mul_comm (A.wo _), ← mul_assoc]
  · rw [R.ya, R.whi, mul_comm (A.wo _), ← mul_assoc]

include R H in
/-- The result of a grid point at an entry of its block is the layer's output at that row and column. -/
theorem out_eq (r : Fin 512) (j : Fin 1024) : outAt X r j = Spec.out A (rowAt t r) j := by
  unfold outAt Spec.out
  simp only [hid_eq R H, R.fg]

end Cert.Equation
-- ==== Proof.Point.lean ====
module

public import proofs.«01_k».proof.Proof.Host
public import proofs.«01_k».proof.Proof.Equation

/-! The blocks of a grid point, read against the arguments. -/

@[expose] public section
set_option maxRecDepth 16384
noncomputable section

namespace Cert.Point
open Idealize.ShloMosaic Idealize.ShloMosaic.TcCoe Idealize.SL.Sem Cert.KernelIdeal Cert.KernelIdeal.Gen Cert.Tile Cert.Equation Cert.Host

variable (m : (ℓ : Loc nD τ sig) → Buf (Elt Ideal) ℓ) (c : Dev nD)

/-- The contents of a grid point's blocks. -/
def inputs (t : Fin cfg0.N) : Inputs := ⟨iblk m c 0 t, iblk m c 1 t, iblk m c 2 t, iblk m c 3 t, iblk m c 4 t, iblk m c 5 t,
  iblk m c 6 t, iblk m c 7 t, iblk m c 8 t, iblk m c 9 t, iblk m c 10 t, iblk m c 11 t, iblk m c 12 t, iblk m c 13 t, iblk m c 14 t⟩

/-- The arguments as launched. -/
def args : Spec.Args := ⟨ar (m (c.tc.loc main_arg0)), ar (m (c.tc.loc main_arg1)), ar (m (c.tc.loc main_arg2)), ar (m (c.tc.loc main_arg3)),
  ar (m (c.tc.loc main_arg4)), ar (m (c.tc.loc main_arg5)), ar (m (c.tc.loc main_arg6)), ar (m (c.tc.loc main_arg7)), ar (m (c.tc.loc main_arg8)),
  ar (m (c.tc.loc main_arg9)), ar (m (c.tc.loc main_arg10)), ar (m (c.tc.loc main_arg11)), ar (m (c.tc.loc main_arg12)),
  ar (m (c.tc.loc main_arg13)), ar (m (c.tc.loc main_arg14))⟩

/-- A grid point's number. -/
def num (t : Fin cfg0.N) : Fin 64 := ⟨t.val, t.isLt.trans_eq N_0⟩

/-- The block indices of every window at every grid point. -/
theorem idx : ∀ t : Fin cfg0.N, win0_0.index t = ![0, 0] ∧ win0_1.index t = ![0] ∧ win0_2.index t = ![0, 0, 0] ∧ win0_3.index t = ![0, 0, 0]
    ∧ win0_4.index t = ![t.val, 0] ∧ win0_5.index t = ![t.val, 0] ∧ win0_6.index t = ![t.val, 0] ∧ win0_7.index t = ![0, t.val]
    ∧ win0_8.index t = ![t.val, 0] ∧ win0_9.index t = ![t.val, 0, 0] ∧ win0_10.index t = ![t.val, 0, 0] ∧ win0_11.index t = ![t.val, 0]
    ∧ win0_12.index t = ![t.val, 0] ∧ win0_13.index t = ![0, 0] ∧ win0_14.index t = ![0, 0] ∧ win0_15.index t = ![t.val, 0] :=
  (by decide +kernel : ∀ t : Fin grid0.N, _)

/-- What the block of window 0 holds. -/
theorem read_alog (t : Fin cfg0.N) (k : Fin 128) :
    (inputs m c t).alog (ix2 0 k) = (args m c).alog (ix2 (⟨k.val % 32 / 16, by omega⟩ : Fin 2) (⟨k.val % 16, by omega⟩ : Fin 16)) := by
  have e := (idx t).1
  refine Eq.trans ?_ (alog4_at m c k)
  unfold inputs alog4
  dsimp only
  unfold iblk
  rw [View.read_apply]
  show V m c main_v23 _ = V m c main_v23 _
  refine congrArg _ (funext fun a => Fin.ext ?_)
  fin_cases a
  · show win0_0.index t 0 * 1 + 1 * 0 = 0
    rw [e]
    show 0 * 1 + 1 * 0 = 0
    omega
  · show win0_0.index t 1 * 128 + 1 * k.val = k.val
    rw [e]
    show 0 * 128 + 1 * k.val = k.val
    omega

/-- What the block of window 1 holds. -/
theorem read_dskip (t : Fin cfg0.N) (h : Fin 16) :
    (inputs m c t).dskip (ix1 h) = (args m c).dskip (ix1 h) := by
  have e := (idx t).2.1
  unfold inputs args ar
  dsimp only
  unfold iblk
  rw [View.read_apply]
  show V m c main_arg10 _ = _
  rw [V_main_arg10]
  refine congrArg _ (funext fun a => Fin.ext ?_)
  fin_cases a
  · show win0_1.index t 0 * 16 + 1 * h.val = h.val
    rw [e]
    show 0 * 16 + 1 * h.val = h.val
    omega

/-- What the block of window 2 holds. -/
theorem read_selb (t : Fin cfg0.N) (q : Fin 4) (x : Fin 256) (k : Fin 2048) :
    (inputs m c t).selb (ix3 q x k) = if x.val % 128 = q.val * 32 + 16 + k.val / 128 then (1 : EReal) else 0 := by
  have e := (idx t).2.2.1
  refine Eq.trans ?_ (sel_at m c q x k)
  unfold inputs sel
  dsimp only
  unfold iblk
  rw [View.read_apply]
  show V m c main_v19 _ = V m c main_v19 _
  refine congrArg _ (funext fun a => Fin.ext ?_)
  fin_cases a
  · show win0_2.index t 0 * 4 + 1 * q.val = q.val
    rw [e]
    show 0 * 4 + 1 * q.val = q.val
    omega
  · show win0_2.index t 1 * 256 + 1 * x.val = x.val
    rw [e]
    show 0 * 256 + 1 * x.val = x.val
    omega
  · show win0_2.index t 2 * 2048 + 1 * k.val = k.val
    rw [e]
    show 0 * 2048 + 1 * k.val = k.val
    omega

/-- What the block of window 3 holds. -/
theorem read_lo (t : Fin cfg0.N) (l s : Fin 128) :
    (inputs m c t).tril (ix3 0 l s) = if s ≤ l then (1 : EReal) else 0 := by
  have e := (idx t).2.2.2.1
  refine Eq.trans ?_ (tri_lo m c l s)
  unfold inputs tri
  dsimp only
  unfold iblk
  rw [View.read_apply]
  show V m c main_v34 _ = V m c main_v34 _
  refine congrArg _ (funext fun a => Fin.ext ?_)
  fin_cases a
  · show win0_3.index t 0 * 2 + 1 * 0 = 0
    rw [e]
    show 0 * 2 + 1 * 0 = 0
    omega
  · show win0_3.index t 1 * 128 + 1 * l.val = l.val
    rw [e]
    show 0 * 128 + 1 * l.val = l.val
    omega
  · show win0_3.index t 2 * 128 + 1 * s.val = s.val
    rw [e]
    show 0 * 128 + 1 * s.val = s.val
    omega

/-- What the block of window 3 holds. -/
theorem read_up (t : Fin cfg0.N) (l s : Fin 128) :
    (inputs m c t).tril (ix3 1 l s) = if l ≤ s then (1 : EReal) else 0 := by
  have e := (idx t).2.2.2.1
  refine Eq.trans ?_ (tri_up m c l s)
  unfold inputs tri
  dsimp only
  unfold iblk
  rw [View.read_apply]
  show V m c main_v34 _ = V m c main_v34 _
  refine congrArg _ (funext fun a => Fin.ext ?_)
  fin_cases a
  · show win0_3.index t 0 * 2 + 1 * 1 = 1
    rw [e]
    show 0 * 2 + 1 * 1 = 1
    omega
  · show win0_3.index t 1 * 128 + 1 * l.val = l.val
    rw [e]
    show 0 * 128 + 1 * l.val = l.val
    omega
  · show win0_3.index t 2 * 128 + 1 * s.val = s.val
    rw [e]
    show 0 * 128 + 1 * s.val = s.val
    omega

/-- What the block of window 4 holds. -/
theorem read_xs (t : Fin cfg0.N) (r : Fin 512) (j : Fin 1024) :
    (inputs m c t).xs (ix2 r j) = (args m c).xs (ix2 (rowAt (num t) r) j) := by
  have e := (idx t).2.2.2.2.1
  unfold inputs args ar
  dsimp only
  unfold iblk
  rw [View.read_apply]
  show V m c main_arg0 _ = _
  rw [V_main_arg0]
  refine congrArg _ (funext fun a => Fin.ext ?_)
  fin_cases a
  · show win0_4.index t 0 * 512 + 1 * r.val = t.val * 512 + r.val
    rw [e]
    show t.val * 512 + 1 * r.val = t.val * 512 + r.val
    omega
  · show win0_4.index t 1 * 1024 + 1 * j.val = j.val
    rw [e]
    show 0 * 1024 + 1 * j.val = j.val
    omega

/-- What the block of window 5 holds. -/
theorem read_bm (t : Fin cfg0.N) (r : Fin 512) (j : Fin 256) :
    (inputs m c t).bm (ix2 r j) = (args m c).bm (ix2 (rowAt (num t) r) j) := by
  have e := (idx t).2.2.2.2.2.1
  unfold inputs args ar
  dsimp only
  unfold iblk
  rw [View.read_apply]
  show V m c main_arg1 _ = _
  rw [V_main_arg1]
  refine congrArg _ (funext fun a => Fin.ext ?_)
  fin_cases a
  · show win0_5.index t 0 * 512 + 1 * r.val = t.val * 512 + r.val
    rw [e]
    show t.val * 512 + 1 * r.val = t.val * 512 + r.val
    omega
  · show win0_5.index t 1 * 256 + 1 * j.val = j.val
    rw [e]
    show 0 * 256 + 1 * j.val = j.val
    omega

/-- What the block of window 6 holds. -/
theorem read_cm (t : Fin cfg0.N) (r : Fin 512) (j : Fin 256) :
    (inputs m c t).cm (ix2 r j) = (args m c).cm (ix2 (rowAt (num t) r) j) := by
  have e := (idx t).2.2.2.2.2.2.1
  unfold inputs args ar
  dsimp only
  unfold iblk
  rw [View.read_apply]
  show V m c main_arg2 _ = _
  rw [V_main_arg2]
  refine congrArg _ (funext fun a => Fin.ext ?_)
  fin_cases a
  · show win0_6.index t 0 * 512 + 1 * r.val = t.val * 512 + r.val
    rw [e]
    show t.val * 512 + 1 * r.val = t.val * 512 + r.val
    omega
  · show win0_6.index t 1 * 256 + 1 * j.val = j.val
    rw [e]
    show 0 * 256 + 1 * j.val = j.val
    omega

/-- What the block of window 7 holds. -/
theorem read_dt (t : Fin cfg0.N) (l k : Fin 128) :
    (inputs m c t).dt (ix2 l k) = (args m c).dt (ix2 l (⟨(num t).val * 128 + k.val, by omega⟩ : Fin 8192)) := by
  have e := (idx t).2.2.2.2.2.2.2.1
  unfold inputs args ar
  dsimp only
  unfold iblk
  rw [View.read_apply]
  show V m c main_arg3 _ = _
  rw [V_main_arg3]
  refine congrArg _ (funext fun a => Fin.ext ?_)
  fin_cases a
  · show win0_7.index t 0 * 128 + 1 * l.val = l.val
    rw [e]
    show 0 * 128 + 1 * l.val = l.val
    omega
  · show win0_7.index t 1 * 128 + 1 * k.val = t.val * 128 + k.val
    rw [e]
    show t.val * 128 + 1 * k.val = t.val * 128 + k.val
    omega

/-- What the block of window 8 holds. -/
theorem read_z (t : Fin cfg0.N) (r : Fin 512) (j : Fin 1024) :
    (inputs m c t).z (ix2 r j) = (args m c).z (ix2 (rowAt (num t) r) j) := by
  have e := (idx t).2.2.2.2.2.2.2.2.1
  unfold inputs args ar
  dsimp only
  unfold iblk
  rw [View.read_apply]
  show V m c main_arg4 _ = _
  rw [V_main_arg4]
  refine congrArg _ (funext fun a => Fin.ext ?_)
  fin_cases a
  · show win0_8.index t 0 * 512 + 1 * r.val = t.val * 512 + r.val
    rw [e]
    show t.val * 512 + 1 * r.val = t.val * 512 + r.val
    omega
  · show win0_8.index t 1 * 1024 + 1 * j.val = j.val
    rw [e]
    show 0 * 1024 + 1 * j.val = j.val
    omega

/-- What the block of window 9 holds. -/
theorem read_sf (t : Fin cfg0.N) (q : Fin 4) (n : Fin 256) (k : Fin 512) :
    (inputs m c t).sf (ix3 q n k) = (args m c).sf (ix3 (chunkAt (num t) q) n k) := by
  have e := (idx t).2.2.2.2.2.2.2.2.2.1
  unfold inputs args ar
  dsimp only
  unfold iblk
  rw [View.read_apply]
  show V m c main_arg5 _ = _
  rw [V_main_arg5]
  refine congrArg _ (funext fun a => Fin.ext ?_)
  fin_cases a
  · show win0_9.index t 0 * 4 + 1 * q.val = t.val * 4 + q.val
    rw [e]
    show t.val * 4 + 1 * q.val = t.val * 4 + q.val
    omega
  · show win0_9.index t 1 * 256 + 1 * n.val = n.val
    rw [e]
    show 0 * 256 + 1 * n.val = n.val
    omega
  · show win0_9.index t 2 * 512 + 1 * k.val = k.val
    rw [e]
    show 0 * 512 + 1 * k.val = k.val
    omega

/-- What the block of window 10 holds. -/
theorem read_sb (t : Fin cfg0.N) (q : Fin 4) (n : Fin 256) (k : Fin 512) :
    (inputs m c t).sb (ix3 q n k) = (args m c).sb (ix3 (chunkAt (num t) q) n k) := by
  have e := (idx t).2.2.2.2.2.2.2.2.2.2.1
  unfold inputs args ar
  dsimp only
  unfold iblk
  rw [View.read_apply]
  show V m c main_arg6 _ = _
  rw [V_main_arg6]
  refine congrArg _ (funext fun a => Fin.ext ?_)
  fin_cases a
  · show win0_10.index t 0 * 4 + 1 * q.val = t.val * 4 + q.val
    rw [e]
    show t.val * 4 + 1 * q.val = t.val * 4 + q.val
    omega
  · show win0_10.index t 1 * 256 + 1 * n.val = n.val
    rw [e]
    show 0 * 256 + 1 * n.val = n.val
    omega
  · show win0_10.index t 2 * 512 + 1 * k.val = k.val
    rw [e]
    show 0 * 512 + 1 * k.val = k.val
    omega

/-- What the block of window 11 holds. -/
theorem read_ya (t : Fin cfg0.N) (r : Fin 512) (j : Fin 1024) :
    (inputs m c t).ya (ix2 r j) = (args m c).ya (ix2 (rowAt (num t) r) j) := by
  have e := (idx t).2.2.2.2.2.2.2.2.2.2.2.1
  unfold inputs args ar
  dsimp only
  unfold iblk
  rw [View.read_apply]
  show V m c main_arg7 _ = _
  rw [V_main_arg7]
  refine congrArg _ (funext fun a => Fin.ext ?_)
  fin_cases a
  · show win0_11.index t 0 * 512 + 1 * r.val = t.val * 512 + r.val
    rw [e]
    show t.val * 512 + 1 * r.val = t.val * 512 + r.val
    omega
  · show win0_11.index t 1 * 1024 + 1 * j.val = j.val
    rw [e]
    show 0 * 1024 + 1 * j.val = j.val
    omega

/-- What the block of window 12 holds. -/
theorem read_x (t : Fin cfg0.N) (r : Fin 512) (j : Fin 1024) :
    (inputs m c t).x (ix2 r j) = (args m c).x (ix3 (⟨(rowAt (num t) r).val / 8192, by omega⟩ : Fin 4) (⟨(rowAt (num t) r).val % 8192, by omega⟩ : Fin 8192) j) := by
  have e := (idx t).2.2.2.2.2.2.2.2.2.2.2.2.1
  refine Eq.trans ?_ (xr_at m c (rowAt (num t) r) j)
  unfold inputs xr
  dsimp only
  unfold iblk
  rw [View.read_apply]
  show V m c main_v30 _ = V m c main_v30 _
  refine congrArg _ (funext fun a => Fin.ext ?_)
  fin_cases a
  · show win0_12.index t 0 * 512 + 1 * r.val = t.val * 512 + r.val
    rw [e]
    show t.val * 512 + 1 * r.val = t.val * 512 + r.val
    omega
  · show win0_12.index t 1 * 1024 + 1 * j.val = j.val
    rw [e]
    show 0 * 1024 + 1 * j.val = j.val
    omega

/-- What the block of window 13 holds. -/
theorem read_wlo (t : Fin cfg0.N) (k j : Fin 1024) :
    (inputs m c t).w (ix2 (⟨k.val, by omega⟩ : Fin 2048) j) = (args m c).wo (ix3 0 (⟨k.val, by omega⟩ : Fin 2048) j) * (args m c).sg (ix1 k) := by
  have e := (idx t).2.2.2.2.2.2.2.2.2.2.2.2.2.1
  refine Eq.trans ?_ (wg_lo m c k j)
  unfold inputs wg
  dsimp only
  unfold iblk
  rw [View.read_apply]
  show V m c main_v29 _ = V m c main_v29 _
  refine congrArg _ (funext fun a => Fin.ext ?_)
  fin_cases a
  · show win0_13.index t 0 * 2048 + 1 * k.val = k.val
    rw [e]
    show 0 * 2048 + 1 * k.val = k.val
    omega
  · show win0_13.index t 1 * 1024 + 1 * j.val = j.val
    rw [e]
    show 0 * 1024 + 1 * j.val = j.val
    omega

/-- What the block of window 13 holds. -/
theorem read_whi (t : Fin cfg0.N) (k j : Fin 1024) :
    (inputs m c t).w (ix2 (⟨1024 + k.val, by omega⟩ : Fin 2048) j) = (args m c).wo (ix3 0 (⟨1024 + k.val, by omega⟩ : Fin 2048) j) * (args m c).ag (ix1 k) := by
  have e := (idx t).2.2.2.2.2.2.2.2.2.2.2.2.2.1
  refine Eq.trans ?_ (wg_hi m c k j)
  unfold inputs wg
  dsimp only
  unfold iblk
  rw [View.read_apply]
  show V m c main_v29 _ = V m c main_v29 _
  refine congrArg _ (funext fun a => Fin.ext ?_)
  fin_cases a
  · show win0_13.index t 0 * 2048 + 1 * (1024 + k.val) = (1024 + k.val)
    rw [e]
    show 0 * 2048 + 1 * (1024 + k.val) = (1024 + k.val)
    omega
  · show win0_13.index t 1 * 1024 + 1 * j.val = j.val
    rw [e]
    show 0 * 1024 + 1 * j.val = j.val
    omega

/-- What the block of window 14 holds. -/
theorem read_fg (t : Fin cfg0.N) (j : Fin 1024) :
    (inputs m c t).fg (ix2 0 j) = (args m c).fg (ix1 j) := by
  have e := (idx t).2.2.2.2.2.2.2.2.2.2.2.2.2.2.1
  refine Eq.trans ?_ (fgr_at m c j)
  unfold inputs fgr
  dsimp only
  unfold iblk
  rw [View.read_apply]
  show V m c main_v35 _ = V m c main_v35 _
  refine congrArg _ (funext fun a => Fin.ext ?_)
  fin_cases a
  · show win0_14.index t 0 * 1 + 1 * 0 = 0
    rw [e]
    show 0 * 1 + 1 * 0 = 0
    omega
  · show win0_14.index t 1 * 1024 + 1 * j.val = j.val
    rw [e]
    show 0 * 1024 + 1 * j.val = j.val
    omega

/-- The blocks that a grid step reads hold the arguments' entries of its chunks. -/
theorem reads (t : Fin cfg0.N) : Reads (inputs m c t) (args m c) (num t) :=
  ⟨read_alog m c t, read_dskip m c t, read_selb m c t, read_lo m c t, read_up m c t, read_xs m c t, read_bm m c t, read_cm m c t, read_dt m c t, read_z m c t, read_sf m c t, read_sb m c t, read_ya m c t, read_x m c t, read_wlo m c t, read_whi m c t, read_fg m c t⟩

end Cert.Point
-- ==== Proof.Held.lean ====
module

public import proofs.«01_k».proof.Proof.Tile

@[expose] public section
set_option maxRecDepth 16384
noncomputable section

namespace Cert.Tile
open Idealize.ShloMosaic Idealize.SL.Sem Cert.KernelIdeal Cert.KernelIdeal.Gen

variable {F : FTy → Type} [FloatOps F] [Named F]
variable (c : Dev nD) (arg1 : Memref sig .tc .vmem S1x128 .f32) (harg1 : arg1.IsWhole) (arg2 : Memref sig .tc .smem S16 .f32) (harg2 : arg2.IsWhole) (arg3 : Memref sig .tc .vmem S4x256x2048 .bf16) (harg3 : arg3.IsWhole) (arg4 : Memref sig .tc .vmem S2x128x128 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S128x128 .f32) (harg8 : arg8.IsWhole) (arg9 : Memref sig .tc .vmem S512x1024 .bf16) (harg9 : arg9.IsWhole) (arg10 : Memref sig .tc .vmem S4x256x512 .bf16) (harg10 : arg10.IsWhole) (arg11 : Memref sig .tc .vmem S4x256x512 .bf16) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S2048x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x1024 .f32) (harg18 : arg18.IsWhole)
variable (x0 : Vec F S1x128 .f32) (x1 : Vec F S16 .f32) (x2 : Vec F S4x256x2048 .bf16) (x3 : Vec F S2x128x128 .bf16) (x4 : Vec F S512x1024 .bf16) (x5 : Vec F S512x256 .bf16) (x6 : Vec F S512x256 .bf16) (x7 : Vec F S128x128 .f32) (x8 : Vec F S512x1024 .bf16) (x9 : Vec F S4x256x512 .bf16) (x10 : Vec F S4x256x512 .bf16) (x11 : Vec F S512x1024 .bf16) (x12 : Vec F S512x1024 .f32) (x13 : Vec F S2048x1024 .bf16) (x14 : Vec F S1x1024 .f32)

/-- The loads of the blocks as the memory holds them. -/
def held : Blocks F := ⟨fun r => View.readAt (Elt F) arg1.view r.toLoadRect (harg1.unread x0),
  fun r => View.readAt (Elt F) arg2.view r.toLoadRect (harg2.unread x1),
  fun r => View.readAt (Elt F) arg3.view r.toLoadRect (harg3.unread x2),
  fun r => View.readAt (Elt F) arg4.view r.toLoadRect (harg4.unread x3),
  fun r => View.readAt (Elt F) arg5.view r.toLoadRect (harg5.unread x4),
  fun r => View.readAt (Elt F) arg6.view r.toLoadRect (harg6.unread x5),
  fun r => View.readAt (Elt F) arg7.view r.toLoadRect (harg7.unread x6),
  fun r => View.readAt (Elt F) arg8.view r.toLoadRect (harg8.unread x7),
  fun r => View.readAt (Elt F) arg9.view r.toLoadRect (harg9.unread x8),
  fun r => View.readAt (Elt F) arg10.view r.toLoadRect (harg10.unread x9),
  fun r => View.readAt (Elt F) arg11.view r.toLoadRect (harg11.unread x10),
  fun r => View.readAt (Elt F) arg12.view r.toLoadRect (harg12.unread x11),
  fun r => View.readAt (Elt F) arg13.view r.toLoadRect (harg13.unread x12),
  fun r => View.readAt (Elt F) arg14.view r.toLoadRect (harg14.unread x13),
  fun r => View.readAt (Elt F) arg15.view r.toLoadRect (harg15.unread x14)⟩

/-- The four matrices of step sums as the run names them. -/
def heldSums : Sums F := ⟨(kernelRun0_A.sl.r_4 c arg1 harg1 arg4 harg4 arg8 harg8 x0 x3 x7), (kernelRun0_A.sl.r_5 c arg1 harg1 arg4 harg4 arg8 harg8 x0 x3 x7), (kernelRun0_A.sl.r_6 c arg8 harg8 x7), (kernelRun0_A.sl.r_7 c arg1 harg1 arg4 harg4 arg8 harg8 x0 x3 x7)⟩

end Cert.Tile
-- ==== Proof.Chunk0.lean ====
module

public import proofs.«01_k».proof.Proof.Held

@[expose] public section
set_option maxRecDepth 16384
noncomputable section

namespace Cert.Tile
open Idealize.ShloMosaic Idealize.SL.Sem Cert.KernelIdeal Cert.KernelIdeal.Gen

variable {F : FTy → Type} [FloatOps F] [Named F]
variable (c : Dev nD) (arg1 : Memref sig .tc .vmem S1x128 .f32) (harg1 : arg1.IsWhole) (arg2 : Memref sig .tc .smem S16 .f32) (harg2 : arg2.IsWhole) (arg3 : Memref sig .tc .vmem S4x256x2048 .bf16) (harg3 : arg3.IsWhole) (arg4 : Memref sig .tc .vmem S2x128x128 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S128x128 .f32) (harg8 : arg8.IsWhole) (arg9 : Memref sig .tc .vmem S512x1024 .bf16) (harg9 : arg9.IsWhole) (arg10 : Memref sig .tc .vmem S4x256x512 .bf16) (harg10 : arg10.IsWhole) (arg11 : Memref sig .tc .vmem S4x256x512 .bf16) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S2048x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x1024 .f32) (harg18 : arg18.IsWhole)
variable (x0 : Vec F S1x128 .f32) (x1 : Vec F S16 .f32) (x2 : Vec F S4x256x2048 .bf16) (x3 : Vec F S2x128x128 .bf16) (x4 : Vec F S512x1024 .bf16) (x5 : Vec F S512x256 .bf16) (x6 : Vec F S512x256 .bf16) (x7 : Vec F S128x128 .f32) (x8 : Vec F S512x1024 .bf16) (x9 : Vec F S4x256x512 .bf16) (x10 : Vec F S4x256x512 .bf16) (x11 : Vec F S512x1024 .bf16) (x12 : Vec F S512x1024 .f32) (x13 : Vec F S2048x1024 .bf16) (x14 : Vec F S1x1024 .f32)

/-! Every stored tile of chunk 0 is the one tile function at its place. -/

/-- Group 0, pair 0. -/
theorem tile_0_0_0_0 : (kernelRun0_A.sl.v153 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨0,0,0,0,by decide,by decide,by decide,by decide⟩ := id rfl

/-- Group 0, pair 1. -/
theorem tile_0_0_0_1 : (kernelRun0_A.sl.v233 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨0,0,0,1,by decide,by decide,by decide,by decide⟩ := id rfl

/-- Group 0, pair 2. -/
theorem tile_0_0_1_0 : (kernelRun0_A.sl.v319 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨0,0,1,0,by decide,by decide,by decide,by decide⟩ := id rfl

/-- Group 0, pair 3. -/
theorem tile_0_0_1_1 : (kernelRun0_A.sl.v399 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨0,0,1,1,by decide,by decide,by decide,by decide⟩ := id rfl

/-- Group 1, pair 0. -/
theorem tile_0_1_0_0 : (kernelRun0_A.sl.v508 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨0,1,0,0,by decide,by decide,by decide,by decide⟩ := id rfl

/-- Group 1, pair 1. -/
theorem tile_0_1_0_1 : (kernelRun0_A.sl.v588 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨0,1,0,1,by decide,by decide,by decide,by decide⟩ := id rfl

/-- Group 1, pair 2. -/
theorem tile_0_1_1_0 : (kernelRun0_A.sl.v674 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨0,1,1,0,by decide,by decide,by decide,by decide⟩ := id rfl

/-- Group 1, pair 3. -/
theorem tile_0_1_1_1 : (kernelRun0_A.sl.v754 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨0,1,1,1,by decide,by decide,by decide,by decide⟩ := id rfl

end Cert.Tile
-- ==== Proof.Chunk1.lean ====
module

public import proofs.«01_k».proof.Proof.Held

@[expose] public section
set_option maxRecDepth 16384
noncomputable section

namespace Cert.Tile
open Idealize.ShloMosaic Idealize.SL.Sem Cert.KernelIdeal Cert.KernelIdeal.Gen

variable {F : FTy → Type} [FloatOps F] [Named F]
variable (c : Dev nD) (arg1 : Memref sig .tc .vmem S1x128 .f32) (harg1 : arg1.IsWhole) (arg2 : Memref sig .tc .smem S16 .f32) (harg2 : arg2.IsWhole) (arg3 : Memref sig .tc .vmem S4x256x2048 .bf16) (harg3 : arg3.IsWhole) (arg4 : Memref sig .tc .vmem S2x128x128 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S128x128 .f32) (harg8 : arg8.IsWhole) (arg9 : Memref sig .tc .vmem S512x1024 .bf16) (harg9 : arg9.IsWhole) (arg10 : Memref sig .tc .vmem S4x256x512 .bf16) (harg10 : arg10.IsWhole) (arg11 : Memref sig .tc .vmem S4x256x512 .bf16) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S2048x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x1024 .f32) (harg18 : arg18.IsWhole)
variable (x0 : Vec F S1x128 .f32) (x1 : Vec F S16 .f32) (x2 : Vec F S4x256x2048 .bf16) (x3 : Vec F S2x128x128 .bf16) (x4 : Vec F S512x1024 .bf16) (x5 : Vec F S512x256 .bf16) (x6 : Vec F S512x256 .bf16) (x7 : Vec F S128x128 .f32) (x8 : Vec F S512x1024 .bf16) (x9 : Vec F S4x256x512 .bf16) (x10 : Vec F S4x256x512 .bf16) (x11 : Vec F S512x1024 .bf16) (x12 : Vec F S512x1024 .f32) (x13 : Vec F S2048x1024 .bf16) (x14 : Vec F S1x1024 .f32)

/-! Every stored tile of chunk 1 is the one tile function at its place. -/

/-- Group 0, pair 0. -/
theorem tile_1_0_0_0 : (kernelRun0_A.sl.v863 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨1,0,0,0,by decide,by decide,by decide,by decide⟩ := id rfl

/-- Group 0, pair 1. -/
theorem tile_1_0_0_1 : (kernelRun0_A.sl.v943 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨1,0,0,1,by decide,by decide,by decide,by decide⟩ := id rfl

/-- Group 0, pair 2. -/
theorem tile_1_0_1_0 : (kernelRun0_A.sl.v1029 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨1,0,1,0,by decide,by decide,by decide,by decide⟩ := id rfl

/-- Group 0, pair 3. -/
theorem tile_1_0_1_1 : (kernelRun0_A.sl.v1109 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨1,0,1,1,by decide,by decide,by decide,by decide⟩ := id rfl

/-- Group 1, pair 0. -/
theorem tile_1_1_0_0 : (kernelRun0_A.sl.v1218 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨1,1,0,0,by decide,by decide,by decide,by decide⟩ := id rfl

/-- Group 1, pair 1. -/
theorem tile_1_1_0_1 : (kernelRun0_A.sl.v1298 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨1,1,0,1,by decide,by decide,by decide,by decide⟩ := id rfl

/-- Group 1, pair 2. -/
theorem tile_1_1_1_0 : (kernelRun0_A.sl.v1384 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨1,1,1,0,by decide,by decide,by decide,by decide⟩ := id rfl

/-- Group 1, pair 3. -/
theorem tile_1_1_1_1 : (kernelRun0_A.sl.v1464 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨1,1,1,1,by decide,by decide,by decide,by decide⟩ := id rfl

end Cert.Tile
-- ==== Proof.Chunk2.lean ====
module

public import proofs.«01_k».proof.Proof.Held

@[expose] public section
set_option maxRecDepth 16384
noncomputable section

namespace Cert.Tile
open Idealize.ShloMosaic Idealize.SL.Sem Cert.KernelIdeal Cert.KernelIdeal.Gen

variable {F : FTy → Type} [FloatOps F] [Named F]
variable (c : Dev nD) (arg1 : Memref sig .tc .vmem S1x128 .f32) (harg1 : arg1.IsWhole) (arg2 : Memref sig .tc .smem S16 .f32) (harg2 : arg2.IsWhole) (arg3 : Memref sig .tc .vmem S4x256x2048 .bf16) (harg3 : arg3.IsWhole) (arg4 : Memref sig .tc .vmem S2x128x128 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S128x128 .f32) (harg8 : arg8.IsWhole) (arg9 : Memref sig .tc .vmem S512x1024 .bf16) (harg9 : arg9.IsWhole) (arg10 : Memref sig .tc .vmem S4x256x512 .bf16) (harg10 : arg10.IsWhole) (arg11 : Memref sig .tc .vmem S4x256x512 .bf16) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S2048x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x1024 .f32) (harg18 : arg18.IsWhole)
variable (x0 : Vec F S1x128 .f32) (x1 : Vec F S16 .f32) (x2 : Vec F S4x256x2048 .bf16) (x3 : Vec F S2x128x128 .bf16) (x4 : Vec F S512x1024 .bf16) (x5 : Vec F S512x256 .bf16) (x6 : Vec F S512x256 .bf16) (x7 : Vec F S128x128 .f32) (x8 : Vec F S512x1024 .bf16) (x9 : Vec F S4x256x512 .bf16) (x10 : Vec F S4x256x512 .bf16) (x11 : Vec F S512x1024 .bf16) (x12 : Vec F S512x1024 .f32) (x13 : Vec F S2048x1024 .bf16) (x14 : Vec F S1x1024 .f32)

/-! Every stored tile of chunk 2 is the one tile function at its place. -/

/-- Group 0, pair 0. -/
theorem tile_2_0_0_0 : (kernelRun0_A.sl.v1573 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨2,0,0,0,by decide,by decide,by decide,by decide⟩ := id rfl

/-- Group 0, pair 1. -/
theorem tile_2_0_0_1 : (kernelRun0_A.sl.v1653 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨2,0,0,1,by decide,by decide,by decide,by decide⟩ := id rfl

/-- Group 0, pair 2. -/
theorem tile_2_0_1_0 : (kernelRun0_A.sl.v1766 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨2,0,1,0,by decide,by decide,by decide,by decide⟩ := id rfl

/-- Group 0, pair 3. -/
theorem tile_2_0_1_1 : (kernelRun0_A.sl.v1846 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨2,0,1,1,by decide,by decide,by decide,by decide⟩ := id rfl

/-- Group 1, pair 0. -/
theorem tile_2_1_0_0 : (kernelRun0_A.sl.v1955 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨2,1,0,0,by decide,by decide,by decide,by decide⟩ := id rfl

/-- Group 1, pair 1. -/
theorem tile_2_1_0_1 : (kernelRun0_A.sl.v2035 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨2,1,0,1,by decide,by decide,by decide,by decide⟩ := id rfl

/-- Group 1, pair 2. -/
theorem tile_2_1_1_0 : (kernelRun0_A.sl.v2121 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨2,1,1,0,by decide,by decide,by decide,by decide⟩ := id rfl

/-- Group 1, pair 3. -/
theorem tile_2_1_1_1 : (kernelRun0_A.sl.v2201 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨2,1,1,1,by decide,by decide,by decide,by decide⟩ := id rfl

end Cert.Tile
-- ==== Proof.Chunk3.lean ====
module

public import proofs.«01_k».proof.Proof.Held

@[expose] public section
set_option maxRecDepth 16384
noncomputable section

namespace Cert.Tile
open Idealize.ShloMosaic Idealize.SL.Sem Cert.KernelIdeal Cert.KernelIdeal.Gen

variable {F : FTy → Type} [FloatOps F] [Named F]
variable (c : Dev nD) (arg1 : Memref sig .tc .vmem S1x128 .f32) (harg1 : arg1.IsWhole) (arg2 : Memref sig .tc .smem S16 .f32) (harg2 : arg2.IsWhole) (arg3 : Memref sig .tc .vmem S4x256x2048 .bf16) (harg3 : arg3.IsWhole) (arg4 : Memref sig .tc .vmem S2x128x128 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S128x128 .f32) (harg8 : arg8.IsWhole) (arg9 : Memref sig .tc .vmem S512x1024 .bf16) (harg9 : arg9.IsWhole) (arg10 : Memref sig .tc .vmem S4x256x512 .bf16) (harg10 : arg10.IsWhole) (arg11 : Memref sig .tc .vmem S4x256x512 .bf16) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S2048x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x1024 .f32) (harg18 : arg18.IsWhole)
variable (x0 : Vec F S1x128 .f32) (x1 : Vec F S16 .f32) (x2 : Vec F S4x256x2048 .bf16) (x3 : Vec F S2x128x128 .bf16) (x4 : Vec F S512x1024 .bf16) (x5 : Vec F S512x256 .bf16) (x6 : Vec F S512x256 .bf16) (x7 : Vec F S128x128 .f32) (x8 : Vec F S512x1024 .bf16) (x9 : Vec F S4x256x512 .bf16) (x10 : Vec F S4x256x512 .bf16) (x11 : Vec F S512x1024 .bf16) (x12 : Vec F S512x1024 .f32) (x13 : Vec F S2048x1024 .bf16) (x14 : Vec F S1x1024 .f32)

/-! Every stored tile of chunk 3 is the one tile function at its place. -/

/-- Group 0, pair 0. -/
theorem tile_3_0_0_0 : (kernelRun0_A.sl.v2310 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨3,0,0,0,by decide,by decide,by decide,by decide⟩ := id rfl

/-- Group 0, pair 1. -/
theorem tile_3_0_0_1 : (kernelRun0_A.sl.v2390 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨3,0,0,1,by decide,by decide,by decide,by decide⟩ := id rfl

/-- Group 0, pair 2. -/
theorem tile_3_0_1_0 : (kernelRun0_A.sl.v2476 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨3,0,1,0,by decide,by decide,by decide,by decide⟩ := id rfl

/-- Group 0, pair 3. -/
theorem tile_3_0_1_1 : (kernelRun0_A.sl.v2556 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨3,0,1,1,by decide,by decide,by decide,by decide⟩ := id rfl

/-- Group 1, pair 0. -/
theorem tile_3_1_0_0 : (kernelRun0_A.sl.v2665 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨3,1,0,0,by decide,by decide,by decide,by decide⟩ := id rfl

/-- Group 1, pair 1. -/
theorem tile_3_1_0_1 : (kernelRun0_A.sl.v2745 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨3,1,0,1,by decide,by decide,by decide,by decide⟩ := id rfl

/-- Group 1, pair 2. -/
theorem tile_3_1_1_0 : (k0_pay394 k0_pay5 (kernelRun0_A.sl.v2755 c arg7 harg7 arg10 harg10 x6 x9) (kernelRun0_A.sl.v2758 c arg7 harg7 arg11 harg11 x6 x10) (kernelRun0_A.sl.v2764 c arg1 harg1 arg4 harg4 arg8 harg8 x0 x3 x7) (kernelRun0_A.sl.v2765 c arg1 harg1 arg3 harg3 arg4 harg4 arg8 harg8 x0 x2 x3 x7) (kernelRun0_A.sl.v2789 c arg1 harg1 arg4 harg4 arg8 harg8 x0 x3 x7) (kernelRun0_A.sl.v2790 c arg1 harg1 arg3 harg3 arg4 harg4 arg8 harg8 x0 x2 x3 x7) (kernelRun0_A.sl.v2816 c arg5 harg5 x4) (kernelRun0_A.sl.v2817 c arg1 harg1 arg2 harg2 arg3 harg3 arg4 harg4 arg6 harg6 arg7 harg7 arg8 harg8 x0 x1 x2 x3 x5 x6 x7) (View.readAt (Elt F) arg9.view (Rect.unit ![384, 768] S128x128.size inb_S512x1024_S128x128_384_768 : Rect S512x1024).toLoadRect (harg9.unread x8))) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨3,1,1,0,by decide,by decide,by decide,by decide⟩ := id rfl

/-- Group 1, pair 3. -/
theorem tile_3_1_1_1 : (k0_pay402 k0_pay2 k0_pay4 k0_pay5 (kernelRun0_A.sl.r_4 c arg1 harg1 arg4 harg4 arg8 harg8 x0 x3 x7) (kernelRun0_A.sl.r_5 c arg1 harg1 arg4 harg4 arg8 harg8 x0 x3 x7) (kernelRun0_A.sl.r_6 c arg8 harg8 x7) (kernelRun0_A.sl.v2581 c arg6 harg6 arg7 harg7 x5 x6) (kernelRun0_A.sl.v2585 c arg6 harg6 arg7 harg7 x5 x6) (kernelRun0_A.sl.v2755 c arg7 harg7 arg10 harg10 x6 x9) (kernelRun0_A.sl.v2758 c arg7 harg7 arg11 harg11 x6 x10) (kernelRun0_A.sl.r_42 c arg1 harg1 arg3 harg3 arg4 harg4 arg8 harg8 x0 x2 x3 x7) (kernelRun0_A.sl.r_43 c arg1 harg1 arg4 harg4 arg8 harg8 x0 x3 x7) (kernelRun0_A.sl.r_44 c arg1 harg1 arg3 harg3 arg4 harg4 arg8 harg8 x0 x2 x3 x7) (kernelRun0_A.sl.r_45 c arg1 harg1 arg3 harg3 arg4 harg4 arg6 harg6 arg7 harg7 arg8 harg8 x0 x2 x3 x5 x6 x7) (kernelRun0_A.sl.r_46 c arg2 harg2 arg6 harg6 arg7 harg7 arg8 harg8 x1 x5 x6 x7) (kernelRun0_A.sl.r_47 c arg2 harg2 x1) (View.readAt (Elt F) arg5.view (Rect.unit ![384, 896] S128x128.size inb_S512x1024_S128x128_384_896 : Rect S512x1024).toLoadRect (harg5.unread x4)) (View.readAt (Elt F) arg9.view (Rect.unit ![384, 896] S128x128.size inb_S512x1024_S128x128_384_896 : Rect S512x1024).toLoadRect (harg9.unread x8))) =
    gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨3,1,1,1,by decide,by decide,by decide,by decide⟩ := id rfl

end Cert.Tile
-- ==== Proof.Lists.lean ====
module

public import proofs.«01_k».proof.Proof.Chunk0
public import proofs.«01_k».proof.Proof.Chunk1
public import proofs.«01_k».proof.Proof.Chunk2
public import proofs.«01_k».proof.Proof.Chunk3
public import proofs.«01_k».proof.Proof.Pieces

/-! The lists of pieces the body stores in its two scratch buffers, and the two it stores in its result, are the tiles,
the normalised groups and the projections, each at its place. -/

@[expose] public section
set_option maxRecDepth 16384
noncomputable section

namespace Cert.Tile
open Idealize.ShloMosaic Idealize.SL.Sem Cert.KernelIdeal Cert.KernelIdeal.Gen

variable (c : Dev nD) (arg1 : Memref sig .tc .vmem S1x128 .f32) (harg1 : arg1.IsWhole) (arg2 : Memref sig .tc .smem S16 .f32) (harg2 : arg2.IsWhole) (arg3 : Memref sig .tc .vmem S4x256x2048 .bf16) (harg3 : arg3.IsWhole) (arg4 : Memref sig .tc .vmem S2x128x128 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S128x128 .f32) (harg8 : arg8.IsWhole) (arg9 : Memref sig .tc .vmem S512x1024 .bf16) (harg9 : arg9.IsWhole) (arg10 : Memref sig .tc .vmem S4x256x512 .bf16) (harg10 : arg10.IsWhole) (arg11 : Memref sig .tc .vmem S4x256x512 .bf16) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S2048x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x1024 .f32) (harg18 : arg18.IsWhole)
variable (x0 : Vec Ideal S1x128 .f32) (x1 : Vec Ideal S16 .f32) (x2 : Vec Ideal S4x256x2048 .bf16) (x3 : Vec Ideal S2x128x128 .bf16) (x4 : Vec Ideal S512x1024 .bf16) (x5 : Vec Ideal S512x256 .bf16) (x6 : Vec Ideal S512x256 .bf16) (x7 : Vec Ideal S128x128 .f32) (x8 : Vec Ideal S512x1024 .bf16) (x9 : Vec Ideal S4x256x512 .bf16) (x10 : Vec Ideal S4x256x512 .bf16) (x11 : Vec Ideal S512x1024 .bf16) (x12 : Vec Ideal S512x1024 .f32) (x13 : Vec Ideal S2048x1024 .bf16) (x14 : Vec Ideal S1x1024 .f32)

/-- The scan scratch after group 0 of chunk 0. -/
theorem hs1_0 : (kernelRun0_A.sl.HS1_4 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    vgroup (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) 0 0 (by decide) (by decide) ++ [] := by
  unfold vgroup vpiece
  rw [← tile_0_0_1_1, ← tile_0_0_1_0, ← tile_0_0_0_1, ← tile_0_0_0_0]
  exact id rfl

/-- The scan scratch after group 1 of chunk 0. -/
theorem hs1_1 : (kernelRun0_A.sl.HS1_8 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    vgroup (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) 0 1 (by decide) (by decide) ++ (kernelRun0_A.sl.HS1_4 c arg1 harg1 arg2 harg2 arg3 harg3 arg4 harg4 arg5 harg5 arg6 harg6 arg7 harg7 arg8 harg8 arg9 harg9 arg10 harg10 arg11 harg11 x0 x1 x2 x3 x4 x5 x6 x7 x8 x9 x10) := by
  unfold vgroup vpiece
  rw [← tile_0_1_1_1, ← tile_0_1_1_0, ← tile_0_1_0_1, ← tile_0_1_0_0]
  exact id rfl

/-- The scan scratch after group 0 of chunk 1. -/
theorem hs1_2 : (kernelRun0_A.sl.HS1_12 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    vgroup (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) 1 0 (by decide) (by decide) ++ (kernelRun0_A.sl.HS1_8 c arg1 harg1 arg2 harg2 arg3 harg3 arg4 harg4 arg5 harg5 arg6 harg6 arg7 harg7 arg8 harg8 arg9 harg9 arg10 harg10 arg11 harg11 x0 x1 x2 x3 x4 x5 x6 x7 x8 x9 x10) := by
  unfold vgroup vpiece
  rw [← tile_1_0_1_1, ← tile_1_0_1_0, ← tile_1_0_0_1, ← tile_1_0_0_0]
  exact id rfl

/-- The scan scratch after group 1 of chunk 1. -/
theorem hs1_3 : (kernelRun0_A.sl.HS1_16 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    vgroup (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) 1 1 (by decide) (by decide) ++ (kernelRun0_A.sl.HS1_12 c arg1 harg1 arg2 harg2 arg3 harg3 arg4 harg4 arg5 harg5 arg6 harg6 arg7 harg7 arg8 harg8 arg9 harg9 arg10 harg10 arg11 harg11 x0 x1 x2 x3 x4 x5 x6 x7 x8 x9 x10) := by
  unfold vgroup vpiece
  rw [← tile_1_1_1_1, ← tile_1_1_1_0, ← tile_1_1_0_1, ← tile_1_1_0_0]
  exact id rfl

/-- The scan scratch after group 0 of chunk 2. -/
theorem hs1_4 : (kernelRun0_A.sl.HS1_20 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    vgroup (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) 2 0 (by decide) (by decide) ++ (kernelRun0_A.sl.HS1_16 c arg1 harg1 arg2 harg2 arg3 harg3 arg4 harg4 arg5 harg5 arg6 harg6 arg7 harg7 arg8 harg8 arg9 harg9 arg10 harg10 arg11 harg11 x0 x1 x2 x3 x4 x5 x6 x7 x8 x9 x10) := by
  unfold vgroup vpiece
  rw [← tile_2_0_1_1, ← tile_2_0_1_0, ← tile_2_0_0_1, ← tile_2_0_0_0]
  exact id rfl

/-- The scan scratch after group 1 of chunk 2. -/
theorem hs1_5 : (kernelRun0_A.sl.HS1_24 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    vgroup (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) 2 1 (by decide) (by decide) ++ (kernelRun0_A.sl.HS1_20 c arg1 harg1 arg2 harg2 arg3 harg3 arg4 harg4 arg5 harg5 arg6 harg6 arg7 harg7 arg8 harg8 arg9 harg9 arg10 harg10 arg11 harg11 x0 x1 x2 x3 x4 x5 x6 x7 x8 x9 x10) := by
  unfold vgroup vpiece
  rw [← tile_2_1_1_1, ← tile_2_1_1_0, ← tile_2_1_0_1, ← tile_2_1_0_0]
  exact id rfl

/-- The scan scratch after group 0 of chunk 3. -/
theorem hs1_6 : (kernelRun0_A.sl.HS1_28 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    vgroup (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) 3 0 (by decide) (by decide) ++ (kernelRun0_A.sl.HS1_24 c arg1 harg1 arg2 harg2 arg3 harg3 arg4 harg4 arg5 harg5 arg6 harg6 arg7 harg7 arg8 harg8 arg9 harg9 arg10 harg10 arg11 harg11 x0 x1 x2 x3 x4 x5 x6 x7 x8 x9 x10) := by
  unfold vgroup vpiece
  rw [← tile_3_0_1_1, ← tile_3_0_1_0, ← tile_3_0_0_1, ← tile_3_0_0_0]
  exact id rfl

/-- The scan scratch after group 1 of chunk 3. -/
theorem hs1_7 : (kernelRun0_A.sl.HS1_32 c arg1 harg1 arg2 harg2 arg3 harg3 arg4 harg4 arg5 harg5 arg6 harg6 arg7 harg7 arg8 harg8 arg9 harg9 arg10 harg10 arg11 harg11 x0 x1 x2 x3 x4 x5 x6 x7 x8 x9 x10) =
    vgroup (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) 3 1 (by decide) (by decide) ++ (kernelRun0_A.sl.HS1_28 c arg1 harg1 arg2 harg2 arg3 harg3 arg4 harg4 arg5 harg5 arg6 harg6 arg7 harg7 arg8 harg8 arg9 harg9 arg10 harg10 arg11 harg11 x0 x1 x2 x3 x4 x5 x6 x7 x8 x9 x10) := by
  unfold vgroup vpiece
  rw [← tile_3_1_1_1, ← tile_3_1_1_0, ← tile_3_1_0_1, ← tile_3_1_0_0]
  exact id rfl

/-- After one group of tiles every stored piece of the gated scan is a tile of it. -/
theorem tiles_0 : Tiles (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) (kernelRun0_A.sl.HS1_4 c arg1 harg1 arg2 harg2 arg3 harg3 arg4 harg4 arg5 harg5 arg6 harg6 arg7 harg7 arg8 harg8 arg9 harg9 arg10 harg10 arg11 harg11 x0 x1 x2 x3 x4 x5 x6 x7 x8 x9 x10) := by
  rw [hs1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14]
  exact tiles_group _ _ (tiles_nil _ _) _ _ _ _

/-- After two groups of tiles every stored piece of the gated scan is a tile of it. -/
theorem tiles_1 : Tiles (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) (kernelRun0_A.sl.HS1_8 c arg1 harg1 arg2 harg2 arg3 harg3 arg4 harg4 arg5 harg5 arg6 harg6 arg7 harg7 arg8 harg8 arg9 harg9 arg10 harg10 arg11 harg11 x0 x1 x2 x3 x4 x5 x6 x7 x8 x9 x10) := by
  rw [hs1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14]
  exact tiles_group _ _ (tiles_0 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) _ _ _ _

/-- After three groups of tiles every stored piece of the gated scan is a tile of it. -/
theorem tiles_2 : Tiles (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) (kernelRun0_A.sl.HS1_12 c arg1 harg1 arg2 harg2 arg3 harg3 arg4 harg4 arg5 harg5 arg6 harg6 arg7 harg7 arg8 harg8 arg9 harg9 arg10 harg10 arg11 harg11 x0 x1 x2 x3 x4 x5 x6 x7 x8 x9 x10) := by
  rw [hs1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14]
  exact tiles_group _ _ (tiles_1 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) _ _ _ _

/-- After four groups of tiles every stored piece of the gated scan is a tile of it. -/
theorem tiles_3 : Tiles (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) (kernelRun0_A.sl.HS1_16 c arg1 harg1 arg2 harg2 arg3 harg3 arg4 harg4 arg5 harg5 arg6 harg6 arg7 harg7 arg8 harg8 arg9 harg9 arg10 harg10 arg11 harg11 x0 x1 x2 x3 x4 x5 x6 x7 x8 x9 x10) := by
  rw [hs1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14]
  exact tiles_group _ _ (tiles_2 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) _ _ _ _

/-- After five groups of tiles every stored piece of the gated scan is a tile of it. -/
theorem tiles_4 : Tiles (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) (kernelRun0_A.sl.HS1_20 c arg1 harg1 arg2 harg2 arg3 harg3 arg4 harg4 arg5 harg5 arg6 harg6 arg7 harg7 arg8 harg8 arg9 harg9 arg10 harg10 arg11 harg11 x0 x1 x2 x3 x4 x5 x6 x7 x8 x9 x10) := by
  rw [hs1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14]
  exact tiles_group _ _ (tiles_3 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) _ _ _ _

/-- After six groups of tiles every stored piece of the gated scan is a tile of it. -/
theorem tiles_5 : Tiles (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) (kernelRun0_A.sl.HS1_24 c arg1 harg1 arg2 harg2 arg3 harg3 arg4 harg4 arg5 harg5 arg6 harg6 arg7 harg7 arg8 harg8 arg9 harg9 arg10 harg10 arg11 harg11 x0 x1 x2 x3 x4 x5 x6 x7 x8 x9 x10) := by
  rw [hs1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14]
  exact tiles_group _ _ (tiles_4 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) _ _ _ _

/-- After seven groups of tiles every stored piece of the gated scan is a tile of it. -/
theorem tiles_6 : Tiles (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) (kernelRun0_A.sl.HS1_28 c arg1 harg1 arg2 harg2 arg3 harg3 arg4 harg4 arg5 harg5 arg6 harg6 arg7 harg7 arg8 harg8 arg9 harg9 arg10 harg10 arg11 harg11 x0 x1 x2 x3 x4 x5 x6 x7 x8 x9 x10) := by
  rw [hs1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14]
  exact tiles_group _ _ (tiles_5 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) _ _ _ _

/-- After eight groups of tiles every stored piece of the gated scan is a tile of it. -/
theorem tiles_7 : Tiles (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) (kernelRun0_A.sl.HS1_32 c arg1 harg1 arg2 harg2 arg3 harg3 arg4 harg4 arg5 harg5 arg6 harg6 arg7 harg7 arg8 harg8 arg9 harg9 arg10 harg10 arg11 harg11 x0 x1 x2 x3 x4 x5 x6 x7 x8 x9 x10) := by
  rw [hs1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14]
  exact tiles_group _ _ (tiles_6 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) _ _ _ _

/-- Group 0 of chunk 0, normalised. -/
theorem ys_0 : (kernelRun0_A.sl.v418 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10) =
    normed (arg18.view.readCov (kernelRun0_A.sl.HS1_4 c arg1 harg1 arg2 harg2 arg3 harg3 arg4 harg4 arg5 harg5 arg6 harg6 arg7 harg7 arg8 harg8 arg9 harg9 arg10 harg10 arg11 harg11 x0 x1 x2 x3 x4 x5 x6 x7 x8 x9 x10) (Rect.unit (s := S512x1024) ![0 * 128, 0 * 512] S128x512.size (inb2 (by omega) (by omega))).toLoadRect)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨0,0,0,0,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨0,0,0,1,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨0,0,1,0,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨0,0,1,1,by decide,by decide,by decide,by decide⟩) := by
  rw [← tile_0_0_0_0, ← tile_0_0_0_1, ← tile_0_0_1_0, ← tile_0_0_1_1]
  exact id rfl

/-- The normalised piece number 0 is the norm of the gated scan for its chunk and group. -/
theorem isNormed_0 : IsNormed (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨(Rect.unit (s := S512x1024) ![0 * 128, 0 * 512] S128x512.size (inb2 (by omega) (by omega))), (kernelRun0_A.sl.v418 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10)⟩ 0 0 := by
  refine ⟨by decide, by decide, _, _, arg18.view, _, (tiles_nil _ _), ?_⟩
  rw [← hs1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14, ys_0]

/-- Group 1 of chunk 0, normalised. -/
theorem ys_1 : (kernelRun0_A.sl.v773 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10) =
    normed (arg18.view.readCov (kernelRun0_A.sl.HS1_8 c arg1 harg1 arg2 harg2 arg3 harg3 arg4 harg4 arg5 harg5 arg6 harg6 arg7 harg7 arg8 harg8 arg9 harg9 arg10 harg10 arg11 harg11 x0 x1 x2 x3 x4 x5 x6 x7 x8 x9 x10) (Rect.unit (s := S512x1024) ![0 * 128, 1 * 512] S128x512.size (inb2 (by omega) (by omega))).toLoadRect)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨0,1,0,0,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨0,1,0,1,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨0,1,1,0,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨0,1,1,1,by decide,by decide,by decide,by decide⟩) := by
  rw [← tile_0_1_0_0, ← tile_0_1_0_1, ← tile_0_1_1_0, ← tile_0_1_1_1]
  exact id rfl

/-- The normalised piece number 1 is the norm of the gated scan for its chunk and group. -/
theorem isNormed_1 : IsNormed (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨(Rect.unit (s := S512x1024) ![0 * 128, 1 * 512] S128x512.size (inb2 (by omega) (by omega))), (kernelRun0_A.sl.v773 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10)⟩ 0 1 := by
  refine ⟨by decide, by decide, _, _, arg18.view, _, (tiles_0 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14), ?_⟩
  rw [← hs1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14, ys_1]

/-- Group 0 of chunk 1, normalised. -/
theorem ys_2 : (kernelRun0_A.sl.v1128 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10) =
    normed (arg18.view.readCov (kernelRun0_A.sl.HS1_12 c arg1 harg1 arg2 harg2 arg3 harg3 arg4 harg4 arg5 harg5 arg6 harg6 arg7 harg7 arg8 harg8 arg9 harg9 arg10 harg10 arg11 harg11 x0 x1 x2 x3 x4 x5 x6 x7 x8 x9 x10) (Rect.unit (s := S512x1024) ![1 * 128, 0 * 512] S128x512.size (inb2 (by omega) (by omega))).toLoadRect)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨1,0,0,0,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨1,0,0,1,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨1,0,1,0,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨1,0,1,1,by decide,by decide,by decide,by decide⟩) := by
  rw [← tile_1_0_0_0, ← tile_1_0_0_1, ← tile_1_0_1_0, ← tile_1_0_1_1]
  exact id rfl

/-- The normalised piece number 2 is the norm of the gated scan for its chunk and group. -/
theorem isNormed_2 : IsNormed (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨(Rect.unit (s := S512x1024) ![1 * 128, 0 * 512] S128x512.size (inb2 (by omega) (by omega))), (kernelRun0_A.sl.v1128 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10)⟩ 1 0 := by
  refine ⟨by decide, by decide, _, _, arg18.view, _, (tiles_1 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14), ?_⟩
  rw [← hs1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14, ys_2]

/-- Group 1 of chunk 1, normalised. -/
theorem ys_3 : (kernelRun0_A.sl.v1483 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10) =
    normed (arg18.view.readCov (kernelRun0_A.sl.HS1_16 c arg1 harg1 arg2 harg2 arg3 harg3 arg4 harg4 arg5 harg5 arg6 harg6 arg7 harg7 arg8 harg8 arg9 harg9 arg10 harg10 arg11 harg11 x0 x1 x2 x3 x4 x5 x6 x7 x8 x9 x10) (Rect.unit (s := S512x1024) ![1 * 128, 1 * 512] S128x512.size (inb2 (by omega) (by omega))).toLoadRect)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨1,1,0,0,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨1,1,0,1,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨1,1,1,0,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨1,1,1,1,by decide,by decide,by decide,by decide⟩) := by
  rw [← tile_1_1_0_0, ← tile_1_1_0_1, ← tile_1_1_1_0, ← tile_1_1_1_1]
  exact id rfl

/-- The normalised piece number 3 is the norm of the gated scan for its chunk and group. -/
theorem isNormed_3 : IsNormed (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨(Rect.unit (s := S512x1024) ![1 * 128, 1 * 512] S128x512.size (inb2 (by omega) (by omega))), (kernelRun0_A.sl.v1483 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10)⟩ 1 1 := by
  refine ⟨by decide, by decide, _, _, arg18.view, _, (tiles_2 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14), ?_⟩
  rw [← hs1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14, ys_3]

/-- Group 0 of chunk 2, normalised. -/
theorem ys_4 : (kernelRun0_A.sl.v1865 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10) =
    normed (arg18.view.readCov (kernelRun0_A.sl.HS1_20 c arg1 harg1 arg2 harg2 arg3 harg3 arg4 harg4 arg5 harg5 arg6 harg6 arg7 harg7 arg8 harg8 arg9 harg9 arg10 harg10 arg11 harg11 x0 x1 x2 x3 x4 x5 x6 x7 x8 x9 x10) (Rect.unit (s := S512x1024) ![2 * 128, 0 * 512] S128x512.size (inb2 (by omega) (by omega))).toLoadRect)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨2,0,0,0,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨2,0,0,1,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨2,0,1,0,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨2,0,1,1,by decide,by decide,by decide,by decide⟩) := by
  rw [← tile_2_0_0_0, ← tile_2_0_0_1, ← tile_2_0_1_0, ← tile_2_0_1_1]
  exact id rfl

/-- The normalised piece number 4 is the norm of the gated scan for its chunk and group. -/
theorem isNormed_4 : IsNormed (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨(Rect.unit (s := S512x1024) ![2 * 128, 0 * 512] S128x512.size (inb2 (by omega) (by omega))), (kernelRun0_A.sl.v1865 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10)⟩ 2 0 := by
  refine ⟨by decide, by decide, _, _, arg18.view, _, (tiles_3 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14), ?_⟩
  rw [← hs1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14, ys_4]

/-- Group 1 of chunk 2, normalised. -/
theorem ys_5 : (kernelRun0_A.sl.v2220 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10) =
    normed (arg18.view.readCov (kernelRun0_A.sl.HS1_24 c arg1 harg1 arg2 harg2 arg3 harg3 arg4 harg4 arg5 harg5 arg6 harg6 arg7 harg7 arg8 harg8 arg9 harg9 arg10 harg10 arg11 harg11 x0 x1 x2 x3 x4 x5 x6 x7 x8 x9 x10) (Rect.unit (s := S512x1024) ![2 * 128, 1 * 512] S128x512.size (inb2 (by omega) (by omega))).toLoadRect)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨2,1,0,0,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨2,1,0,1,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨2,1,1,0,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨2,1,1,1,by decide,by decide,by decide,by decide⟩) := by
  rw [← tile_2_1_0_0, ← tile_2_1_0_1, ← tile_2_1_1_0, ← tile_2_1_1_1]
  exact id rfl

/-- The normalised piece number 5 is the norm of the gated scan for its chunk and group. -/
theorem isNormed_5 : IsNormed (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨(Rect.unit (s := S512x1024) ![2 * 128, 1 * 512] S128x512.size (inb2 (by omega) (by omega))), (kernelRun0_A.sl.v2220 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10)⟩ 2 1 := by
  refine ⟨by decide, by decide, _, _, arg18.view, _, (tiles_4 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14), ?_⟩
  rw [← hs1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14, ys_5]

/-- Group 0 of chunk 3, normalised. -/
theorem ys_6 : (kernelRun0_A.sl.v2575 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10) =
    normed (arg18.view.readCov (kernelRun0_A.sl.HS1_28 c arg1 harg1 arg2 harg2 arg3 harg3 arg4 harg4 arg5 harg5 arg6 harg6 arg7 harg7 arg8 harg8 arg9 harg9 arg10 harg10 arg11 harg11 x0 x1 x2 x3 x4 x5 x6 x7 x8 x9 x10) (Rect.unit (s := S512x1024) ![3 * 128, 0 * 512] S128x512.size (inb2 (by omega) (by omega))).toLoadRect)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨3,0,0,0,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨3,0,0,1,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨3,0,1,0,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨3,0,1,1,by decide,by decide,by decide,by decide⟩) := by
  rw [← tile_3_0_0_0, ← tile_3_0_0_1, ← tile_3_0_1_0, ← tile_3_0_1_1]
  exact id rfl

/-- The normalised piece number 6 is the norm of the gated scan for its chunk and group. -/
theorem isNormed_6 : IsNormed (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨(Rect.unit (s := S512x1024) ![3 * 128, 0 * 512] S128x512.size (inb2 (by omega) (by omega))), (kernelRun0_A.sl.v2575 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10)⟩ 3 0 := by
  refine ⟨by decide, by decide, _, _, arg18.view, _, (tiles_5 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14), ?_⟩
  rw [← hs1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14, ys_6]

/-- Group 1 of chunk 3, normalised. -/
theorem ys_7 : (k0_pay405 (kernelRun0_A.sl.r_41 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.r_48 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2919 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10)) =
    normed (arg18.view.readCov (kernelRun0_A.sl.HS1_32 c arg1 harg1 arg2 harg2 arg3 harg3 arg4 harg4 arg5 harg5 arg6 harg6 arg7 harg7 arg8 harg8 arg9 harg9 arg10 harg10 arg11 harg11 x0 x1 x2 x3 x4 x5 x6 x7 x8 x9 x10) (Rect.unit (s := S512x1024) ![3 * 128, 1 * 512] S128x512.size (inb2 (by omega) (by omega))).toLoadRect)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨3,1,0,0,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨3,1,0,1,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨3,1,1,0,by decide,by decide,by decide,by decide⟩)
      (gated (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨3,1,1,1,by decide,by decide,by decide,by decide⟩) := by
  rw [← tile_3_1_0_0, ← tile_3_1_0_1, ← tile_3_1_1_0, ← tile_3_1_1_1]
  exact id rfl

/-- The normalised piece number 7 is the norm of the gated scan for its chunk and group. -/
theorem isNormed_7 : IsNormed (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) ⟨(Rect.unit (s := S512x1024) ![3 * 128, 1 * 512] S128x512.size (inb2 (by omega) (by omega))), (k0_pay405 (kernelRun0_A.sl.r_41 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.r_48 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2919 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10))⟩ 3 1 := by
  refine ⟨by decide, by decide, _, _, arg18.view, _, (tiles_6 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14), ?_⟩
  rw [← hs1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14, ys_7]

/-- The pieces stored in the normalised buffer after two chunks. -/
theorem hs0_4 : (kernelRun0_A.sl.HS0_4 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10) =
    [⟨(Rect.unit (s := S512x1024) ![1 * 128, 1 * 512] S128x512.size (inb2 (by omega) (by omega))), (kernelRun0_A.sl.v1483 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10)⟩,
      ⟨(Rect.unit (s := S512x1024) ![1 * 128, 0 * 512] S128x512.size (inb2 (by omega) (by omega))), (kernelRun0_A.sl.v1128 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10)⟩,
      ⟨(Rect.unit (s := S512x1024) ![0 * 128, 1 * 512] S128x512.size (inb2 (by omega) (by omega))), (kernelRun0_A.sl.v773 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10)⟩,
      ⟨(Rect.unit (s := S512x1024) ![0 * 128, 0 * 512] S128x512.size (inb2 (by omega) (by omega))), (kernelRun0_A.sl.v418 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10)⟩] ++ [] := id rfl

/-- The pieces stored in the normalised buffer after four chunks. -/
theorem hs0_8 : (kernelRun0_A.sl.HS0_8 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10) =
    [⟨(Rect.unit (s := S512x1024) ![3 * 128, 1 * 512] S128x512.size (inb2 (by omega) (by omega))), (k0_pay405 (kernelRun0_A.sl.r_41 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.r_48 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2919 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10))⟩,
      ⟨(Rect.unit (s := S512x1024) ![3 * 128, 0 * 512] S128x512.size (inb2 (by omega) (by omega))), (kernelRun0_A.sl.v2575 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10)⟩,
      ⟨(Rect.unit (s := S512x1024) ![2 * 128, 1 * 512] S128x512.size (inb2 (by omega) (by omega))), (kernelRun0_A.sl.v2220 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10)⟩,
      ⟨(Rect.unit (s := S512x1024) ![2 * 128, 0 * 512] S128x512.size (inb2 (by omega) (by omega))), (kernelRun0_A.sl.v1865 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10)⟩] ++ (kernelRun0_A.sl.HS0_4 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10) := id rfl

/-- After two chunks each stored piece is the norm of some chunk and group. -/
theorem ys_all_4 : ∀ p ∈ (kernelRun0_A.sl.HS0_4 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10), ∃ q g, IsNormed (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) p q g := by
  intro p hp
  rw [hs0_4] at hp
  simp only [List.append_nil, List.mem_cons, List.not_mem_nil, or_false] at hp
  rcases hp with rfl | rfl | rfl | rfl
  · exact ⟨_, _, isNormed_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14⟩
  · exact ⟨_, _, isNormed_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14⟩
  · exact ⟨_, _, isNormed_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14⟩
  · exact ⟨_, _, isNormed_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14⟩

/-- After four chunks each stored piece is the norm of some chunk and group. -/
theorem ys_all_8 : ∀ p ∈ (kernelRun0_A.sl.HS0_8 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10), ∃ q g, IsNormed (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) p q g := by
  intro p hp
  rw [hs0_8] at hp
  simp only [List.mem_append, List.mem_cons, List.not_mem_nil, or_false] at hp
  rcases hp with (rfl | rfl | rfl | rfl) | hp
  · exact ⟨_, _, isNormed_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14⟩
  · exact ⟨_, _, isNormed_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14⟩
  · exact ⟨_, _, isNormed_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14⟩
  · exact ⟨_, _, isNormed_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14⟩
  · exact ys_all_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14 p hp

/-- After two chunks each group of the first two chunks has its piece. -/
theorem ys_cov_4 (q g : ℕ) (hq : q < 2) (hg : g < 2) : ∃ p ∈ (kernelRun0_A.sl.HS0_4 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10), IsNormed (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) p q g := by
  rw [hs0_4]
  have e : (q = 0 ∨ q = 1) ∧ (g = 0 ∨ g = 1) := by omega
  obtain ⟨rfl | rfl, rfl | rfl⟩ := e
  · exact ⟨_, .tail _ (.tail _ (.tail _ (.head _))), isNormed_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14⟩
  · exact ⟨_, .tail _ (.tail _ (.head _)), isNormed_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14⟩
  · exact ⟨_, .tail _ (.head _), isNormed_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14⟩
  · exact ⟨_, .head _, isNormed_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14⟩

/-- After four chunks each group of the last two chunks has its piece. -/
theorem ys_cov_8 (q g : ℕ) (hq : 2 ≤ q) (hq' : q < 4) (hg : g < 2) : ∃ p ∈ (kernelRun0_A.sl.HS0_8 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10), IsNormed (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) p q g := by
  rw [hs0_8]
  have e : (q = 2 ∨ q = 3) ∧ (g = 0 ∨ g = 1) := by omega
  obtain ⟨rfl | rfl, rfl | rfl⟩ := e
  · exact ⟨_, .tail _ (.tail _ (.tail _ (.head _))), isNormed_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14⟩
  · exact ⟨_, .tail _ (.tail _ (.head _)), isNormed_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14⟩
  · exact ⟨_, .tail _ (.head _), isNormed_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14⟩
  · exact ⟨_, .head _, isNormed_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14⟩

/-- The first half of the output, from the buffers after two chunks. -/
theorem out_lo : (kernelRun0_A.sl.v1686 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 x0 x1 x2 x3 x4 x5 x6 x7 x8 x9 x10 x11 x12 x13 x14) = projected (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v1661 c arg1 harg1 arg2 harg2 arg3 harg3 arg4 harg4 arg5 harg5 arg6 harg6 arg7 harg7 arg8 harg8 arg9 harg9 arg10 harg10 arg11 harg11 arg17 arg18 x0 x1 x2 x3 x4 x5 x6 x7 x8 x9 x10) 0 (by decide) := id rfl

/-- The second half of the output, from the buffers after four chunks. -/
theorem out_hi : k0_pay1 (kernelRun0_A.sl.r_49 c arg1 harg1 arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12 x13) (View.readAt (Elt Ideal) arg15.view (Rect.unit (s := S1x1024) ![0, 0] S1x1024.size inb_S1x1024_S1x1024_0_0).toLoadRect (harg15.unread x14)) = projected (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v2931 c arg1 harg1 arg2 harg2 arg3 harg3 arg4 harg4 arg5 harg5 arg6 harg6 arg7 harg7 arg8 harg8 arg9 harg9 arg10 harg10 arg11 harg11 arg17 arg18 x0 x1 x2 x3 x4 x5 x6 x7 x8 x9 x10) 256 (by decide) := id rfl

end Cert.Tile
-- ==== Proof.HeldSums.lean ====
module

public import proofs.«01_k».proof.Proof.Held

/-! The matrices of step sums the run names are those of the blocks it loaded. -/

@[expose] public section
set_option maxRecDepth 16384
noncomputable section

namespace Cert.Tile
open Idealize.ShloMosaic Idealize.SL.Sem Cert.KernelIdeal Cert.KernelIdeal.Gen

variable {F : FTy → Type} [FloatOps F] [Named F]
variable (c : Dev nD) (arg1 : Memref sig .tc .vmem S1x128 .f32) (harg1 : arg1.IsWhole) (arg2 : Memref sig .tc .smem S16 .f32) (harg2 : arg2.IsWhole) (arg3 : Memref sig .tc .vmem S4x256x2048 .bf16) (harg3 : arg3.IsWhole) (arg4 : Memref sig .tc .vmem S2x128x128 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S128x128 .f32) (harg8 : arg8.IsWhole) (arg9 : Memref sig .tc .vmem S512x1024 .bf16) (harg9 : arg9.IsWhole) (arg10 : Memref sig .tc .vmem S4x256x512 .bf16) (harg10 : arg10.IsWhole) (arg11 : Memref sig .tc .vmem S4x256x512 .bf16) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S2048x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x1024 .f32) (harg18 : arg18.IsWhole)
variable (x0 : Vec F S1x128 .f32) (x1 : Vec F S16 .f32) (x2 : Vec F S4x256x2048 .bf16) (x3 : Vec F S2x128x128 .bf16) (x4 : Vec F S512x1024 .bf16) (x5 : Vec F S512x256 .bf16) (x6 : Vec F S512x256 .bf16) (x7 : Vec F S128x128 .f32) (x8 : Vec F S512x1024 .bf16) (x9 : Vec F S4x256x512 .bf16) (x10 : Vec F S4x256x512 .bf16) (x11 : Vec F S512x1024 .bf16) (x12 : Vec F S512x1024 .f32) (x13 : Vec F S2048x1024 .bf16) (x14 : Vec F S1x1024 .f32)

/-- The transposed step sizes of the run are those of the record of blocks. -/
theorem r_6_eq : (kernelRun0_A.sl.r_6 c arg8 harg8 x7) = Tile.dtr (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := id rfl

/-- The running sums of the run are those of the record of blocks. -/
theorem r_4_eq : (kernelRun0_A.sl.r_4 c arg1 harg1 arg4 harg4 arg8 harg8 x0 x3 x7) = colq (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := id rfl

/-- The transposed exponents of the run are those of the record of blocks. -/
theorem r_5_eq : (kernelRun0_A.sl.r_5 c arg1 harg1 arg4 harg4 arg8 harg8 x0 x3 x7) = rowq (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := id rfl

/-- The split running sums of the run are those of the record of blocks. -/
theorem r_7_eq : (kernelRun0_A.sl.r_7 c arg1 harg1 arg4 harg4 arg8 harg8 x0 x3 x7) = catq (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := id rfl

/-- All four prepared arrays of the run together are those of the record of blocks. -/
theorem heldSums_eq : (heldSums c arg1 harg1 arg4 harg4 arg8 harg8 x0 x3 x7) = sums (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := by
  unfold heldSums sums
  rw [r_4_eq c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14, r_5_eq c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14, r_6_eq c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14, r_7_eq c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14]

end Cert.Tile
-- ==== Proof.BlockOut.lean ====
module

public import proofs.«01_k».proof.Proof.Block
public import proofs.«01_k».proof.Proof.Lists
public import proofs.«01_k».proof.Proof.HeldSums
public import proofs.«01_k».proof.Proof.Gen.KernelIdeal.Value

/-! What a grid point leaves in its result's block, entry by entry. -/

@[expose] public section
set_option maxRecDepth 16384
noncomputable section

namespace Cert.Tile
open Idealize.ShloMosaic Idealize.SL.Sem Cert.KernelIdeal Cert.KernelIdeal.Gen

variable (c : Dev nD) (arg1 : Memref sig .tc .vmem S1x128 .f32) (harg1 : arg1.IsWhole) (arg2 : Memref sig .tc .smem S16 .f32) (harg2 : arg2.IsWhole) (arg3 : Memref sig .tc .vmem S4x256x2048 .bf16) (harg3 : arg3.IsWhole) (arg4 : Memref sig .tc .vmem S2x128x128 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S128x128 .f32) (harg8 : arg8.IsWhole) (arg9 : Memref sig .tc .vmem S512x1024 .bf16) (harg9 : arg9.IsWhole) (arg10 : Memref sig .tc .vmem S4x256x512 .bf16) (harg10 : arg10.IsWhole) (arg11 : Memref sig .tc .vmem S4x256x512 .bf16) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S2048x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x1024 .f32) (harg18 : arg18.IsWhole)
variable (x0 : Vec Ideal S1x128 .f32) (x1 : Vec Ideal S16 .f32) (x2 : Vec Ideal S4x256x2048 .bf16) (x3 : Vec Ideal S2x128x128 .bf16) (x4 : Vec Ideal S512x1024 .bf16) (x5 : Vec Ideal S512x256 .bf16) (x6 : Vec Ideal S512x256 .bf16) (x7 : Vec Ideal S128x128 .f32) (x8 : Vec Ideal S512x1024 .bf16) (x9 : Vec Ideal S4x256x512 .bf16) (x10 : Vec Ideal S4x256x512 .bf16) (x11 : Vec Ideal S512x1024 .bf16) (x12 : Vec Ideal S512x1024 .f32) (x13 : Vec Ideal S2048x1024 .bf16) (x14 : Vec Ideal S1x1024 .f32)

variable (i : grid0.Coords) (arg16 : Memref sig .tc .vmem S512x1024 .f32) (harg16 : arg16.IsWhole) (harg17 : arg17.IsWhole) (harg18 : arg18.IsWhole)

/-- What the grid step holds is the record of its input blocks. -/
theorem held_eq : (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) = (⟨x0, x1, x2, x3, x4, x5, x6, x7, x8, x9, x10, x11, x12, x13, x14⟩ : Inputs).loads := by
  unfold held Inputs.loads
  simp only [View.readAt_eq_ld, Memref.IsWhole.read_unread]

/-- The result's block as one function of its entries. -/
def outF (X : Inputs) (y : S512x1024.Idx) : EReal := outAt X (y 0) (y 1)

/-- The first half of the output block, entry by entry. -/
theorem lo_piece (x : S256x1024.Idx) : (kernelRun0_A.sl.v1686 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 x0 x1 x2 x3 x4 x5 x6 x7 x8 x9 x10 x11 x12 x13 x14) x
    = outF (⟨x0, x1, x2, x3, x4, x5, x6, x7, x8, x9, x10, x11, x12, x13, x14⟩ : Inputs) ((Rect.unit (s := S512x1024) ![0, 0] S256x1024.size inb_S512x1024_S256x1024_0_0).emb x) := by
  obtain ⟨l, k, rfl⟩ : ∃ (l : Fin 256) (k : Fin 1024), x = ix2 l k := ⟨x 0, x 1, by funext a; fin_cases a <;> rfl⟩
  have hat : ∀ (l : Fin 256) (k : Fin 1024), (kernelRun0_A.sl.v1661 c arg1 harg1 arg2 harg2 arg3 harg3 arg4 harg4 arg5 harg5 arg6 harg6 arg7 harg7 arg8 harg8 arg9 harg9 arg10 harg10 arg11 harg11 arg17 arg18 x0 x1 x2 x3 x4 x5 x6 x7 x8 x9 x10) (ix2 l k)
      = normAt (⟨x0, x1, x2, x3, x4, x5, x6, x7, x8, x9, x10, x11, x12, x13, x14⟩ : Inputs).loads (sums (⟨x0, x1, x2, x3, x4, x5, x6, x7, x8, x9, x10, x11, x12, x13, x14⟩ : Inputs).loads) (0 + l) k (by omega) k.isLt := by
    intro l k
    have h := readCov_normed (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) arg17.view (kernelRun0_A.sl.HS0_4 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10) (ys_all_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14) 0 (by decide) l k
      (ys_cov_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14 ((0 + l) / 128) (k / 512) (by omega) (by omega))
    rw [heldSums_eq c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14, held_eq] at h
    exact h
  rw [out_lo, held_eq]
  refine (projected_loads _ _ 0 (by decide) hat l k).trans ?_
  unfold outF
  congr 1 <;> apply Fin.ext
  · show 0 + l.val = 0 + 1 * l.val
    omega
  · show k.val = 0 + 1 * k.val
    omega

/-- The second half of the output block, entry by entry. -/
theorem hi_piece (x : S256x1024.Idx) : k0_pay1 (kernelRun0_A.sl.r_49 c arg1 harg1 arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12 x13) (View.readAt (Elt Ideal) arg15.view (Rect.unit (s := S1x1024) ![0, 0] S1x1024.size inb_S1x1024_S1x1024_0_0).toLoadRect (harg15.unread x14)) x
    = outF (⟨x0, x1, x2, x3, x4, x5, x6, x7, x8, x9, x10, x11, x12, x13, x14⟩ : Inputs) ((Rect.unit (s := S512x1024) ![256, 0] S256x1024.size inb_S512x1024_S256x1024_256_0).emb x) := by
  obtain ⟨l, k, rfl⟩ : ∃ (l : Fin 256) (k : Fin 1024), x = ix2 l k := ⟨x 0, x 1, by funext a; fin_cases a <;> rfl⟩
  have hat : ∀ (l : Fin 256) (k : Fin 1024), (kernelRun0_A.sl.v2931 c arg1 harg1 arg2 harg2 arg3 harg3 arg4 harg4 arg5 harg5 arg6 harg6 arg7 harg7 arg8 harg8 arg9 harg9 arg10 harg10 arg11 harg11 arg17 arg18 x0 x1 x2 x3 x4 x5 x6 x7 x8 x9 x10) (ix2 l k)
      = normAt (⟨x0, x1, x2, x3, x4, x5, x6, x7, x8, x9, x10, x11, x12, x13, x14⟩ : Inputs).loads (sums (⟨x0, x1, x2, x3, x4, x5, x6, x7, x8, x9, x10, x11, x12, x13, x14⟩ : Inputs).loads) (256 + l) k (by omega) k.isLt := by
    intro l k
    have h := readCov_normed (held arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (heldSums c arg1 harg1 arg4 harg4 arg8 harg8 x0 x3 x7) arg17.view (kernelRun0_A.sl.HS0_8 c arg1 harg1 arg2 harg2 arg3 harg3 arg4 harg4 arg5 harg5 arg6 harg6 arg7 harg7 arg8 harg8 arg9 harg9 arg10 harg10 arg11 harg11 arg18 x0 x1 x2 x3 x4 x5 x6 x7 x8 x9 x10) (ys_all_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14) 256 (by decide) l k
      (ys_cov_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 x14 ((256 + l) / 128) (k / 512) (by omega) (by omega) (by omega))
    rw [heldSums_eq c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14, held_eq] at h
    exact h
  rw [out_hi, held_eq]
  refine (projected_loads _ _ 256 (by decide) hat l k).trans ?_
  unfold outF
  congr 1 <;> apply Fin.ext
  · show 256 + l.val = 256 + 1 * l.val
    omega
  · show k.val = 0 + 1 * k.val
    omega

/-- A grid point leaves in its result's block the layer's output of the blocks it reads. -/
theorem out_block : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 = outF (⟨x0, x1, x2, x3, x4, x5, x6, x7, x8, x9, x10, x11, x12, x13, x14⟩ : Inputs) := by
  funext y
  have hcov := cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 y
  unfold out0_A_15
  rw [View.read_writes_junk_eq_canon]
  refine View.canon_apply_of_pieces (outF (⟨x0, x1, x2, x3, x4, x5, x6, x7, x8, x9, x10, x11, x12, x13, x14⟩ : Inputs)) _ ?_ y hcov
  unfold kernelRun0_A
  dsimp only
  intro p hp
  simp only [List.mem_cons, List.not_mem_nil, or_false] at hp
  rcases hp with rfl | rfl
  · intro x
    exact hi_piece c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 x0 x1 x2 x3 x4 x5 x6 x7 x8 x9 x10 x11 x12 x13 x14 x
  · intro x
    exact lo_piece c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 x0 x1 x2 x3 x4 x5 x6 x7 x8 x9 x10 x11 x12 x13 x14 x

end Cert.Tile
-- ==== Proof.Result.lean ====
module

public import proofs.«01_k».proof.Proof.Point
public import proofs.«01_k».proof.Proof.BlockOut

/-! The kernel's result after the run: the layer's output at every row and column. -/

@[expose] public section
set_option maxRecDepth 16384
noncomputable section

namespace Cert.Point
open Idealize.ShloMosaic Idealize.ShloMosaic.TcCoe Idealize.SL.Sem Cert.KernelIdeal Cert.KernelIdeal.Gen Cert.Tile Cert.Equation Cert.Host

variable (m : (ℓ : Loc nD τ sig) → Buf (Elt Ideal) ℓ) (c : Dev nD)

/-- The layer's output as an array. -/
def outG (A : Spec.Args) (i : S32768x1024.Idx) : EReal := Spec.out A (i 0) (i 1)

/-- What a grid step writes to the result, entry by entry, is the specified output. -/
theorem flushed_at (H : Admits (args m c)) (t : Fin cfg0.N) (y : S512x1024.Idx) :
    outF (inputs m c t) y = outG (args m c) (((cfg0.win 15).blk t).view.emb y) := by
  have e := (idx t).2.2.2.2.2.2.2.2.2.2.2.2.2.2.2
  unfold outF outG
  refine (out_eq (reads m c t) H _ _).trans ?_
  have h0 : rowAt (num t) (y 0) = (((cfg0.win 15).blk t).view.emb y) 0 := by
    refine Fin.ext ?_
    show t.val * 512 + (y 0).val = win0_15.index t 0 * 512 + 1 * (y 0).val
    rw [e]
    show t.val * 512 + (y 0).val = t.val * 512 + 1 * (y 0).val
    omega
  have h1 : y 1 = (((cfg0.win 15).blk t).view.emb y) 1 := by
    refine Fin.ext ?_
    show (y 1).val = win0_15.index t 1 * 1024 + 1 * (y 1).val
    rw [e]
    show (y 1).val = 0 * 1024 + 1 * (y 1).val
    omega
  exact congrArg₂ (Spec.out (args m c)) h0 h1

/-- After the run the result array is the layer's output. -/
theorem result (H : Admits (args m c)) : (dats m 0 c).arrAt 15 cfg0.N = outG (args m c) := by
  refine (dats m 0 c).arrAt_eq_of_covers 15 _ (by decide +kernel) fun t hf y => ?_
  refine Eq.trans ?_ (flushed_at m c H t y)
  have h := congrFun (Value.flushed15_A m c t) y
  rw [out_block] at h
  exact h

end Cert.Point
-- ==== Proof.RefRead.lean ====
module

public import proofs.«01_k».proof.Proof.TileRead
public import proofs.«01_k».proof.Proof.Spec
public import proofs.«01_k».proof.Proof.Gen.ReferenceIdeal.Run

/-! The reference's intermediate arrays, read entry by entry. -/

@[expose] public section

set_option maxRecDepth 16384

noncomputable section

namespace Cert.RefRead

open Idealize.ShloMosaic Idealize.SL.Sem Cert.ReferenceIdeal Cert.ReferenceIdeal.Value Cert.Scalars
open scoped BigOperators

variable (V : Valuation τ sig (Elt Ideal))

/-- The reference's reshaped scan input, entry by entry. -/
theorem v1_at (b : Fin 4) (s : Fin 8192) (g : Fin 2) (h : Fin 8) (p : Fin 64) : res_main_v1 V (ix5 b s g h p)
    = V (Proc.devRef .tc main_arg0) (ix2 (⟨b.val * 8192 + s.val, by omega⟩ : Fin 32768) (⟨g.val * 512 + h.val * 64 + p.val, by omega⟩ : Fin 1024)) := by
  pointwise [res_main_v1]

/-- The reference's reshaped B, entry by entry. -/
theorem v3_at (b : Fin 4) (s : Fin 8192) (g : Fin 2) (n : Fin 128) : res_main_v3 V (ix4 b s g n)
    = V (Proc.devRef .tc main_arg1) (ix2 (⟨b.val * 8192 + s.val, by omega⟩ : Fin 32768) (⟨g.val * 128 + n.val, by omega⟩ : Fin 256)) := by
  pointwise [res_main_v3]

/-- The reference's reshaped C, entry by entry. -/
theorem v5_at (b : Fin 4) (s : Fin 8192) (g : Fin 2) (n : Fin 128) : res_main_v5 V (ix4 b s g n)
    = V (Proc.devRef .tc main_arg2) (ix2 (⟨b.val * 8192 + s.val, by omega⟩ : Fin 32768) (⟨g.val * 128 + n.val, by omega⟩ : Fin 256)) := by
  pointwise [res_main_v5]

/-- The reference's unpacked step sizes, entry by entry. -/
theorem v8_at (b : Fin 4) (s : Fin 8192) (d : Fin 2) (h : Fin 16) : res_main_v8 V (ix4 b s d h)
    = V (Proc.devRef .tc main_arg3) (ix2 (⟨s.val % 128, by omega⟩ : Fin 128) (⟨b.val * 2048 + (s.val / 128) * 32 + d.val * 16 + h.val, by omega⟩ : Fin 8192)) := by
  pointwise [res_main_v8]

/-- The reference's decays, entry by entry. -/
theorem v10_at (d : Fin 2) (h : Fin 16) : res_main_v10 V (ix2 d h) = -Ideal.exp (V (Proc.devRef .tc main_arg9) (ix2 d h)) := by
  pointwise [res_main_v10]

/-- The forward step sizes, by group and head. -/
theorem v13_at (b : Fin 4) (s : Fin 8192) (g : Fin 2) (h : Fin 8) : res_main_v13 V (ix4 b s g h)
    = res_main_v8 V (ix4 b s 0 (⟨g.val * 8 + h.val, by omega⟩ : Fin 16)) := by
  pointwise [res_main_v13]

/-- The backward step sizes of the reversed sequence, by group and head. -/
theorem v62_at (b : Fin 4) (s : Fin 8192) (g : Fin 2) (h : Fin 8) : res_main_v62 V (ix4 b s g h)
    = res_main_v8 V (ix4 b s.rev 1 (⟨g.val * 8 + h.val, by omega⟩ : Fin 16)) := by
  pointwise [res_main_v62]
  simp

/-- C by chunk, for the forward scan. -/
theorem v45_at (b : Fin 4) (q : Fin 64) (l : Fin 128) (g : Fin 2) (n : Fin 128) : res_main_v45 V (ix5 b q l g n)
    = res_main_v5 V (ix4 b (⟨q.val * 128 + l.val, by omega⟩ : Fin 8192) g n) := by
  pointwise [res_main_v45]

/-- C by chunk of the reversed sequence, for the backward scan. -/
theorem v88_at (b : Fin 4) (q : Fin 64) (l : Fin 128) (g : Fin 2) (n : Fin 128) : res_main_v88 V (ix5 b q l g n)
    = res_main_v5 V (ix4 b (⟨q.val * 128 + l.val, by omega⟩ : Fin 8192).rev g n) := by
  pointwise [res_main_v88]
  simp

/-- The arguments as the reference finds them. -/
def args : Spec.Args := ⟨V (Proc.devRef .tc main_arg0), V (Proc.devRef .tc main_arg1), V (Proc.devRef .tc main_arg2),
  V (Proc.devRef .tc main_arg3), V (Proc.devRef .tc main_arg4), V (Proc.devRef .tc main_arg5), V (Proc.devRef .tc main_arg6),
  V (Proc.devRef .tc main_arg7), V (Proc.devRef .tc main_arg8), V (Proc.devRef .tc main_arg9), V (Proc.devRef .tc main_arg10),
  V (Proc.devRef .tc main_arg11), V (Proc.devRef .tc main_arg12), V (Proc.devRef .tc main_arg13), V (Proc.devRef .tc main_arg14)⟩

/-- A chunk of a batch's sequence, among all chunks. -/
def chunk (b : Fin 4) (q : Fin 64) : Fin 256 := ⟨b.val * 64 + q.val, by omega⟩

/-- A row of a chunk of a sequence. -/
def rowS (q : Fin 64) (l : Fin 128) : Fin 8192 := ⟨q.val * 128 + l.val, by omega⟩

/-- Reversing the sequence reverses the chunks and the rows within a chunk. -/
theorem rowS_rev (q : Fin 64) (l : Fin 128) : (rowS q.rev l.rev).rev = rowS q l := by
  apply Fin.ext; simp only [rowS, Fin.val_rev]; omega

/-- The row of the joined batches that a batch, a chunk and a place in it name. -/
theorem row_eq (b : Fin 4) (q : Fin 64) (l : Fin 128) :
    (⟨b.val * 8192 + (rowS q l).val, by have := (rowS q l).isLt; omega⟩ : Fin 32768) = Spec.row (chunk b q) l := by
  apply Fin.ext; simp only [rowS, Spec.row, chunk]; omega

/-- The step size argument at a batch, chunk, place, direction and head. -/
theorem step_at (b : Fin 4) (q : Fin 64) (l : Fin 128) (d : Fin 2) (h : Fin 16) :
    res_main_v8 V (ix4 b (rowS q l) d h) = Spec.step (args V) (chunk b q) d h l := by
  rw [v8_at]
  have e1 : (rowS q l).val % 128 = l.val := by simp only [rowS]; omega
  have e2 : b.val * 2048 + (rowS q l).val / 128 * 32 + d.val * 16 + h.val = (chunk b q).val * 32 + d.val * 16 + h.val := by
    simp only [rowS, chunk]; omega
  simp only [e1, e2]; rfl

/-- The scan's input at a batch, chunk, place, group and head. -/
theorem xs_at (b : Fin 4) (q : Fin 64) (l : Fin 128) (g : Fin 2) (h : Fin 8) (p : Fin 64) :
    res_main_v1 V (ix5 b (rowS q l) g h p) = (args V).xs (ix2 (Spec.row (chunk b q) l) (Spec.lane g h p)) := by
  rw [v1_at, row_eq]; rfl

/-- B at a batch, chunk, place and group. -/
theorem bm_at (b : Fin 4) (q : Fin 64) (l : Fin 128) (g : Fin 2) (n : Fin 128) :
    res_main_v3 V (ix4 b (rowS q l) g n) = (args V).bm (ix2 (Spec.row (chunk b q) l) (Spec.st g n)) := by
  rw [v3_at, row_eq]; rfl

/-- C at a batch, chunk, place and group. -/
theorem cm_at (b : Fin 4) (q : Fin 64) (l : Fin 128) (g : Fin 2) (n : Fin 128) :
    res_main_v45 V (ix5 b q l g n) = (args V).cm (ix2 (Spec.row (chunk b q) l) (Spec.st g n)) := by
  rw [v45_at, show (⟨q.val * 128 + l.val, by omega⟩ : Fin 8192) = rowS q l from rfl, v5_at, row_eq]; rfl

/-- C at the reversed place. -/
theorem cmr_at (b : Fin 4) (q : Fin 64) (l : Fin 128) (g : Fin 2) (n : Fin 128) :
    res_main_v88 V (ix5 b q.rev l.rev g n) = (args V).cm (ix2 (Spec.row (chunk b q) l) (Spec.st g n)) := by
  rw [v88_at, show (⟨q.rev.val * 128 + l.rev.val, by omega⟩ : Fin 8192) = rowS q.rev l.rev from rfl, rowS_rev, v5_at, row_eq]; rfl

/-- The reference's forward running sum is the specified one. -/
theorem cumF_at (b : Fin 4) (q : Fin 64) (l : Fin 128) (g : Fin 2) (h : Fin 8) :
    res_main_v34 V (ix5 b g h q l) = Spec.cumF (args V) (chunk b q) (Spec.hd g h) l := by
  unfold res_main_v34
  refine (cumsum_last rfl _ _ _ _ (by pointwise []) b g h q l).trans (Finset.sum_congr rfl fun t _ => ?_)
  congr 1
  pointwise []
  rw [v13_at, v10_at, show (⟨q.val * 128 + t.val, by omega⟩ : Fin 8192) = rowS q t from rfl, step_at]
  rfl

/-- The reference's running sum over the reversed sequence is the specified backward one. -/
theorem cumB_at (b : Fin 4) (q : Fin 64) (l : Fin 128) (g : Fin 2) (h : Fin 8) :
    res_main_v77 V (ix5 b g h q.rev l.rev) = Spec.cumB (args V) (chunk b q) (Spec.hd g h) l := by
  unfold res_main_v77
  refine (cumsum_last rfl _ _ _ _ (by pointwise []) b g h q.rev l.rev).trans ?_
  rw [← Equiv.sum_comp Fin.revPerm]
  refine Finset.sum_congr rfl fun t _ => ?_
  rw [Fin.revPerm_apply]
  simp only [Fin.rev_le_rev]
  congr 1
  pointwise []
  rw [v62_at, v10_at, show (⟨q.rev.val * 128 + t.rev.val, by omega⟩ : Fin 8192) = rowS q.rev t.rev from rfl,
    rowS_rev, step_at]
  rfl

end Cert.RefRead
end
-- ==== Proof.RefScan.lean ====
module

public import proofs.«01_k».proof.Proof.RefRead

/-! The reference's two scans, read entry by entry. -/

@[expose] public section

set_option maxRecDepth 16384

noncomputable section

namespace Cert.RefRead

open Idealize.ShloMosaic Idealize.SL.Sem Cert.ReferenceIdeal Cert.ReferenceIdeal.Value Cert.Scalars
open scoped BigOperators

variable (V : Valuation τ sig (Elt Ideal))

/-- The reference's mask: an entry on or below the diagonal is kept, the others are minus infinity. -/
theorem mask_at (l s : Fin 128) (a : EReal) :
    Scalar.select (Scalar.select (IntOp.cmpi .sge (IntOp.addi (BitVec.ofNat 32 ↑l) 0#32) (BitVec.ofNat 32 ↑s)) 1#1 0#1) a
      (constant (F := Ideal) S_ .f32 4286578688#32 ix0) = if s ≤ l then a else ⊥ := by
  rw [show IntOp.addi (BitVec.ofNat 32 ↑l) 0#32 = BitVec.ofNat 32 ↑l from BitVec.add_zero _, Cert.Tile.cmp_ge,
    show (1#1 : BitVec 1) = BitVec.ofBool (decide True) from by decide,
    show (0#1 : BitVec 1) = BitVec.ofBool (decide False) from by decide, Cert.Tile.select_decide,
    show (if s ≤ l then BitVec.ofBool (decide True) else BitVec.ofBool (decide False)) = BitVec.ofBool (decide (s ≤ l)) from by
      split <;> rename_i h <;> simp [h],
    Cert.Tile.select_decide]
  rfl

/-- The sum of both scans and the skip, entry by entry. -/
theorem v105_at (b : Fin 4) (q : Fin 64) (l : Fin 128) (g : Fin 2) (h : Fin 8) (p : Fin 64) :
    res_main_v105 V (ix5 b (rowS q l) g h p)
      = Spec.fwd (args V) (chunk b q) l g h p + Spec.bwd (args V) (chunk b q) l g h p := by
  pointwise [res_main_v105]
  simp
  have v := (rowS q l).isLt
  have f1 : (⟨(rowS q l).val / 128, by omega⟩ : Fin 64) = q := Fin.ext (by simp only [rowS]; omega)
  have f2 : (⟨(rowS q l).val % 128, by omega⟩ : Fin 128) = l := Fin.ext (by simp only [rowS]; omega)
  have f4 : (rowS q l).val % 128 = l.val := by simp only [rowS]; omega
  have f5 : (⟨b.val * 64 + (rowS q l).val / 128, by omega⟩ : Fin 256) = chunk b q := Fin.ext (by simp only [rowS, chunk]; omega)
  have r1 : (⟨(8191 - (rowS q l).val) / 128, by omega⟩ : Fin 64) = q.rev := Fin.ext (by simp only [rowS, Fin.val_rev]; omega)
  have r2 : (⟨(8191 - (rowS q l).val) % 128, by omega⟩ : Fin 128) = l.rev := Fin.ext (by simp only [rowS, Fin.val_rev]; omega)
  have f3 : ∀ s : Fin 128, (⟨(rowS q l).val / 128 * 128 + s.val, by omega⟩ : Fin 8192) = rowS q s :=
    fun s => Fin.ext (by simp only [rowS]; omega)
  have r3 : ∀ s : Fin 128, (⟨(8191 - (rowS q l).val) / 128 * 128 + s.val, by omega⟩ : Fin 8192) = rowS q.rev s :=
    fun s => Fin.ext (by simp only [rowS, Fin.val_rev]; omega)
  have r4 : (8191 - (rowS q l).val) % 128 = l.rev.val := by simp only [rowS, Fin.val_rev]; omega
  have r5 : (⟨b.val * 64 + (63 - (8191 - (rowS q l).val) / 128), by omega⟩ : Fin 256) = chunk b q :=
    Fin.ext (by simp only [rowS, chunk]; omega)
  simp only [f1, f2, f3, f5, r1, r2, r3, r5]
  simp only [f4, r4, mask_at, cumF_at, cumB_at, cm_at, cmr_at, xs_at, bm_at, v13_at, step_at]
  refine congrArg₂ (· + ·) (congrArg₂ (· + ·) (Finset.sum_congr rfl fun s _ => ?_) ?_)
    (congrArg₂ (· + ·) ((Equiv.sum_comp Fin.revPerm _).symm.trans (Finset.sum_congr rfl fun s _ => ?_)) ?_)
  · rfl
  · refine congrArg₂ (· * ·) (Finset.sum_congr rfl fun n _ => ?_) rfl
    exact mul_comm _ _
  · simp only [Fin.revPerm_apply, rowS_rev, cumB_at, xs_at, bm_at, v62_at, step_at, Fin.rev_le_rev]
    rfl
  · refine congrArg₂ (· * ·) (Finset.sum_congr rfl fun n _ => ?_) rfl
    exact mul_comm _ _

/-- The gated sum, by group and column of the group. -/
theorem v115_at (b : Fin 4) (q : Fin 64) (l : Fin 128) (g : Fin 2) (k : Fin 512) :
    res_main_v115 V (ix4 b (rowS q l) g k)
      = Spec.scan (args V) (chunk b q) l g (⟨k.val / 64, by omega⟩ : Fin 8) (⟨k.val % 64, by omega⟩ : Fin 64) := by
  pointwise [res_main_v115]
  rw [v105_at, xs_at, row_eq]
  have e : (⟨g.val * 512 + k.val, by omega⟩ : Fin 1024) = Spec.lane g ⟨k.val / 64, by omega⟩ ⟨k.val % 64, by omega⟩ :=
    Fin.ext (by simp only [Spec.lane]; omega)
  rw [e]
  rfl

end Cert.RefRead
end
-- ==== Proof.RefOut.lean ====
module

public import proofs.«01_k».proof.Proof.RefScan

/-! The reference's residual stream and its result, read entry by entry. -/

@[expose] public section

set_option maxRecDepth 16384

noncomputable section

namespace Cert.RefRead

open Idealize.ShloMosaic Idealize.SL.Sem Cert.ReferenceIdeal Cert.ReferenceIdeal.Value Cert.Scalars
open scoped BigOperators

variable (V : Valuation τ sig (Elt Ideal))

/-- The gated scan at a row of a batch's sequence and a lane of a group. -/
theorem scan_row (b : Fin 4) (s : Fin 8192) (g : Fin 2) (k : Fin 512) :
    res_main_v115 V (ix4 b s g k)
      = Spec.scanR (args V) (⟨b.val * 8192 + s.val, by omega⟩ : Fin 32768) (⟨g.val * 512 + k.val, by omega⟩ : Fin 1024) := by
  have e : s = rowS (⟨s.val / 128, by omega⟩ : Fin 64) (⟨s.val % 128, by omega⟩ : Fin 128) :=
    Fin.ext (by simp only [rowS]; omega)
  rw [show ix4 b s g k = ix4 b (rowS (⟨s.val / 128, by omega⟩ : Fin 64) (⟨s.val % 128, by omega⟩ : Fin 128)) g k from by rw [← e],
    v115_at]
  unfold Spec.scanR
  congr 1 <;> apply Fin.ext <;> simp only [chunk] <;> omega

/-- The reference's residual plus projection, entry by entry. -/
theorem v139_at (b : Fin 4) (s : Fin 8192) (j : Fin 1024) :
    res_main_v139 V (ix3 b s j) = Spec.hid (args V) (⟨b.val * 8192 + s.val, by omega⟩ : Fin 32768) j := by
  pointwise [res_main_v139]
  simp only [scan_row]
  unfold Spec.hid Spec.squares
  have v := s.isLt
  have e1 : ∀ x : Fin 1024, (⟨x.val / 512 * 512 + x.val % 512, by omega⟩ : Fin 1024) = x := fun x => Fin.ext (by simp only []; omega)
  have e2 : (⟨(b.val * 8192 + s.val) / 8192, by omega⟩ : Fin 4) = b := Fin.ext (by simp only []; omega)
  have e3 : (⟨(b.val * 8192 + s.val) % 8192, by omega⟩ : Fin 8192) = s := Fin.ext (by simp only []; omega)
  simp only [e1, e2, e3]
  rfl

/-- The reference's result. -/
def result : S32768x1024.Idx → EReal := val3 V (Proc.devRef .tc main_v153)

/-- The reference's result, entry by entry, is the specified one. -/
theorem result_at (n : Fin 32768) (j : Fin 1024) : result V (ix2 n j) = Spec.out (args V) n j := by
  have h : result V = _ := val3_main_v153 V
  rw [h]
  pointwise []
  simp only [v139_at]
  have e1 : (⟨n.val / 8192 * 8192 + n.val % 8192, by omega⟩ : Fin 32768) = n := Fin.ext (by simp only []; omega)
  simp only [e1]
  rfl

end Cert.RefRead
end
-- ==== Proof.Admissible.lean ====
module

public import proofs.«01_k».proof.Pre_admissible
public import proofs.«01_k».proof.Proof.Equation

/-! What the precondition says of the arguments, entry by entry. -/

@[expose] public section
set_option maxRecDepth 16384
noncomputable section

namespace Cert.Admissible
open Idealize.ShloMosaic Cert.Pre_admissible

/-- The precondition's side conditions. -/
theorem facts : Facts := ⟨by decide, by decide, by decide, by decide⟩

/-- The float word of positive infinity denotes the top element. -/
theorem inf_f32 : Ideal.ofBits .f32 0x7F800000#32 = ⊤ := by simp [Ideal.ofBits, Ideal.ieee]
/-- The bfloat word of positive infinity denotes the top element. -/
theorem inf_bf16 : Ideal.ofBits .bf16 0x7F80#16 = ⊤ := by simp [Ideal.ofBits, Ideal.ieee]
/-- The zero float word denotes zero. -/
theorem zero_f32 : Ideal.ofBits .f32 0x00000000#32 = 0 := by simp [Ideal.ofBits, Ideal.ieee]

/-- A comparison whose bit is one holds. -/
theorem ofBool_one {p : Prop} [Decidable p] (h : BitVec.ofBool (decide p) = 1#1) : p := by
  by_contra hp
  simp [hp] at h

/-- A number of finite magnitude is a real. -/
theorem real_of_abs {x : EReal} (h : max x (-x) < ⊤) : x = (x.toReal : EReal) := by
  refine (EReal.coe_toReal (ne_of_lt (lt_of_le_of_lt (le_max_left _ _) h)) fun hb => ?_).symm
  subst hb
  simp at h

/-- The exponential below infinity is a real. -/
theorem exp_real {x : EReal} (h : x < ⊤) : Ideal.exp x = ((Ideal.exp x).toReal : EReal) := by
  induction x with
  | bot => show (0 : EReal) = (((0 : EReal).toReal : ℝ) : EReal); simp
  | coe r => rfl
  | top => exact absurd h (lt_irrefl _)

variable [Facts] (A : Spec.Args)

/-- The precondition of the claim gives what the equation asks of the arguments. -/
theorem admits
    (h0 : (fn (F := Ideal) A.xs A.bm A.cm A.dt A.z A.sf A.sb A.ya A.x A.alog A.dskip A.sg A.ag A.wo A.fg).1 = fun _ => 1#1)
    (h1 : (fn (F := Ideal) A.xs A.bm A.cm A.dt A.z A.sf A.sb A.ya A.x A.alog A.dskip A.sg A.ag A.wo A.fg).2.1 = fun _ => 1#1)
    (h2 : (fn (F := Ideal) A.xs A.bm A.cm A.dt A.z A.sf A.sb A.ya A.x A.alog A.dskip A.sg A.ag A.wo A.fg).2.2.1 = fun _ => 1#1)
    (h3 : (fn (F := Ideal) A.xs A.bm A.cm A.dt A.z A.sf A.sb A.ya A.x A.alog A.dskip A.sg A.ag A.wo A.fg).2.2.2.1 = fun _ => 1#1)
    (h4 : (fn (F := Ideal) A.xs A.bm A.cm A.dt A.z A.sf A.sb A.ya A.x A.alog A.dskip A.sg A.ag A.wo A.fg).2.2.2.2 = fun _ => 1#1) :
    Equation.Admits A := by
  have k0 : ∀ i, max (A.xs i) (-(A.xs i)) < ⊤ := fun i =>
    inf_bf16 ▸ ofBool_one (p := max (A.xs i) (-(A.xs i)) < Ideal.ofBits .bf16 0x7F80#16) (congrFun h0 i)
  have k1 : ∀ i, 0 ≤ A.dt i := fun i => zero_f32 ▸ ofBool_one (p := Ideal.ofBits .f32 0x00000000#32 ≤ A.dt i) (congrFun h1 i)
  have k2 : ∀ i, A.dt i < ⊤ := fun i => inf_f32 ▸ ofBool_one (p := A.dt i < Ideal.ofBits .f32 0x7F800000#32) (congrFun h2 i)
  have k3 : ∀ i, A.alog i < ⊤ := fun i => inf_f32 ▸ ofBool_one (p := A.alog i < Ideal.ofBits .f32 0x7F800000#32) (congrFun h3 i)
  have k4 : ∀ i, max (A.dskip i) (-(A.dskip i)) < ⊤ := fun i =>
    inf_f32 ▸ ofBool_one (p := max (A.dskip i) (-(A.dskip i)) < Ideal.ofBits .f32 0x7F800000#32) (congrFun h4 i)
  exact ⟨fun i => real_of_abs (k0 i),
    fun i => (EReal.coe_toReal (ne_of_lt (k2 i)) (ne_of_gt (lt_of_lt_of_le EReal.bot_lt_zero (k1 i)))).symm,
    fun i => EReal.toReal_nonneg (k1 i), fun i => exp_real (k3 i), fun i => real_of_abs (k4 i)⟩

end Cert.Admissible
-- ==== Proof.Claims.lean ====
module

public import proofs.«01_k».proof.Defs
public import proofs.«01_k».proof.Proof.Result
public import proofs.«01_k».proof.Proof.RefOut
public import proofs.«01_k».proof.Proof.Admissible
public import proofs.«01_k».proof.Proof.Gen.Kernel.Frame
public import proofs.«01_k».proof.Proof.Gen.KernelIdeal.Frame
public import Idealize.ShloMosaic.Lib.Quiescent

/-! The five claims. -/

@[expose] public section
set_option maxRecDepth 16384
noncomputable section

namespace Cert.Proof.Claims
open Idealize.ShloMosaic Idealize.ShloMosaic.TcCoe Idealize.SL.Sem

/-- The kernel as printed ends and keeps its arguments. -/
theorem frame_p : Cert.quiescent_Kernel (hKernel := Cert.Kernel.Gen.facts) := fun m ρ _ => Cert.Kernel.Gen.frame m ρ
/-- The idealized kernel ends and keeps its arguments. -/
theorem frame_pi : Cert.quiescent_KernelIdeal (hKernelIdeal := Cert.KernelIdeal.Gen.facts) := fun m ρ _ => Cert.KernelIdeal.Gen.frame m ρ
/-- The same from admissible arguments. -/
theorem frame_pi_pre : Cert.quiescent_KernelIdeal_pre_admissible (hKernelIdeal := Cert.KernelIdeal.Gen.facts)
    (hPre_admissible := Cert.Admissible.facts) := fun m ρ _ => Cert.KernelIdeal.Gen.frame m ρ

/-- The idealized reference ends and keeps its arguments. -/
theorem frame_ri : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
/-- The same from admissible arguments. -/
theorem frame_ri_pre : Cert.quiescent_ReferenceIdeal_pre_admissible (hReferenceIdeal := Cert.ReferenceIdeal.Gen.facts)
    (hPre_admissible := Cert.Admissible.facts) := fun m ρ _ => frame_ri m ρ trivial

/-- The two named constants are the reals they are named after. -/
theorem preserves : Cert.preserves_Kernel_KernelIdeal :=
  ⟨IdealRules.named_const.statement Cert.KernelIdeal.κ "neg_log2e" .f32 0xBFB8AA3B#32 ((-((Real.log 2)⁻¹) : ℝ) : EReal) rfl,
   IdealRules.named_const.statement Cert.KernelIdeal.κ "log2e" .f32 0x3FB8AA3B#32 (((Real.log 2)⁻¹ : ℝ) : EReal) rfl⟩

/-- Equal arguments, taken together. -/
theorem args_congr {A B : Cert.Spec.Args} (h0 : A.xs = B.xs) (h1 : A.bm = B.bm) (h2 : A.cm = B.cm) (h3 : A.dt = B.dt) (h4 : A.z = B.z)
    (h5 : A.sf = B.sf) (h6 : A.sb = B.sb) (h7 : A.ya = B.ya) (h8 : A.x = B.x) (h9 : A.alog = B.alog) (h10 : A.dskip = B.dskip)
    (h11 : A.sg = B.sg) (h12 : A.ag = B.ag) (h13 : A.wo = B.wo) (h14 : A.fg = B.fg) : A = B := by
  cases A; cases B; simp_all

/-- From admissible arguments that agree, the two programs end with equal results. -/
theorem algebraic : Cert.algebraic_KernelIdeal_ReferenceIdeal_pre_admissible (hKernelIdeal := Cert.KernelIdeal.Gen.facts)
    (hReferenceIdeal := Cert.ReferenceIdeal.Gen.facts) (hPre_admissible := Cert.Admissible.facts) := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Value.val3_main_v153 (Idealize.ShloMosaic.StableHlo.launchContents m' c)).symm.trans ?_
  have hA : Cert.RefRead.args (Idealize.ShloMosaic.StableHlo.launchContents m' c) = Cert.Point.args m c := by
    obtain ⟨a0, a1, a2, a3, a4, a5, a6, a7, a8, a9, a10, a11, a12, a13, a14⟩ := hagree c
    exact args_congr a0 a1 a2 a3 a4 a5 a6 a7 a8 a9 a10 a11 a12 a13 a14
  obtain ⟨p0, p1, p2, p3, p4⟩ := hpre c
  letI := Cert.Admissible.facts
  rw [Cert.Point.result m c (Cert.Admissible.admits (Cert.Point.args m c) p0 p1 p2 p3 p4), ← hA]
  funext i
  obtain ⟨n, j, rfl⟩ : ∃ (n : Fin 32768) (j : Fin 1024), i = ix2 n j := ⟨i 0, i 1, by funext a; fin_cases a <;> rfl⟩
  exact Cert.RefRead.result_at (Idealize.ShloMosaic.StableHlo.launchContents m' c) n j

end Cert.Proof.Claims
-- ==== Proof.InVal.lean ====
module

public import proofs.«01_k».proof.Proof.Gen.Kernel2Ideal.Skeleton
public import Idealize.ShloMosaic.Lib.Pipeline.FrameBody

/-! The five blocks the projection kernel's body stores that its scratch takes no part in, as functions of the blocks
it reads. -/

@[expose] public section

set_option maxRecDepth 16384

noncomputable section

namespace Cert.InRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

/-- The normalised rows of a block. -/
def unitW (x0 : Vec F S512x1024 .f32) (x1 : Vec F S1x1024 .f32) : FVec F S512x1024 .bf16 :=
  k0_pay3 (View.ld x1 (Rect.unit (s := S1x1024) ![0, 0] S1x1024.size inb_S1x1024_S1x1024_0_0))
    (View.ld x0 (Rect.unit (s := S512x1024) ![0, 0] S512x1024.size inb_S512x1024_S512x1024_0_0))
/-- The scan's gate of a block. -/
def zW (x0 : Vec F S512x1024 .f32) (x1 : Vec F S1x1024 .f32) (x2 : Vec F S1024x2560 .bf16) : FVec F S512x1024 .bf16 :=
  k0_pay9 (unitW x0 x1) (View.ld x2 (Rect.unit (s := S1024x2560) ![0, 0] S1024x1024.size inb_S1024x2560_S1024x1024_0_0))
/-- The queries of a block. -/
def qW (x0 : Vec F S512x1024 .f32) (x1 : Vec F S1x1024 .f32) (x3 : Vec F S1024x2560 .bf16) : FVec F S512x1024 .bf16 :=
  k0_pay10 (unitW x0 x1) (View.ld x3 (Rect.unit (s := S1024x2560) ![0, 0] S1024x1024.size inb_S1024x2560_S1024x1024_0_0))
/-- The keys of a block, each head's twice. -/
def kW (x0 : Vec F S512x1024 .f32) (x1 : Vec F S1x1024 .f32) (x4 : Vec F S1024x512 .bf16) : FVec F S512x512 .bf16 :=
  k0_pay11 (unitW x0 x1) (View.ld x4 (Rect.unit (s := S1024x512) ![0, 0] S1024x512.size inb_S1024x512_S1024x512_0_0))
/-- The values of a block. -/
def vW (x0 : Vec F S512x1024 .f32) (x1 : Vec F S1x1024 .f32) (x3 : Vec F S1024x2560 .bf16) : FVec F S512x256 .bf16 :=
  k0_pay12 (unitW x0 x1) (View.ld x3 (Rect.unit (s := S1024x2560) ![0, 1280] S1024x256.size inb_S1024x2560_S1024x256_0_1280))
/-- The attention's gate of a block. -/
def gaW (x0 : Vec F S512x1024 .f32) (x1 : Vec F S1x1024 .f32) (x3 : Vec F S1024x2560 .bf16) : FVec F S512x1024 .bf16 :=
  k0_pay13 (unitW x0 x1) (View.ld x3 (Rect.unit (s := S1024x2560) ![0, 1536] S1024x1024.size inb_S1024x2560_S1024x1024_0_1536))

end Cert.InRun

end
-- ==== Proof.InSpec.lean ====
module

public import Idealize.ShloMosaic.Lib.Pointwise
public import Idealize.ShloMosaic.Lib.IdealHost

/-! The layer's input projection, entry by entry, over the extended reals: the normalised rows, their products with
the weight's columns, and the gates, queries, keys and values made of them. -/

@[expose] public section
noncomputable section

namespace Cert.InSpec
open Idealize.ShloMosaic
open scoped BigOperators

/-- The arguments these results depend on: the residual stream, the gain, the weight. -/
structure Args where
  x : (⟨3, ![4, 8192, 1024]⟩ : Shape).Idx → EReal
  g : (⟨1, ![1024]⟩ : Shape).Idx → EReal
  w : (⟨2, ![1024, 5152]⟩ : Shape).Idx → EReal

variable (A : Args)

/-- The residual stream at a row of the batches laid end to end. -/
def row (n : Fin 32768) (k : Fin 1024) : EReal :=
  A.x (ix3 (⟨n.val / 8192, by omega⟩ : Fin 4) (⟨n.val % 8192, by omega⟩ : Fin 8192) k)
/-- The row divided by its root mean square, times the gain. -/
def unit (n : Fin 32768) (k : Fin 1024) : EReal :=
  row A n k * Ideal.rsqrt (Ideal.div (∑ i : Fin 1024, row A n i * row A n i) (Ideal.ofBits .f32 0x44800000#32)
    + Ideal.ofBits .f32 0x358637BD#32) * A.g (ix1 k)
/-- The projection of a row on a column of the weight. -/
def proj (n : Fin 32768) (e : Fin 5152) : EReal := ∑ k : Fin 1024, unit A n k * A.w (ix2 k e)
/-- A value times its logistic function. -/
def silu (v : EReal) : EReal := v * Ideal.logistic v

/-- The scan's gate. -/
def z (n : Fin 32768) (j : Fin 1024) : EReal := silu (proj A n ⟨j.val, by omega⟩)
/-- The query, an eighth of the projection over the natural logarithm of two. -/
def q (n : Fin 32768) (j : Fin 1024) : EReal := proj A n ⟨2592 + j.val, by omega⟩ * (((8 * Real.log 2)⁻¹ : ℝ) : EReal)
/-- The key, each head's twice. -/
def k (n : Fin 32768) (j : Fin 512) : EReal := proj A n ⟨3616 + (j.val / 128 * 64 + j.val % 64), by omega⟩
/-- The value. -/
def v (n : Fin 32768) (j : Fin 256) : EReal := proj A n ⟨3872 + j.val, by omega⟩
/-- The attention's gate. -/
def ga (n : Fin 32768) (j : Fin 1024) : EReal := silu (proj A n ⟨4128 + j.val, by omega⟩)

/-- The five results as arrays. -/
def zG (i : (⟨2, ![32768, 1024]⟩ : Shape).Idx) : EReal := z A (i 0) (i 1)
/-- The queries as an array. -/
def qG (i : (⟨2, ![32768, 1024]⟩ : Shape).Idx) : EReal := q A (i 0) (i 1)
/-- The keys as an array. -/
def kG (i : (⟨2, ![32768, 512]⟩ : Shape).Idx) : EReal := k A (i 0) (i 1)
/-- The values as an array. -/
def vG (i : (⟨2, ![32768, 256]⟩ : Shape).Idx) : EReal := v A (i 0) (i 1)
/-- The attention's gates as an array. -/
def gaG (i : (⟨2, ![32768, 1024]⟩ : Shape).Idx) : EReal := ga A (i 0) (i 1)

/-- Dividing an eighth of a value by the logarithm of two is multiplying by the reciprocal of eight times it. -/
theorem eighth (p : EReal) : Ideal.div (p * Ideal.ofBits .f32 0x3E000000#32) (Ideal.log (Ideal.ofBits .f32 0x40000000#32))
    = p * (((8 * Real.log 2)⁻¹ : ℝ) : EReal) := by
  have h8 : Ideal.ofBits .f32 0x3E000000#32 = (((1 : ℝ) / 8 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have hl : 0 < Real.log 2 := Real.log_pos (by norm_num)
  have e : Ideal.log ((2 : ℝ) : EReal) = ((Real.log 2 : ℝ) : EReal) := if_neg (by norm_num)
  rw [h8, h2, e, Ideal.div, if_neg (by exact_mod_cast hl.ne'), ← EReal.coe_inv, mul_assoc, ← EReal.coe_mul]
  congr 2
  field_simp

end Cert.InSpec
-- ==== Proof.InBlock.lean ====
module

public import proofs.«01_k».proof.Proof.InVal
public import proofs.«01_k».proof.Proof.InSpec
public import Idealize.ShloMosaic.Lib.Pipeline.ValueKit.Tiles

/-! The five blocks of the projection kernel, entry by entry, over the extended reals. -/

@[expose] public section
set_option maxRecDepth 16384
noncomputable section

namespace Cert.InRun
open Idealize.ShloMosaic Idealize.SL.Sem Cert.Kernel2Ideal Cert.Kernel2Ideal.Gen
open scoped BigOperators

/-- A load of a rectangle of a matrix whose rows start at the first, entry by entry. -/
theorem ldc {e : EltTy} {m n m' n' b : ℕ} (Y : (⟨2, ![m, n]⟩ : Shape).Idx → Elt Ideal e) (inb) (l : Fin m') (k : Fin n')
    (hl : l.val < m) (hk : b + k.val < n) :
    View.ld Y (Rect.unit (s := (⟨2, ![m, n]⟩ : Shape)) ![0, b] (⟨2, ![m', n']⟩ : Shape).size inb) (ix2 l k)
      = Y (ix2 ⟨l.val, hl⟩ ⟨b + k.val, hk⟩) :=
  View.ld_unit_apply_of Y _ _ inb _ _ fun i => by fin_cases i <;> simp [ix2]

variable (x0 : Vec Ideal S512x1024 .f32) (x1 : Vec Ideal S1x1024 .f32) (x2 : Vec Ideal S1024x2560 .bf16)
  (x3 : Vec Ideal S1024x2560 .bf16) (x4 : Vec Ideal S1024x512 .bf16)

/-- A normalised row's entry. -/
theorem unitW_at (r : Fin 512) (k : Fin 1024) : (unitW x0 x1 (ix2 r k) : EReal)
    = (x0 (ix2 r k) : EReal) * Ideal.rsqrt (Ideal.div (∑ i : Fin 1024, (x0 (ix2 r i) : EReal) * x0 (ix2 r i)) (Ideal.ofBits .f32 0x44800000#32)
      + Ideal.ofBits .f32 0x358637BD#32) * x1 (ix2 0 k) := by
  unfold unitW
  rw [View.ld_unit_zero (by funext a; fin_cases a <;> rfl), View.ld_unit_zero (by funext a; fin_cases a <;> rfl)]
  pointwise [k0_pay3]

/-- The scan's gate at a row and a column of the block. -/
theorem zW_at (r : Fin 512) (j : Fin 1024) : (zW x0 x1 x2 (ix2 r j) : EReal) = InSpec.silu (∑ k : Fin 1024, (unitW x0 x1 (ix2 r k) : EReal) * x2 (ix2 k (⟨j.val, by omega⟩ : Fin 2560))) := by
  unfold zW
  generalize unitW x0 x1 = u
  have e : ∀ k : Fin 1024, View.ld x2 (Rect.unit (s := S1024x2560) ![0, 0] S1024x1024.size inb_S1024x2560_S1024x1024_0_0) (ix2 k j) = x2 (ix2 k (⟨j.val, by omega⟩ : Fin 2560)) :=
    fun k => (ldc x2 _ k j (by omega) (by omega)).trans (by simp only [Nat.zero_add])
  generalize View.ld x2 (Rect.unit (s := S1024x2560) ![0, 0] S1024x1024.size inb_S1024x2560_S1024x1024_0_0) = X at e ⊢
  pointwise [k0_pay9]
  simp only [e]
  rfl

/-- The query at a row and a column of the block. -/
theorem qW_at (r : Fin 512) (j : Fin 1024) : (qW x0 x1 x3 (ix2 r j) : EReal) = (∑ k : Fin 1024, (unitW x0 x1 (ix2 r k) : EReal) * x3 (ix2 k (⟨j.val, by omega⟩ : Fin 2560))) * (((8 * Real.log 2)⁻¹ : ℝ) : EReal) := by
  unfold qW
  generalize unitW x0 x1 = u
  have e : ∀ k : Fin 1024, View.ld x3 (Rect.unit (s := S1024x2560) ![0, 0] S1024x1024.size inb_S1024x2560_S1024x1024_0_0) (ix2 k j) = x3 (ix2 k (⟨j.val, by omega⟩ : Fin 2560)) :=
    fun k => (ldc x3 _ k j (by omega) (by omega)).trans (by simp only [Nat.zero_add])
  generalize View.ld x3 (Rect.unit (s := S1024x2560) ![0, 0] S1024x1024.size inb_S1024x2560_S1024x1024_0_0) = X at e ⊢
  pointwise [k0_pay10]
  simp only [e]
  rfl

/-- The key at a row and a column of the block. -/
theorem kW_at (r : Fin 512) (j : Fin 512) : (kW x0 x1 x4 (ix2 r j) : EReal) = ∑ k : Fin 1024, (unitW x0 x1 (ix2 r k) : EReal) * x4 (ix2 k j) := by
  unfold kW
  generalize unitW x0 x1 = u
  rw [View.ld_unit_zero (by funext a; fin_cases a <;> rfl)]
  pointwise [k0_pay11]

/-- The value at a row and a column of the block. -/
theorem vW_at (r : Fin 512) (j : Fin 256) : (vW x0 x1 x3 (ix2 r j) : EReal) = ∑ k : Fin 1024, (unitW x0 x1 (ix2 r k) : EReal) * x3 (ix2 k (⟨1280 + j.val, by omega⟩ : Fin 2560)) := by
  unfold vW
  generalize unitW x0 x1 = u
  have e : ∀ k : Fin 1024, View.ld x3 (Rect.unit (s := S1024x2560) ![0, 1280] S1024x256.size inb_S1024x2560_S1024x256_0_1280) (ix2 k j) = x3 (ix2 k (⟨1280 + j.val, by omega⟩ : Fin 2560)) :=
    fun k => (ldc x3 _ k j (by omega) (by omega)).trans (by simp only [Nat.zero_add])
  generalize View.ld x3 (Rect.unit (s := S1024x2560) ![0, 1280] S1024x256.size inb_S1024x2560_S1024x256_0_1280) = X at e ⊢
  pointwise [k0_pay12]
  simp only [e]

/-- The attention's gate at a row and a column of the block. -/
theorem gaW_at (r : Fin 512) (j : Fin 1024) : (gaW x0 x1 x3 (ix2 r j) : EReal) = InSpec.silu (∑ k : Fin 1024, (unitW x0 x1 (ix2 r k) : EReal) * x3 (ix2 k (⟨1536 + j.val, by omega⟩ : Fin 2560))) := by
  unfold gaW
  generalize unitW x0 x1 = u
  have e : ∀ k : Fin 1024, View.ld x3 (Rect.unit (s := S1024x2560) ![0, 1536] S1024x1024.size inb_S1024x2560_S1024x1024_0_1536) (ix2 k j) = x3 (ix2 k (⟨1536 + j.val, by omega⟩ : Fin 2560)) :=
    fun k => (ldc x3 _ k j (by omega) (by omega)).trans (by simp only [Nat.zero_add])
  generalize View.ld x3 (Rect.unit (s := S1024x2560) ![0, 1536] S1024x1024.size inb_S1024x2560_S1024x1024_0_1536) = X at e ⊢
  pointwise [k0_pay13]
  simp only [e]
  rfl

end Cert.InRun
-- ==== Proof.InRuns.lean ====
module

public import proofs.«01_k».proof.Proof.Gen.Kernel2Ideal.Skeleton
public import proofs.«01_k».proof.Proof.Gen.Kernel2Ideal.Frame

/-! What the runs of the projection kernel's body share: its one condition, its staging buffers, its scratch. -/

@[expose] public section

set_option maxRecDepth 16384

noncomputable section

namespace Cert.InRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

/-- The body clears its scratch: the condition of its conditional. -/
abbrev clears (i : grid0.Coords) : Prop := (Scalar.cmpi .ne (Scalar.extui (Scalar.cmpi .eq (BitVec.ofNat 32 (i 0).val) 0#32)) 0#32) = 1#1

/-- It does so at the first grid point and at no other. -/
theorem clears_iff : ∀ t : Fin cfg0.N, clears (grid0.coords t) ↔ t.val = 0 :=
  (fun t => by
    have ht : t.val < 65 := Nat.lt_of_lt_of_eq t.isLt N_0
    have e0 : (grid0.coords t 0).val = t.val / 1 % 65 := Pipeline.Grid.coords_val t 0 (by decide) rfl
    have e1 : t.val / 1 % 65 = t.val := by omega
    rw [e1] at e0
    simp only [clears, e0]
    word_cmp
   : ∀ t : Fin grid0.N, clears (grid0.coords t) ↔ t.val = 0)

/-- The staging buffer of window 0 at a grid point. -/
abbrev st0 (t : Fin cfg0.N) : Memref sig .tc .vmem S512x1024 .f32 := win0_0.stage (cfg0.slots t 0)
/-- The staging buffer of window 0 is a whole buffer. -/
abbrev hst0 (t : Fin cfg0.N) : (st0 t).IsWhole := hstage0_0 ((cfg0.slots t 0).cast nbuf0_0)
/-- The staging buffer of window 1 at a grid point. -/
abbrev st1 (t : Fin cfg0.N) : Memref sig .tc .vmem S1x1024 .f32 := win0_1.stage (cfg0.slots t 1)
/-- The staging buffer of window 1 is a whole buffer. -/
abbrev hst1 (t : Fin cfg0.N) : (st1 t).IsWhole := hstage0_1 ((cfg0.slots t 1).cast nbuf0_1)
/-- The staging buffer of window 2 at a grid point. -/
abbrev st2 (t : Fin cfg0.N) : Memref sig .tc .vmem S1024x2560 .bf16 := win0_2.stage (cfg0.slots t 2)
/-- The staging buffer of window 2 is a whole buffer. -/
abbrev hst2 (t : Fin cfg0.N) : (st2 t).IsWhole := hstage0_2 ((cfg0.slots t 2).cast nbuf0_2)
/-- The staging buffer of window 3 at a grid point. -/
abbrev st3 (t : Fin cfg0.N) : Memref sig .tc .vmem S1024x2560 .bf16 := win0_3.stage (cfg0.slots t 3)
/-- The staging buffer of window 3 is a whole buffer. -/
abbrev hst3 (t : Fin cfg0.N) : (st3 t).IsWhole := hstage0_3 ((cfg0.slots t 3).cast nbuf0_3)
/-- The staging buffer of window 4 at a grid point. -/
abbrev st4 (t : Fin cfg0.N) : Memref sig .tc .vmem S1024x512 .bf16 := win0_4.stage (cfg0.slots t 4)
/-- The staging buffer of window 4 is a whole buffer. -/
abbrev hst4 (t : Fin cfg0.N) : (st4 t).IsWhole := hstage0_4 ((cfg0.slots t 4).cast nbuf0_4)
/-- The staging buffer of window 5 at a grid point. -/
abbrev st5 (t : Fin cfg0.N) : Memref sig .tc .vmem S1024x128 .bf16 := win0_5.stage (cfg0.slots t 5)
/-- The staging buffer of window 5 is a whole buffer. -/
abbrev hst5 (t : Fin cfg0.N) : (st5 t).IsWhole := hstage0_5 ((cfg0.slots t 5).cast nbuf0_5)
/-- The staging buffer of window 6 at a grid point. -/
abbrev st6 (t : Fin cfg0.N) : Memref sig .tc .vmem S5x1536 .f32 := win0_6.stage (cfg0.slots t 6)
/-- The staging buffer of window 6 is a whole buffer. -/
abbrev hst6 (t : Fin cfg0.N) : (st6 t).IsWhole := hstage0_6 ((cfg0.slots t 6).cast nbuf0_6)
/-- The staging buffer of window 7 at a grid point. -/
abbrev st7 (t : Fin cfg0.N) : Memref sig .tc .vmem S1x1536 .f32 := win0_7.stage (cfg0.slots t 7)
/-- The staging buffer of window 7 is a whole buffer. -/
abbrev hst7 (t : Fin cfg0.N) : (st7 t).IsWhole := hstage0_7 ((cfg0.slots t 7).cast nbuf0_7)
/-- The staging buffer of window 8 at a grid point. -/
abbrev st8 (t : Fin cfg0.N) : Memref sig .tc .vmem S1x128 .f32 := win0_8.stage (cfg0.slots t 8)
/-- The staging buffer of window 8 is a whole buffer. -/
abbrev hst8 (t : Fin cfg0.N) : (st8 t).IsWhole := hstage0_8 ((cfg0.slots t 8).cast nbuf0_8)
/-- The staging buffer of window 9 at a grid point. -/
abbrev st9 (t : Fin cfg0.N) : Memref sig .tc .vmem S512x1024 .bf16 := win0_9.stage (cfg0.slots t 9)
/-- The staging buffer of window 9 is a whole buffer. -/
abbrev hst9 (t : Fin cfg0.N) : (st9 t).IsWhole := hstage0_9 ((cfg0.slots t 9).cast nbuf0_9)
/-- The staging buffer of window 10 at a grid point. -/
abbrev st10 (t : Fin cfg0.N) : Memref sig .tc .vmem S512x1024 .bf16 := win0_10.stage (cfg0.slots t 10)
/-- The staging buffer of window 10 is a whole buffer. -/
abbrev hst10 (t : Fin cfg0.N) : (st10 t).IsWhole := hstage0_10 ((cfg0.slots t 10).cast nbuf0_10)
/-- The staging buffer of window 11 at a grid point. -/
abbrev st11 (t : Fin cfg0.N) : Memref sig .tc .vmem S512x256 .bf16 := win0_11.stage (cfg0.slots t 11)
/-- The staging buffer of window 11 is a whole buffer. -/
abbrev hst11 (t : Fin cfg0.N) : (st11 t).IsWhole := hstage0_11 ((cfg0.slots t 11).cast nbuf0_11)
/-- The staging buffer of window 12 at a grid point. -/
abbrev st12 (t : Fin cfg0.N) : Memref sig .tc .vmem S512x256 .bf16 := win0_12.stage (cfg0.slots t 12)
/-- The staging buffer of window 12 is a whole buffer. -/
abbrev hst12 (t : Fin cfg0.N) : (st12 t).IsWhole := hstage0_12 ((cfg0.slots t 12).cast nbuf0_12)
/-- The staging buffer of window 13 at a grid point. -/
abbrev st13 (t : Fin cfg0.N) : Memref sig .tc .vmem S128x128 .f32 := win0_13.stage (cfg0.slots t 13)
/-- The staging buffer of window 13 is a whole buffer. -/
abbrev hst13 (t : Fin cfg0.N) : (st13 t).IsWhole := hstage0_13 ((cfg0.slots t 13).cast nbuf0_13)
/-- The staging buffer of window 14 at a grid point. -/
abbrev st14 (t : Fin cfg0.N) : Memref sig .tc .vmem S512x1024 .bf16 := win0_14.stage (cfg0.slots t 14)
/-- The staging buffer of window 14 is a whole buffer. -/
abbrev hst14 (t : Fin cfg0.N) : (st14 t).IsWhole := hstage0_14 ((cfg0.slots t 14).cast nbuf0_14)
/-- The staging buffer of window 15 at a grid point. -/
abbrev st15 (t : Fin cfg0.N) : Memref sig .tc .vmem S512x512 .bf16 := win0_15.stage (cfg0.slots t 15)
/-- The staging buffer of window 15 is a whole buffer. -/
abbrev hst15 (t : Fin cfg0.N) : (st15 t).IsWhole := hstage0_15 ((cfg0.slots t 15).cast nbuf0_15)
/-- The staging buffer of window 16 at a grid point. -/
abbrev st16 (t : Fin cfg0.N) : Memref sig .tc .vmem S512x256 .bf16 := win0_16.stage (cfg0.slots t 16)
/-- The staging buffer of window 16 is a whole buffer. -/
abbrev hst16 (t : Fin cfg0.N) : (st16 t).IsWhole := hstage0_16 ((cfg0.slots t 16).cast nbuf0_16)
/-- The staging buffer of window 17 at a grid point. -/
abbrev st17 (t : Fin cfg0.N) : Memref sig .tc .vmem S512x1024 .bf16 := win0_17.stage (cfg0.slots t 17)
/-- The staging buffer of window 17 is a whole buffer. -/
abbrev hst17 (t : Fin cfg0.N) : (st17 t).IsWhole := hstage0_17 ((cfg0.slots t 17).cast nbuf0_17)
/-- The scratch the body keeps the padded columns in. -/
abbrev ring : Memref sig .tc .vmem S3x528x1536 .f32 := Memref.whole cc0_scratch0

/-- Beside the windows the body owns its scratch, at some contents, and the generator register. -/
theorem beside (c : Dev nD) :
    (Pipeline.ΦA spec0 c : sProp (MT nD τ sig Unit (Elt F) ℕ (UR sig nD τ) ℕ))
      = iprop(iprop((∃ d, owns (c : Thread nD τ) ring fullShare d)) ∗ (∃ r, prngReg c r)) := by
  unfold Pipeline.ΦA; rw [scopedRest0_eq]; simp only [ring, owns_whole]; try rfl

end Cert.InRun

end
-- ==== Proof.InFirst.lean ====
module

public import proofs.«01_k».proof.Proof.InRuns

/-! The body of the projection kernel at the first grid point, where it clears its scratch. -/

@[expose] public section

set_option maxRecDepth 16384

noncomputable section

namespace Cert.InRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

variable (c : Dev nD) (i : grid0.Coords)
variable (arg1 : Memref sig .tc .vmem S512x1024 .f32) (harg1 : arg1.IsWhole)
variable (arg2 : Memref sig .tc .vmem S1x1024 .f32) (harg2 : arg2.IsWhole)
variable (arg3 : Memref sig .tc .vmem S1024x2560 .bf16) (harg3 : arg3.IsWhole)
variable (arg4 : Memref sig .tc .vmem S1024x2560 .bf16) (harg4 : arg4.IsWhole)
variable (arg5 : Memref sig .tc .vmem S1024x512 .bf16) (harg5 : arg5.IsWhole)
variable (arg6 : Memref sig .tc .vmem S1024x128 .bf16) (harg6 : arg6.IsWhole)
variable (arg7 : Memref sig .tc .vmem S5x1536 .f32) (harg7 : arg7.IsWhole)
variable (arg8 : Memref sig .tc .vmem S1x1536 .f32) (harg8 : arg8.IsWhole)
variable (arg9 : Memref sig .tc .vmem S1x128 .f32) (harg9 : arg9.IsWhole)
variable (arg10 : Memref sig .tc .vmem S512x1024 .bf16) (harg10 : arg10.IsWhole)
variable (arg11 : Memref sig .tc .vmem S512x1024 .bf16) (harg11 : arg11.IsWhole)
variable (arg12 : Memref sig .tc .vmem S512x256 .bf16) (harg12 : arg12.IsWhole)
variable (arg13 : Memref sig .tc .vmem S512x256 .bf16) (harg13 : arg13.IsWhole)
variable (arg14 : Memref sig .tc .vmem S128x128 .f32) (harg14 : arg14.IsWhole)
variable (arg15 : Memref sig .tc .vmem S512x1024 .bf16) (harg15 : arg15.IsWhole)
variable (arg16 : Memref sig .tc .vmem S512x512 .bf16) (harg16 : arg16.IsWhole)
variable (arg17 : Memref sig .tc .vmem S512x256 .bf16) (harg17 : arg17.IsWhole)
variable (arg18 : Memref sig .tc .vmem S512x1024 .bf16) (harg18 : arg18.IsWhole)
variable (arg19 : Memref sig .tc .vmem S3x528x1536 .f32) (harg19 : arg19.IsWhole)
variable (x0 : Vec F S512x1024 .f32) (x1 : Vec F S1x1024 .f32) (x2 : Vec F S1024x2560 .bf16) (x3 : Vec F S1024x2560 .bf16) (x4 : Vec F S1024x512 .bf16) (x5 : Vec F S1024x128 .bf16) (x6 : Vec F S5x1536 .f32) (x7 : Vec F S1x1536 .f32) (x8 : Vec F S1x128 .f32)

set_option maxHeartbeats 8020000 in
/-- At the first grid point the body, given its inputs' blocks, leaves them as they were and stores in the buffers of the five outputs the pieces named; in the other buffers and the scratch it leaves some contents. -/
def atFirst (hc0 : clears i) :
    Σ' (L9 : List (View.Piece (Elt F) S512x1024 .bf16)), Σ' (L14 : List (View.Piece (Elt F) S512x1024 .bf16)), Σ' (L15 : List (View.Piece (Elt F) S512x512 .bf16)), Σ' (L16 : List (View.Piece (Elt F) S512x256 .bf16)), { L17 : List (View.Piece (Elt F) S512x1024 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ d, owns (c : Thread nD τ) arg19 fullShare d)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0_inproj_eq_skeleton]; unfold cc0_inproj_skel
    simp only [k0_part111_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part112_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]; · iexists _; iexact H14
    isplitl [H15]; · iexists _; iexact H15
    isplitl [H16]; · iexists _; iexact H16
    isplitl [H17]; · iexists _; iexact H17
    iexists _, _; isplitr; swap; · iexact H18
    ipureintro; rfl

end Cert.InRun

end
-- ==== Proof.InBackFirst.lean ====
module

public import proofs.«01_k».proof.Proof.InFirst
public import proofs.«01_k».proof.Proof.InVal
public import Idealize.ShloMosaic.Lib.VecWindow

/-! What the body's named stores leave in their buffers: at the first grid point. -/

@[expose] public section

set_option maxRecDepth 16384

noncomputable section

namespace Cert.InRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

variable (c : Dev nD) (i : grid0.Coords)
variable (arg1 : Memref sig .tc .vmem S512x1024 .f32) (harg1 : arg1.IsWhole)
variable (arg2 : Memref sig .tc .vmem S1x1024 .f32) (harg2 : arg2.IsWhole)
variable (arg3 : Memref sig .tc .vmem S1024x2560 .bf16) (harg3 : arg3.IsWhole)
variable (arg4 : Memref sig .tc .vmem S1024x2560 .bf16) (harg4 : arg4.IsWhole)
variable (arg5 : Memref sig .tc .vmem S1024x512 .bf16) (harg5 : arg5.IsWhole)
variable (arg6 : Memref sig .tc .vmem S1024x128 .bf16) (harg6 : arg6.IsWhole)
variable (arg7 : Memref sig .tc .vmem S5x1536 .f32) (harg7 : arg7.IsWhole)
variable (arg8 : Memref sig .tc .vmem S1x1536 .f32) (harg8 : arg8.IsWhole)
variable (arg9 : Memref sig .tc .vmem S1x128 .f32) (harg9 : arg9.IsWhole)
variable (arg10 : Memref sig .tc .vmem S512x1024 .bf16) (harg10 : arg10.IsWhole)
variable (arg11 : Memref sig .tc .vmem S512x1024 .bf16) (harg11 : arg11.IsWhole)
variable (arg12 : Memref sig .tc .vmem S512x256 .bf16) (harg12 : arg12.IsWhole)
variable (arg13 : Memref sig .tc .vmem S512x256 .bf16) (harg13 : arg13.IsWhole)
variable (arg14 : Memref sig .tc .vmem S128x128 .f32) (harg14 : arg14.IsWhole)
variable (arg15 : Memref sig .tc .vmem S512x1024 .bf16) (harg15 : arg15.IsWhole)
variable (arg16 : Memref sig .tc .vmem S512x512 .bf16) (harg16 : arg16.IsWhole)
variable (arg17 : Memref sig .tc .vmem S512x256 .bf16) (harg17 : arg17.IsWhole)
variable (arg18 : Memref sig .tc .vmem S512x1024 .bf16) (harg18 : arg18.IsWhole)
variable (arg19 : Memref sig .tc .vmem S3x528x1536 .f32) (harg19 : arg19.IsWhole)
variable (x0 : Vec F S512x1024 .f32) (x1 : Vec F S1x1024 .f32) (x2 : Vec F S1024x2560 .bf16) (x3 : Vec F S1024x2560 .bf16) (x4 : Vec F S1024x512 .bf16) (x5 : Vec F S1024x128 .bf16) (x6 : Vec F S5x1536 .f32) (x7 : Vec F S1x1536 .f32) (x8 : Vec F S1x128 .f32)

include harg1 harg2 harg3 harg4 harg5

/-- At the first grid point the store in output 9 leaves the scan's gate of the block, whatever was there. -/
theorem atFirst_z (hc0 : clears i) (f : arg10.view.ty.Contents (Elt F)) :
    arg10.view.read (Elt F) (arg10.view.writes (Elt F) f (atFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 hc0).1) = zW x0 x1 x2 := by
  unfold atFirst
  dsimp only
  refine (View.read_writes_full _ _ _ _ _).trans (Eq.trans (b := zW (arg1.view.read (Elt F) (harg1.unread x0)) (arg2.view.read (Elt F) (harg2.unread x1)) (arg3.view.read (Elt F) (harg3.unread x2))) rfl ?_)
  simp only [Memref.IsWhole.read_unread]

/-- At the first grid point the store in output 14 leaves the queries of the block, whatever was there. -/
theorem atFirst_q (hc0 : clears i) (f : arg15.view.ty.Contents (Elt F)) :
    arg15.view.read (Elt F) (arg15.view.writes (Elt F) f (atFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 hc0).2.1) = qW x0 x1 x3 := by
  unfold atFirst
  dsimp only
  refine (View.read_writes_full _ _ _ _ _).trans (Eq.trans (b := qW (arg1.view.read (Elt F) (harg1.unread x0)) (arg2.view.read (Elt F) (harg2.unread x1)) (arg4.view.read (Elt F) (harg4.unread x3))) rfl ?_)
  simp only [Memref.IsWhole.read_unread]

/-- At the first grid point the store in output 15 leaves the keys of the block, whatever was there. -/
theorem atFirst_k (hc0 : clears i) (f : arg16.view.ty.Contents (Elt F)) :
    arg16.view.read (Elt F) (arg16.view.writes (Elt F) f (atFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 hc0).2.2.1) = kW x0 x1 x4 := by
  unfold atFirst
  dsimp only
  refine (View.read_writes_full _ _ _ _ _).trans (Eq.trans (b := kW (arg1.view.read (Elt F) (harg1.unread x0)) (arg2.view.read (Elt F) (harg2.unread x1)) (arg5.view.read (Elt F) (harg5.unread x4))) rfl ?_)
  simp only [Memref.IsWhole.read_unread]

/-- At the first grid point the store in output 16 leaves the values of the block, whatever was there. -/
theorem atFirst_v (hc0 : clears i) (f : arg17.view.ty.Contents (Elt F)) :
    arg17.view.read (Elt F) (arg17.view.writes (Elt F) f (atFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 hc0).2.2.2.1) = vW x0 x1 x3 := by
  unfold atFirst
  dsimp only
  refine (View.read_writes_full _ _ _ _ _).trans (Eq.trans (b := vW (arg1.view.read (Elt F) (harg1.unread x0)) (arg2.view.read (Elt F) (harg2.unread x1)) (arg4.view.read (Elt F) (harg4.unread x3))) rfl ?_)
  simp only [Memref.IsWhole.read_unread]

/-- At the first grid point the store in output 17 leaves the attention's gate of the block, whatever was there. -/
theorem atFirst_ga (hc0 : clears i) (f : arg18.view.ty.Contents (Elt F)) :
    arg18.view.read (Elt F) (arg18.view.writes (Elt F) f (atFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 hc0).2.2.2.2.1) = gaW x0 x1 x3 := by
  unfold atFirst
  dsimp only
  refine (View.read_writes_full _ _ _ _ _).trans (Eq.trans (b := gaW (arg1.view.read (Elt F) (harg1.unread x0)) (arg2.view.read (Elt F) (harg2.unread x1)) (arg4.view.read (Elt F) (harg4.unread x3))) rfl ?_)
  simp only [Memref.IsWhole.read_unread]

end Cert.InRun

end
-- ==== Proof.InLater.lean ====
module

public import proofs.«01_k».proof.Proof.InFirst

/-! The body of the projection kernel at a later grid point. -/

@[expose] public section

set_option maxRecDepth 16384

noncomputable section

namespace Cert.InRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

variable (c : Dev nD) (i : grid0.Coords)
variable (arg1 : Memref sig .tc .vmem S512x1024 .f32) (harg1 : arg1.IsWhole)
variable (arg2 : Memref sig .tc .vmem S1x1024 .f32) (harg2 : arg2.IsWhole)
variable (arg3 : Memref sig .tc .vmem S1024x2560 .bf16) (harg3 : arg3.IsWhole)
variable (arg4 : Memref sig .tc .vmem S1024x2560 .bf16) (harg4 : arg4.IsWhole)
variable (arg5 : Memref sig .tc .vmem S1024x512 .bf16) (harg5 : arg5.IsWhole)
variable (arg6 : Memref sig .tc .vmem S1024x128 .bf16) (harg6 : arg6.IsWhole)
variable (arg7 : Memref sig .tc .vmem S5x1536 .f32) (harg7 : arg7.IsWhole)
variable (arg8 : Memref sig .tc .vmem S1x1536 .f32) (harg8 : arg8.IsWhole)
variable (arg9 : Memref sig .tc .vmem S1x128 .f32) (harg9 : arg9.IsWhole)
variable (arg10 : Memref sig .tc .vmem S512x1024 .bf16) (harg10 : arg10.IsWhole)
variable (arg11 : Memref sig .tc .vmem S512x1024 .bf16) (harg11 : arg11.IsWhole)
variable (arg12 : Memref sig .tc .vmem S512x256 .bf16) (harg12 : arg12.IsWhole)
variable (arg13 : Memref sig .tc .vmem S512x256 .bf16) (harg13 : arg13.IsWhole)
variable (arg14 : Memref sig .tc .vmem S128x128 .f32) (harg14 : arg14.IsWhole)
variable (arg15 : Memref sig .tc .vmem S512x1024 .bf16) (harg15 : arg15.IsWhole)
variable (arg16 : Memref sig .tc .vmem S512x512 .bf16) (harg16 : arg16.IsWhole)
variable (arg17 : Memref sig .tc .vmem S512x256 .bf16) (harg17 : arg17.IsWhole)
variable (arg18 : Memref sig .tc .vmem S512x1024 .bf16) (harg18 : arg18.IsWhole)
variable (arg19 : Memref sig .tc .vmem S3x528x1536 .f32) (harg19 : arg19.IsWhole)
variable (x0 : Vec F S512x1024 .f32) (x1 : Vec F S1x1024 .f32) (x2 : Vec F S1024x2560 .bf16) (x3 : Vec F S1024x2560 .bf16) (x4 : Vec F S1024x512 .bf16) (x5 : Vec F S1024x128 .bf16) (x6 : Vec F S5x1536 .f32) (x7 : Vec F S1x1536 .f32) (x8 : Vec F S1x128 .f32)

set_option maxHeartbeats 8020000 in
/-- At a later grid point the body, given its inputs' blocks, leaves them as they were and stores in the buffers of the five outputs the pieces named; in the other buffers and the scratch it leaves some contents. -/
def atLater (hc0 : ¬ clears i) :
    Σ' (L9 : List (View.Piece (Elt F) S512x1024 .bf16)), Σ' (L14 : List (View.Piece (Elt F) S512x1024 .bf16)), Σ' (L15 : List (View.Piece (Elt F) S512x512 .bf16)), Σ' (L16 : List (View.Piece (Elt F) S512x256 .bf16)), { L17 : List (View.Piece (Elt F) S512x1024 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ d, owns (c : Thread nD τ) arg19 fullShare d)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0_inproj_eq_skeleton]; unfold cc0_inproj_skel
    simp only [k0_part111_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part112_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]; · iexists _; iexact H14
    isplitl [H15]; · iexists _; iexact H15
    isplitl [H16]; · iexists _; iexact H16
    isplitl [H17]; · iexists _; iexact H17
    iexists _, _; isplitr; swap; · iexact H18
    ipureintro; rfl

end Cert.InRun

end
-- ==== Proof.InBackLater.lean ====
module

public import proofs.«01_k».proof.Proof.InLater
public import proofs.«01_k».proof.Proof.InVal
public import Idealize.ShloMosaic.Lib.VecWindow

/-! What the body's named stores leave in their buffers: at a later grid point. -/

@[expose] public section

set_option maxRecDepth 16384

noncomputable section

namespace Cert.InRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

variable (c : Dev nD) (i : grid0.Coords)
variable (arg1 : Memref sig .tc .vmem S512x1024 .f32) (harg1 : arg1.IsWhole)
variable (arg2 : Memref sig .tc .vmem S1x1024 .f32) (harg2 : arg2.IsWhole)
variable (arg3 : Memref sig .tc .vmem S1024x2560 .bf16) (harg3 : arg3.IsWhole)
variable (arg4 : Memref sig .tc .vmem S1024x2560 .bf16) (harg4 : arg4.IsWhole)
variable (arg5 : Memref sig .tc .vmem S1024x512 .bf16) (harg5 : arg5.IsWhole)
variable (arg6 : Memref sig .tc .vmem S1024x128 .bf16) (harg6 : arg6.IsWhole)
variable (arg7 : Memref sig .tc .vmem S5x1536 .f32) (harg7 : arg7.IsWhole)
variable (arg8 : Memref sig .tc .vmem S1x1536 .f32) (harg8 : arg8.IsWhole)
variable (arg9 : Memref sig .tc .vmem S1x128 .f32) (harg9 : arg9.IsWhole)
variable (arg10 : Memref sig .tc .vmem S512x1024 .bf16) (harg10 : arg10.IsWhole)
variable (arg11 : Memref sig .tc .vmem S512x1024 .bf16) (harg11 : arg11.IsWhole)
variable (arg12 : Memref sig .tc .vmem S512x256 .bf16) (harg12 : arg12.IsWhole)
variable (arg13 : Memref sig .tc .vmem S512x256 .bf16) (harg13 : arg13.IsWhole)
variable (arg14 : Memref sig .tc .vmem S128x128 .f32) (harg14 : arg14.IsWhole)
variable (arg15 : Memref sig .tc .vmem S512x1024 .bf16) (harg15 : arg15.IsWhole)
variable (arg16 : Memref sig .tc .vmem S512x512 .bf16) (harg16 : arg16.IsWhole)
variable (arg17 : Memref sig .tc .vmem S512x256 .bf16) (harg17 : arg17.IsWhole)
variable (arg18 : Memref sig .tc .vmem S512x1024 .bf16) (harg18 : arg18.IsWhole)
variable (arg19 : Memref sig .tc .vmem S3x528x1536 .f32) (harg19 : arg19.IsWhole)
variable (x0 : Vec F S512x1024 .f32) (x1 : Vec F S1x1024 .f32) (x2 : Vec F S1024x2560 .bf16) (x3 : Vec F S1024x2560 .bf16) (x4 : Vec F S1024x512 .bf16) (x5 : Vec F S1024x128 .bf16) (x6 : Vec F S5x1536 .f32) (x7 : Vec F S1x1536 .f32) (x8 : Vec F S1x128 .f32)

include harg1 harg2 harg3 harg4 harg5

/-- At a later grid point the store in output 9 leaves the scan's gate of the block, whatever was there. -/
theorem atLater_z (hc0 : ¬ clears i) (f : arg10.view.ty.Contents (Elt F)) :
    arg10.view.read (Elt F) (arg10.view.writes (Elt F) f (atLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 hc0).1) = zW x0 x1 x2 := by
  unfold atLater
  dsimp only
  refine (View.read_writes_full _ _ _ _ _).trans (Eq.trans (b := zW (arg1.view.read (Elt F) (harg1.unread x0)) (arg2.view.read (Elt F) (harg2.unread x1)) (arg3.view.read (Elt F) (harg3.unread x2))) rfl ?_)
  simp only [Memref.IsWhole.read_unread]

/-- At a later grid point the store in output 14 leaves the queries of the block, whatever was there. -/
theorem atLater_q (hc0 : ¬ clears i) (f : arg15.view.ty.Contents (Elt F)) :
    arg15.view.read (Elt F) (arg15.view.writes (Elt F) f (atLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 hc0).2.1) = qW x0 x1 x3 := by
  unfold atLater
  dsimp only
  refine (View.read_writes_full _ _ _ _ _).trans (Eq.trans (b := qW (arg1.view.read (Elt F) (harg1.unread x0)) (arg2.view.read (Elt F) (harg2.unread x1)) (arg4.view.read (Elt F) (harg4.unread x3))) rfl ?_)
  simp only [Memref.IsWhole.read_unread]

/-- At a later grid point the store in output 15 leaves the keys of the block, whatever was there. -/
theorem atLater_k (hc0 : ¬ clears i) (f : arg16.view.ty.Contents (Elt F)) :
    arg16.view.read (Elt F) (arg16.view.writes (Elt F) f (atLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 hc0).2.2.1) = kW x0 x1 x4 := by
  unfold atLater
  dsimp only
  refine (View.read_writes_full _ _ _ _ _).trans (Eq.trans (b := kW (arg1.view.read (Elt F) (harg1.unread x0)) (arg2.view.read (Elt F) (harg2.unread x1)) (arg5.view.read (Elt F) (harg5.unread x4))) rfl ?_)
  simp only [Memref.IsWhole.read_unread]

/-- At a later grid point the store in output 16 leaves the values of the block, whatever was there. -/
theorem atLater_v (hc0 : ¬ clears i) (f : arg17.view.ty.Contents (Elt F)) :
    arg17.view.read (Elt F) (arg17.view.writes (Elt F) f (atLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 hc0).2.2.2.1) = vW x0 x1 x3 := by
  unfold atLater
  dsimp only
  refine (View.read_writes_full _ _ _ _ _).trans (Eq.trans (b := vW (arg1.view.read (Elt F) (harg1.unread x0)) (arg2.view.read (Elt F) (harg2.unread x1)) (arg4.view.read (Elt F) (harg4.unread x3))) rfl ?_)
  simp only [Memref.IsWhole.read_unread]

/-- At a later grid point the store in output 17 leaves the attention's gate of the block, whatever was there. -/
theorem atLater_ga (hc0 : ¬ clears i) (f : arg18.view.ty.Contents (Elt F)) :
    arg18.view.read (Elt F) (arg18.view.writes (Elt F) f (atLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 hc0).2.2.2.2.1) = gaW x0 x1 x3 := by
  unfold atLater
  dsimp only
  refine (View.read_writes_full _ _ _ _ _).trans (Eq.trans (b := gaW (arg1.view.read (Elt F) (harg1.unread x0)) (arg2.view.read (Elt F) (harg2.unread x1)) (arg4.view.read (Elt F) (harg4.unread x3))) rfl ?_)
  simp only [Memref.IsWhole.read_unread]

end Cert.InRun

end
-- ==== Proof.InFrame.lean ====
module

public import proofs.«01_k».proof.Proof.InBackFirst
public import proofs.«01_k».proof.Proof.InBackLater
public import Idealize.ShloMosaic.Lib.Claim

/-! The projection kernel's run: what its body leaves at every grid point, and what the launch ends with. Of its nine
outputs five are named; the other four, which its scratch feeds, are left unnamed. -/

@[expose] public section

set_option maxRecDepth 16384

noncomputable section

namespace Cert.InRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

variable (m : (ℓ : Loc nD τ sig) → Buf (Elt F) ℓ) (ρ : Dev nD → PrngReg)

/-- The output windows left unnamed. -/
def unnamed : Fin 18 → Bool := fun w => w.val == 10 || w.val == 11 || w.val == 12 || w.val == 13

/-- The pipeline's contents on a core: the arrays as the grid finds them; after the body an input's buffer at its block,
a named output's at the block stored in it; beside the windows the scratch and the generator register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => zW (iblk m c 0 t) (iblk m c 1 t) (iblk m c 2 t)
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, _⟩ => qW (iblk m c 0 t) (iblk m c 1 t) (iblk m c 3 t)
    | ⟨15, _⟩ => kW (iblk m c 0 t) (iblk m c 1 t) (iblk m c 4 t)
    | ⟨16, _⟩ => vW (iblk m c 0 t) (iblk m c 1 t) (iblk m c 3 t)
    | ⟨17, _⟩ => gaW (iblk m c 0 t) (iblk m c 1 t) (iblk m c 3 t)
    | ⟨_ + 18, h⟩ => absurd h (Nat.not_lt.2 (Nat.le_add_left _ _))
  Φ _ := Pipeline.ΦA spec0 c
  q _ := fullShare
  owed _ := 0

/-- The arrays are those the grid finds. -/
theorem A_eq (c : Dev nD) (w : Fin cfg0.W) : (dats m 0 c).A w = V m c (Pipeline.arrRef spec0 w) := by
  dsimp only [dats]

/-- After the body input 0's buffer holds its block. -/
theorem after_0 (c : Dev nD) (t : Fin cfg0.N) : (dats m 0 c).after 0 t = iblk m c 0 t := by dsimp only [dats]
/-- After the body input 1's buffer holds its block. -/
theorem after_1 (c : Dev nD) (t : Fin cfg0.N) : (dats m 0 c).after 1 t = iblk m c 1 t := by dsimp only [dats]
/-- After the body input 2's buffer holds its block. -/
theorem after_2 (c : Dev nD) (t : Fin cfg0.N) : (dats m 0 c).after 2 t = iblk m c 2 t := by dsimp only [dats]
/-- After the body input 3's buffer holds its block. -/
theorem after_3 (c : Dev nD) (t : Fin cfg0.N) : (dats m 0 c).after 3 t = iblk m c 3 t := by dsimp only [dats]
/-- After the body input 4's buffer holds its block. -/
theorem after_4 (c : Dev nD) (t : Fin cfg0.N) : (dats m 0 c).after 4 t = iblk m c 4 t := by dsimp only [dats]
/-- After the body input 5's buffer holds its block. -/
theorem after_5 (c : Dev nD) (t : Fin cfg0.N) : (dats m 0 c).after 5 t = iblk m c 5 t := by dsimp only [dats]
/-- After the body input 6's buffer holds its block. -/
theorem after_6 (c : Dev nD) (t : Fin cfg0.N) : (dats m 0 c).after 6 t = iblk m c 6 t := by dsimp only [dats]
/-- After the body input 7's buffer holds its block. -/
theorem after_7 (c : Dev nD) (t : Fin cfg0.N) : (dats m 0 c).after 7 t = iblk m c 7 t := by dsimp only [dats]
/-- After the body input 8's buffer holds its block. -/
theorem after_8 (c : Dev nD) (t : Fin cfg0.N) : (dats m 0 c).after 8 t = iblk m c 8 t := by dsimp only [dats]
/-- After the body output 9's buffer holds the scan's gate of the block. -/
theorem after_9 (c : Dev nD) (t : Fin cfg0.N) : (dats m 0 c).after 9 t = zW (iblk m c 0 t) (iblk m c 1 t) (iblk m c 2 t) := by dsimp only [dats]
/-- After the body output 14's buffer holds the queries of the block. -/
theorem after_14 (c : Dev nD) (t : Fin cfg0.N) : (dats m 0 c).after 14 t = qW (iblk m c 0 t) (iblk m c 1 t) (iblk m c 3 t) := by dsimp only [dats]
/-- After the body output 15's buffer holds the keys of the block. -/
theorem after_15 (c : Dev nD) (t : Fin cfg0.N) : (dats m 0 c).after 15 t = kW (iblk m c 0 t) (iblk m c 1 t) (iblk m c 4 t) := by dsimp only [dats]
/-- After the body output 16's buffer holds the values of the block. -/
theorem after_16 (c : Dev nD) (t : Fin cfg0.N) : (dats m 0 c).after 16 t = vW (iblk m c 0 t) (iblk m c 1 t) (iblk m c 3 t) := by dsimp only [dats]
/-- After the body output 17's buffer holds the attention's gate of the block. -/
theorem after_17 (c : Dev nD) (t : Fin cfg0.N) : (dats m 0 c).after 17 t = gaW (iblk m c 0 t) (iblk m c 1 t) (iblk m c 3 t) := by dsimp only [dats]
/-- Before the body input 0's buffer holds its block. -/
theorem before_0 (c : Dev nD) (t : Fin cfg0.N) (d) : (dats m 0 c).before 0 t d = iblk m c 0 t :=
  before0_0_of m (dats m 0 c) (A_eq m c 0) (after_0 m c) t d
/-- Before the body input 1's buffer holds its block. -/
theorem before_1 (c : Dev nD) (t : Fin cfg0.N) (d) : (dats m 0 c).before 1 t d = iblk m c 1 t :=
  before0_1_of m (dats m 0 c) (A_eq m c 1) (after_1 m c) t d
/-- Before the body input 2's buffer holds its block. -/
theorem before_2 (c : Dev nD) (t : Fin cfg0.N) (d) : (dats m 0 c).before 2 t d = iblk m c 2 t :=
  before0_2_of m (dats m 0 c) (A_eq m c 2) (after_2 m c) t d
/-- Before the body input 3's buffer holds its block. -/
theorem before_3 (c : Dev nD) (t : Fin cfg0.N) (d) : (dats m 0 c).before 3 t d = iblk m c 3 t :=
  before0_3_of m (dats m 0 c) (A_eq m c 3) (after_3 m c) t d
/-- Before the body input 4's buffer holds its block. -/
theorem before_4 (c : Dev nD) (t : Fin cfg0.N) (d) : (dats m 0 c).before 4 t d = iblk m c 4 t :=
  before0_4_of m (dats m 0 c) (A_eq m c 4) (after_4 m c) t d
/-- Before the body input 5's buffer holds its block. -/
theorem before_5 (c : Dev nD) (t : Fin cfg0.N) (d) : (dats m 0 c).before 5 t d = iblk m c 5 t :=
  before0_5_of m (dats m 0 c) (A_eq m c 5) (after_5 m c) t d
/-- Before the body input 6's buffer holds its block. -/
theorem before_6 (c : Dev nD) (t : Fin cfg0.N) (d) : (dats m 0 c).before 6 t d = iblk m c 6 t :=
  before0_6_of m (dats m 0 c) (A_eq m c 6) (after_6 m c) t d
/-- Before the body input 7's buffer holds its block. -/
theorem before_7 (c : Dev nD) (t : Fin cfg0.N) (d) : (dats m 0 c).before 7 t d = iblk m c 7 t :=
  before0_7_of m (dats m 0 c) (A_eq m c 7) (after_7 m c) t d
/-- Before the body input 8's buffer holds its block. -/
theorem before_8 (c : Dev nD) (t : Fin cfg0.N) (d) : (dats m 0 c).before 8 t d = iblk m c 8 t :=
  before0_8_of m (dats m 0 c) (A_eq m c 8) (after_8 m c) t d

/-- What the body is called with at a point, window by window, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare d)
    ∗ (∃ d, owns (c : Thread nD τ) (st11 t) fullShare d)
    ∗ (∃ d, owns (c : Thread nD τ) (st12 t) fullShare d)
    ∗ (∃ d, owns (c : Thread nD τ) (st13 t) fullShare d)
    ∗ (∃ d, owns (c : Thread nD τ) (st14 t) fullShare ((dats m 0 c).before 14 t d))
    ∗ (∃ d, owns (c : Thread nD τ) (st15 t) fullShare ((dats m 0 c).before 15 t d))
    ∗ (∃ d, owns (c : Thread nD τ) (st16 t) fullShare ((dats m 0 c).before 16 t d))
    ∗ (∃ d, owns (c : Thread nD τ) (st17 t) fullShare ((dats m 0 c).before 17 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ (∃ d, owns (c : Thread nD τ) (st10 t) fullShare d)
    ∗ (∃ d, owns (c : Thread nD τ) (st11 t) fullShare d)
    ∗ (∃ d, owns (c : Thread nD τ) (st12 t) fullShare d)
    ∗ (∃ d, owns (c : Thread nD τ) (st13 t) fullShare d)
    ∗ owns (c : Thread nD τ) (st14 t) fullShare ((dats m 0 c).after 14 t)
    ∗ owns (c : Thread nD τ) (st15 t) fullShare ((dats m 0 c).after 15 t)
    ∗ owns (c : Thread nD τ) (st16 t) fullShare ((dats m 0 c).after 16 t)
    ∗ owns (c : Thread nD τ) (st17 t) fullShare ((dats m 0 c).after 17 t))

/-- The scratch is a whole buffer. -/
theorem hring : (ring : Memref sig .tc .vmem S3x528x1536 .f32).IsWhole := Memref.isWhole_whole _

set_option maxHeartbeats 6400000 in
/-- The body at a point: its inputs hold their blocks, so the run of its case applies, and its named stores leave what
the named outputs are to hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_14, after_15, after_16, after_17]
  rw [show (dats m 0 c).Φ t.castSucc = Pipeline.ΦA spec0 c from rfl, beside]
  by_cases h0 : t.val = 0
  · iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((atFirst c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) (st14 t) (hst14 t) (st15 t) (hst15 t) (st16 t) (hst16 t) (st17 t) (hst17 t) ring hring (iblk m c 0 t) (iblk m c 1 t) (iblk m c 2 t) (iblk m c 3 t) (iblk m c 4 t) (iblk m c 5 t) (iblk m c 6 t) (iblk m c 7 t) (iblk m c 8 t) ((clears_iff t).mpr h0)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS0]; · iexact HS0
    iintro ⟨H0, H1, H2, H3, H4, H5, H6, H7, H8, ⟨%f9, H9⟩, H10, H11, H12, H13, ⟨%f14, H14⟩, ⟨%f15, H15⟩, ⟨%f16, H16⟩, ⟨%f17, H17⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns
      iexists _; isplitr; swap; · iexact H9
      ipureintro; exact atFirst_z c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) (st14 t) (hst14 t) (st15 t) (hst15 t) (st16 t) (hst16 t) (st17 t) (hst17 t) ring hring (iblk m c 0 t) (iblk m c 1 t) (iblk m c 2 t) (iblk m c 3 t) (iblk m c 4 t) (iblk m c 5 t) (iblk m c 6 t) (iblk m c 7 t) (iblk m c 8 t) ((clears_iff t).mpr h0) f9
    isplitl [H10]; · iexact H10
    isplitl [H11]; · iexact H11
    isplitl [H12]; · iexact H12
    isplitl [H13]; · iexact H13
    isplitl [H14]
    · unfold owns
      iexists _; isplitr; swap; · iexact H14
      ipureintro; exact atFirst_q c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) (st14 t) (hst14 t) (st15 t) (hst15 t) (st16 t) (hst16 t) (st17 t) (hst17 t) ring hring (iblk m c 0 t) (iblk m c 1 t) (iblk m c 2 t) (iblk m c 3 t) (iblk m c 4 t) (iblk m c 5 t) (iblk m c 6 t) (iblk m c 7 t) (iblk m c 8 t) ((clears_iff t).mpr h0) f14
    isplitl [H15]
    · unfold owns
      iexists _; isplitr; swap; · iexact H15
      ipureintro; exact atFirst_k c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) (st14 t) (hst14 t) (st15 t) (hst15 t) (st16 t) (hst16 t) (st17 t) (hst17 t) ring hring (iblk m c 0 t) (iblk m c 1 t) (iblk m c 2 t) (iblk m c 3 t) (iblk m c 4 t) (iblk m c 5 t) (iblk m c 6 t) (iblk m c 7 t) (iblk m c 8 t) ((clears_iff t).mpr h0) f15
    isplitl [H16]
    · unfold owns
      iexists _; isplitr; swap; · iexact H16
      ipureintro; exact atFirst_v c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) (st14 t) (hst14 t) (st15 t) (hst15 t) (st16 t) (hst16 t) (st17 t) (hst17 t) ring hring (iblk m c 0 t) (iblk m c 1 t) (iblk m c 2 t) (iblk m c 3 t) (iblk m c 4 t) (iblk m c 5 t) (iblk m c 6 t) (iblk m c 7 t) (iblk m c 8 t) ((clears_iff t).mpr h0) f16
    unfold owns
    iexists _; isplitr; swap; · iexact H17
    ipureintro; exact atFirst_ga c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) (st14 t) (hst14 t) (st15 t) (hst15 t) (st16 t) (hst16 t) (st17 t) (hst17 t) ring hring (iblk m c 0 t) (iblk m c 1 t) (iblk m c 2 t) (iblk m c 3 t) (iblk m c 4 t) (iblk m c 5 t) (iblk m c 6 t) (iblk m c 7 t) (iblk m c 8 t) ((clears_iff t).mpr h0) f17
  · iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((atLater c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) (st14 t) (hst14 t) (st15 t) (hst15 t) (st16 t) (hst16 t) (st17 t) (hst17 t) ring hring (iblk m c 0 t) (iblk m c 1 t) (iblk m c 2 t) (iblk m c 3 t) (iblk m c 4 t) (iblk m c 5 t) (iblk m c 6 t) (iblk m c 7 t) (iblk m c 8 t) (fun h => h0 ((clears_iff t).mp h))).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS0]; · iexact HS0
    iintro ⟨H0, H1, H2, H3, H4, H5, H6, H7, H8, ⟨%f9, H9⟩, H10, H11, H12, H13, ⟨%f14, H14⟩, ⟨%f15, H15⟩, ⟨%f16, H16⟩, ⟨%f17, H17⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns
      iexists _; isplitr; swap; · iexact H9
      ipureintro; exact atLater_z c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) (st14 t) (hst14 t) (st15 t) (hst15 t) (st16 t) (hst16 t) (st17 t) (hst17 t) ring hring (iblk m c 0 t) (iblk m c 1 t) (iblk m c 2 t) (iblk m c 3 t) (iblk m c 4 t) (iblk m c 5 t) (iblk m c 6 t) (iblk m c 7 t) (iblk m c 8 t) (fun h => h0 ((clears_iff t).mp h)) f9
    isplitl [H10]; · iexact H10
    isplitl [H11]; · iexact H11
    isplitl [H12]; · iexact H12
    isplitl [H13]; · iexact H13
    isplitl [H14]
    · unfold owns
      iexists _; isplitr; swap; · iexact H14
      ipureintro; exact atLater_q c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) (st14 t) (hst14 t) (st15 t) (hst15 t) (st16 t) (hst16 t) (st17 t) (hst17 t) ring hring (iblk m c 0 t) (iblk m c 1 t) (iblk m c 2 t) (iblk m c 3 t) (iblk m c 4 t) (iblk m c 5 t) (iblk m c 6 t) (iblk m c 7 t) (iblk m c 8 t) (fun h => h0 ((clears_iff t).mp h)) f14
    isplitl [H15]
    · unfold owns
      iexists _; isplitr; swap; · iexact H15
      ipureintro; exact atLater_k c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) (st14 t) (hst14 t) (st15 t) (hst15 t) (st16 t) (hst16 t) (st17 t) (hst17 t) ring hring (iblk m c 0 t) (iblk m c 1 t) (iblk m c 2 t) (iblk m c 3 t) (iblk m c 4 t) (iblk m c 5 t) (iblk m c 6 t) (iblk m c 7 t) (iblk m c 8 t) (fun h => h0 ((clears_iff t).mp h)) f15
    isplitl [H16]
    · unfold owns
      iexists _; isplitr; swap; · iexact H16
      ipureintro; exact atLater_v c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) (st14 t) (hst14 t) (st15 t) (hst15 t) (st16 t) (hst16 t) (st17 t) (hst17 t) ring hring (iblk m c 0 t) (iblk m c 1 t) (iblk m c 2 t) (iblk m c 3 t) (iblk m c 4 t) (iblk m c 5 t) (iblk m c 6 t) (iblk m c 7 t) (iblk m c 8 t) (fun h => h0 ((clears_iff t).mp h)) f16
    unfold owns
    iexists _; isplitr; swap; · iexact H17
    ipureintro; exact atLater_ga c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) (st14 t) (hst14 t) (st15 t) (hst15 t) (st16 t) (hst16 t) (st17 t) (hst17 t) ring hring (iblk m c 0 t) (iblk m c 1 t) (iblk m c 2 t) (iblk m c 3 t) (iblk m c 4 t) (iblk m c 5 t) (iblk m c 6 t) (iblk m c 7 t) (iblk m c 8 t) (fun h => h0 ((clears_iff t).mp h)) f17

/-- The body table's row at a point's slots is the body at that point. -/
theorem row_eq (t : Fin cfg0.N) : defs₀ (F := F) .tc cfg0.body (cfg0.bodyArgs t (cfg0.slots t)) = bodyAt0 t := by
  unfold defs₀; rw [Defs.onTc_tc]

/-- At every point the body turns what it is called with into what it is to return. -/
theorem body_ok (c : Dev nD) : BodyObligation (dats (F := F) m 0 c) (defs₀ (F := F)) Variants.none () Set.univ unnamed := fun t => by
  rw [bigSep_W0, bigSep_W0, row_eq]
  exact triple_restated (sound_body m c t) rfl .rfl fun _ => .rfl

set_option backward.isDefEq.respectTransparency.types false in
/-- The launch ends, from any memory with zero counters, with the arrays the pipeline's contents give and its counters
zero. -/
theorem run : θ_run defs (onTc (τ := τ) (main (F := F))) (s₀ m ρ) (fun r =>
    (Pipeline.RDat.FramePost (cfgs 0) (fun c => (dats m 0 c).toRForget unnamed) (V m)) r ∧ r.2.sem = fun _ => 0) :=
  Pipeline.θ_run_frame_forget (Q' := _) cfgs (dats m) (0 : Fin 1) launch0 defs₀ Variants.none unnamed m ρ main
    (hbody := fun c => (body_ok m c).loose) (hshare := fun c => (dats m 0 c).share_full fun _ => rfl)
    (howed := fun _ _ => rfl) (V := V m) (hmain := hmain m Variants.none) (hA := A_eq m) (hΦ := fun _ _ => rfl)

/-- Where the launch ends the arguments are unchanged. -/
theorem args_kept (r : PUnit × MemSt nD τ sig (Elt F))
    (h : (Pipeline.RDat.FramePost (cfgs 0) (fun c => (dats m 0 c).toRForget unnamed) (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (Pipeline.RDat.FramePost.arr_in h c 6 rfl).trans ((A_eq m c 6).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- From any memory with zero counters the launch ends with its arguments unchanged and its counters zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_kept m r h.1 c, h.2⟩) (run m ρ)

end Cert.InRun

end
-- ==== Proof.InHost.lean ====
module

public import proofs.«01_k».proof.Proof.Gen.Kernel2Ideal.Frame
public import proofs.«01_k».proof.Proof.InSpec
public import Idealize.ShloMosaic.Lib.Claim
public import Idealize.ShloMosaic.Lib.Pipeline.ValueKit.Point

/-! The arrays the input projection's grid reads, entry by entry. -/

@[expose] public section
set_option maxRecDepth 16384
noncomputable section

namespace Cert.InHost
open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- The residual stream as a matrix. -/
def xr : S32768x1024.Idx → EReal := V m c main_v13
/-- The gain as a row. -/
def gr : S1x1024.Idx → EReal := V m c main_v14
/-- The weight's first columns. -/
def wa : S1024x2560.Idx → EReal := V m c main_v1
/-- The weight's columns of the queries, keys, values and the second gate. -/
def wb : S1024x2560.Idx → EReal := V m c main_v6
/-- The keys' columns, each head's twice. -/
def wkd : S1024x512.Idx → EReal := V m c main_v10
/-- An argument as launched. -/
def ar {s : Shape} (x : s.Idx → EReal) : s.Idx → EReal := x
/-- The three arguments the results depend on. -/
def args : InSpec.Args := ⟨ar (m (c.tc.loc main_arg0)), ar (m (c.tc.loc main_arg1)), ar (m (c.tc.loc main_arg2))⟩

/-- The matrix's row is the batch's row. -/
theorem xr_at (n : Fin 32768) (k : Fin 1024) : xr m c (ix2 n k) = InSpec.row (args m c) n k := by
  unfold xr
  simp only [V, hostOps0, hostOps0_1, hostOps0_2, hostOps0_3, hostOps0_4,
    List.flatten_cons, List.flatten_nil, List.append_nil, List.cons_append, List.nil_append]
  after_results_simp
  pointwise [args, ar, InSpec.row]

/-- The row's entries are the gain's. -/
theorem gr_at (k : Fin 1024) : gr m c (ix2 0 k) = (args m c).g (ix1 k) := by
  unfold gr
  simp only [V, hostOps0, hostOps0_1, hostOps0_2, hostOps0_3, hostOps0_4,
    List.flatten_cons, List.flatten_nil, List.append_nil, List.cons_append, List.nil_append]
  after_results_simp
  pointwise [args, ar]

/-- The first columns are the weight's. -/
theorem wa_at (k : Fin 1024) (j : Fin 2560) : wa m c (ix2 k j) = (args m c).w (ix2 k (⟨j.val, by omega⟩ : Fin 5152)) := by
  unfold wa
  simp only [V, hostOps0, hostOps0_1, hostOps0_2, hostOps0_3, hostOps0_4,
    List.flatten_cons, List.flatten_nil, List.append_nil, List.cons_append, List.nil_append]
  after_results_simp
  pointwise [args, ar]

/-- The later columns are the weight's, from column 2592. -/
theorem wb_at (k : Fin 1024) (j : Fin 2560) : wb m c (ix2 k j) = (args m c).w (ix2 k (⟨2592 + j.val, by omega⟩ : Fin 5152)) := by
  unfold wb
  simp only [V, hostOps0, hostOps0_1, hostOps0_2, hostOps0_3, hostOps0_4,
    List.flatten_cons, List.flatten_nil, List.append_nil, List.cons_append, List.nil_append]
  after_results_simp
  pointwise [args, ar]

/-- Each key column is the weight's column of its head and lane. -/
theorem wkd_at (k : Fin 1024) (j : Fin 512) : wkd m c (ix2 k j) = (args m c).w (ix2 k (⟨3616 + (j.val / 128 * 64 + j.val % 64), by omega⟩ : Fin 5152)) := by
  unfold wkd
  simp only [V, hostOps0, hostOps0_1, hostOps0_2, hostOps0_3, hostOps0_4,
    List.flatten_cons, List.flatten_nil, List.append_nil, List.cons_append, List.nil_append]
  after_results_simp
  pointwise [args, ar]
  have e : 2592 + (1024 + (j.val / 128 * 64 + j.val % 64)) = 3616 + (j.val / 128 * 64 + j.val % 64) := by omega
  simp only [e]

end Cert.InHost
-- ==== Proof.InPoint.lean ====
module

public import proofs.«01_k».proof.Proof.InBlock
public import proofs.«01_k».proof.Proof.InFrame
public import proofs.«01_k».proof.Proof.InHost

/-! What the projection kernel's five named arrays hold after the run. -/

@[expose] public section
set_option maxRecDepth 16384
noncomputable section

namespace Cert.InRun
open Idealize.ShloMosaic Idealize.ShloMosaic.TcCoe Idealize.SL.Sem Cert.Kernel2Ideal Cert.Kernel2Ideal.Gen
open Idealize.ShloMosaic.Pipeline (Dat)
open scoped BigOperators

variable (m : (ℓ : Loc nD τ sig) → Buf (Elt Ideal) ℓ) (c : Dev nD)

/-- The block indices of the windows read and named, at every grid point. -/
theorem idx : ∀ t : Fin cfg0.N, win0_0.index t = ![min t.val 63, 0] ∧ win0_1.index t = ![0, 0] ∧ win0_2.index t = ![0, 0]
    ∧ win0_3.index t = ![0, 0] ∧ win0_4.index t = ![0, 0] ∧ win0_9.index t = ![min t.val 63, 0]
    ∧ win0_14.index t = ![min t.val 63, 0] ∧ win0_15.index t = ![min t.val 63, 0] ∧ win0_16.index t = ![min t.val 63, 0]
    ∧ win0_17.index t = ![min t.val 63, 0] :=
  (by decide +kernel : ∀ t : Fin grid0.N, _)

/-- The row of the arrays a block's row is at a grid point. -/
def rowAt (t : Fin cfg0.N) (r : Fin 512) : Fin 32768 := ⟨min t.val 63 * 512 + r.val, by omega⟩

/-- The block of window 0 holds rows of the residual stream. -/
theorem read_x (t : Fin cfg0.N) (r : Fin 512) (k : Fin 1024) : (iblk m c 0 t : S512x1024.Idx → EReal) (ix2 r k) = InSpec.row (InHost.args m c) (rowAt t r) k := by
  have e := (idx t).1
  refine Eq.trans ?_ (InHost.xr_at m c (rowAt t r) k)
  unfold InHost.xr
  unfold iblk
  rw [View.read_apply]
  show V m c main_v13 _ = V m c main_v13 _
  refine congrArg _ (funext fun a => Fin.ext ?_)
  fin_cases a
  · show win0_0.index t 0 * 512 + 1 * r.val = min t.val 63 * 512 + r.val
    rw [e]
    show min t.val 63 * 512 + 1 * r.val = min t.val 63 * 512 + r.val
    omega
  · show win0_0.index t 1 * 1024 + 1 * k.val = k.val
    rw [e]
    show 0 * 1024 + 1 * k.val = k.val
    omega

/-- The block of window 1 holds the gain. -/
theorem read_g (t : Fin cfg0.N) (k : Fin 1024) : (iblk m c 1 t : S1x1024.Idx → EReal) (ix2 0 k) = (InHost.args m c).g (ix1 k) := by
  have e := (idx t).2.1
  refine Eq.trans ?_ (InHost.gr_at m c k)
  unfold InHost.gr
  unfold iblk
  rw [View.read_apply]
  show V m c main_v14 _ = V m c main_v14 _
  refine congrArg _ (funext fun a => Fin.ext ?_)
  fin_cases a
  · show win0_1.index t 0 * 1 + 1 * 0 = 0
    rw [e]
    show 0 * 1 + 1 * 0 = 0
    omega
  · show win0_1.index t 1 * 1024 + 1 * k.val = k.val
    rw [e]
    show 0 * 1024 + 1 * k.val = k.val
    omega

/-- The block of window 2 holds the weight's first columns. -/
theorem read_wa (t : Fin cfg0.N) (k : Fin 1024) (j : Fin 2560) : (iblk m c 2 t : S1024x2560.Idx → EReal) (ix2 k j) = (InHost.args m c).w (ix2 k (⟨j.val, by omega⟩ : Fin 5152)) := by
  have e := (idx t).2.2.1
  refine Eq.trans ?_ (InHost.wa_at m c k j)
  unfold InHost.wa
  unfold iblk
  rw [View.read_apply]
  show V m c main_v1 _ = V m c main_v1 _
  refine congrArg _ (funext fun a => Fin.ext ?_)
  fin_cases a
  · show win0_2.index t 0 * 1024 + 1 * k.val = k.val
    rw [e]
    show 0 * 1024 + 1 * k.val = k.val
    omega
  · show win0_2.index t 1 * 2560 + 1 * j.val = j.val
    rw [e]
    show 0 * 2560 + 1 * j.val = j.val
    omega

/-- The block of window 3 holds the weight's later columns. -/
theorem read_wb (t : Fin cfg0.N) (k : Fin 1024) (j : Fin 2560) : (iblk m c 3 t : S1024x2560.Idx → EReal) (ix2 k j) = (InHost.args m c).w (ix2 k (⟨2592 + j.val, by omega⟩ : Fin 5152)) := by
  have e := (idx t).2.2.2.1
  refine Eq.trans ?_ (InHost.wb_at m c k j)
  unfold InHost.wb
  unfold iblk
  rw [View.read_apply]
  show V m c main_v6 _ = V m c main_v6 _
  refine congrArg _ (funext fun a => Fin.ext ?_)
  fin_cases a
  · show win0_3.index t 0 * 1024 + 1 * k.val = k.val
    rw [e]
    show 0 * 1024 + 1 * k.val = k.val
    omega
  · show win0_3.index t 1 * 2560 + 1 * j.val = j.val
    rw [e]
    show 0 * 2560 + 1 * j.val = j.val
    omega

/-- The block of window 4 holds the keys' columns. -/
theorem read_wkd (t : Fin cfg0.N) (k : Fin 1024) (j : Fin 512) : (iblk m c 4 t : S1024x512.Idx → EReal) (ix2 k j) = (InHost.args m c).w (ix2 k (⟨3616 + (j.val / 128 * 64 + j.val % 64), by omega⟩ : Fin 5152)) := by
  have e := (idx t).2.2.2.2.1
  refine Eq.trans ?_ (InHost.wkd_at m c k j)
  unfold InHost.wkd
  unfold iblk
  rw [View.read_apply]
  show V m c main_v10 _ = V m c main_v10 _
  refine congrArg _ (funext fun a => Fin.ext ?_)
  fin_cases a
  · show win0_4.index t 0 * 1024 + 1 * k.val = k.val
    rw [e]
    show 0 * 1024 + 1 * k.val = k.val
    omega
  · show win0_4.index t 1 * 512 + 1 * j.val = j.val
    rw [e]
    show 0 * 512 + 1 * j.val = j.val
    omega

/-- A block's normalised row is the array's. -/
theorem unit_row (t : Fin cfg0.N) (r : Fin 512) (k : Fin 1024) :
    (unitW (iblk m c 0 t : Vec Ideal S512x1024 .f32) (iblk m c 1 t : Vec Ideal S1x1024 .f32) (ix2 r k) : EReal) = InSpec.unit (InHost.args m c) (rowAt t r) k := by
  refine (unitW_at _ _ r k).trans ?_
  have e0 : ∀ i : Fin 1024, (iblk m c 0 t : Vec Ideal S512x1024 .f32) (ix2 r i) = InSpec.row (InHost.args m c) (rowAt t r) i := read_x m c t r
  have e1 : (iblk m c 1 t : Vec Ideal S1x1024 .f32) (ix2 0 k) = (InHost.args m c).g (ix1 k) := read_g m c t k
  unfold InSpec.unit
  simp only [e0, e1]

/-- A block's entries of the scan's gate are the array's. -/
theorem z_block (t : Fin cfg0.N) (r : Fin 512) (j : Fin 1024) :
    (zW (iblk m c 0 t : Vec Ideal S512x1024 .f32) (iblk m c 1 t : Vec Ideal S1x1024 .f32) (iblk m c 2 t : Vec Ideal S1024x2560 .bf16) (ix2 r j) : EReal) = InSpec.z (InHost.args m c) (rowAt t r) j := by
  refine (zW_at _ _ _ r j).trans ?_
  have e1 : ∀ k : Fin 1024, (iblk m c 2 t : Vec Ideal S1024x2560 .bf16) (ix2 k (⟨j.val, by omega⟩ : Fin 2560)) = (InHost.args m c).w (ix2 k (⟨j.val, by omega⟩ : Fin 5152)) :=
    fun k => (read_wa m c t k (⟨j.val, by omega⟩ : Fin 2560)).trans (rfl)
  simp only [unit_row, e1]
  rfl

/-- After the run output 9 is the scan's gate. -/
theorem z_array : (dats m 0 c).arrAt 9 cfg0.N = InSpec.zG (InHost.args m c) := by
  refine (dats m 0 c).arrAt_eq_of_covers 9 _ (by decide +kernel) fun t hf y => ?_
  have e := (idx t).2.2.2.2.2.1
  have h : (dats m 0 c).flushed 9 t = zW (iblk m c 0 t : Vec Ideal S512x1024 .f32) (iblk m c 1 t : Vec Ideal S1x1024 .f32) (iblk m c 2 t : Vec Ideal S1024x2560 .bf16) := rfl
  refine (congrFun h y).trans ?_
  refine (congrArg _ (eq_ix2 (n0 := 512) (n1 := 1024) y)).trans ?_
  refine (z_block m c t (y 0) (y 1)).trans ?_
  unfold InSpec.zG
  refine congrArg₂ (InSpec.z (InHost.args m c)) (Fin.ext ?_) (Fin.ext ?_)
  · show min t.val 63 * 512 + (y 0).val = win0_9.index t 0 * 512 + 1 * (y 0).val
    rw [e]
    show min t.val 63 * 512 + (y 0).val = min t.val 63 * 512 + 1 * (y 0).val
    omega
  · show (y 1).val = win0_9.index t 1 * 1024 + 1 * (y 1).val
    rw [e]
    show (y 1).val = 0 * 1024 + 1 * (y 1).val
    omega

/-- A block's entries of the queries are the array's. -/
theorem q_block (t : Fin cfg0.N) (r : Fin 512) (j : Fin 1024) :
    (qW (iblk m c 0 t : Vec Ideal S512x1024 .f32) (iblk m c 1 t : Vec Ideal S1x1024 .f32) (iblk m c 3 t : Vec Ideal S1024x2560 .bf16) (ix2 r j) : EReal) = InSpec.q (InHost.args m c) (rowAt t r) j := by
  refine (qW_at _ _ _ r j).trans ?_
  have e1 : ∀ k : Fin 1024, (iblk m c 3 t : Vec Ideal S1024x2560 .bf16) (ix2 k (⟨j.val, by omega⟩ : Fin 2560)) = (InHost.args m c).w (ix2 k (⟨2592 + j.val, by omega⟩ : Fin 5152)) :=
    fun k => (read_wb m c t k (⟨j.val, by omega⟩ : Fin 2560)).trans (rfl)
  simp only [unit_row, e1]
  rfl

/-- After the run output 14 is the queries. -/
theorem q_array : (dats m 0 c).arrAt 14 cfg0.N = InSpec.qG (InHost.args m c) := by
  refine (dats m 0 c).arrAt_eq_of_covers 14 _ (by decide +kernel) fun t hf y => ?_
  have e := (idx t).2.2.2.2.2.2.1
  have h : (dats m 0 c).flushed 14 t = qW (iblk m c 0 t : Vec Ideal S512x1024 .f32) (iblk m c 1 t : Vec Ideal S1x1024 .f32) (iblk m c 3 t : Vec Ideal S1024x2560 .bf16) := rfl
  refine (congrFun h y).trans ?_
  refine (congrArg _ (eq_ix2 (n0 := 512) (n1 := 1024) y)).trans ?_
  refine (q_block m c t (y 0) (y 1)).trans ?_
  unfold InSpec.qG
  refine congrArg₂ (InSpec.q (InHost.args m c)) (Fin.ext ?_) (Fin.ext ?_)
  · show min t.val 63 * 512 + (y 0).val = win0_14.index t 0 * 512 + 1 * (y 0).val
    rw [e]
    show min t.val 63 * 512 + (y 0).val = min t.val 63 * 512 + 1 * (y 0).val
    omega
  · show (y 1).val = win0_14.index t 1 * 1024 + 1 * (y 1).val
    rw [e]
    show (y 1).val = 0 * 1024 + 1 * (y 1).val
    omega

/-- A block's entries of the keys are the array's. -/
theorem k_block (t : Fin cfg0.N) (r : Fin 512) (j : Fin 512) :
    (kW (iblk m c 0 t : Vec Ideal S512x1024 .f32) (iblk m c 1 t : Vec Ideal S1x1024 .f32) (iblk m c 4 t : Vec Ideal S1024x512 .bf16) (ix2 r j) : EReal) = InSpec.k (InHost.args m c) (rowAt t r) j := by
  refine (kW_at _ _ _ r j).trans ?_
  have e1 : ∀ k : Fin 1024, (iblk m c 4 t : Vec Ideal S1024x512 .bf16) (ix2 k j) = (InHost.args m c).w (ix2 k (⟨3616 + (j.val / 128 * 64 + j.val % 64), by omega⟩ : Fin 5152)) :=
    fun k => (read_wkd m c t k j).trans (rfl)
  simp only [unit_row, e1]
  rfl

/-- After the run output 15 is the keys. -/
theorem k_array : (dats m 0 c).arrAt 15 cfg0.N = InSpec.kG (InHost.args m c) := by
  refine (dats m 0 c).arrAt_eq_of_covers 15 _ (by decide +kernel) fun t hf y => ?_
  have e := (idx t).2.2.2.2.2.2.2.1
  have h : (dats m 0 c).flushed 15 t = kW (iblk m c 0 t : Vec Ideal S512x1024 .f32) (iblk m c 1 t : Vec Ideal S1x1024 .f32) (iblk m c 4 t : Vec Ideal S1024x512 .bf16) := rfl
  refine (congrFun h y).trans ?_
  refine (congrArg _ (eq_ix2 (n0 := 512) (n1 := 512) y)).trans ?_
  refine (k_block m c t (y 0) (y 1)).trans ?_
  unfold InSpec.kG
  refine congrArg₂ (InSpec.k (InHost.args m c)) (Fin.ext ?_) (Fin.ext ?_)
  · show min t.val 63 * 512 + (y 0).val = win0_15.index t 0 * 512 + 1 * (y 0).val
    rw [e]
    show min t.val 63 * 512 + (y 0).val = min t.val 63 * 512 + 1 * (y 0).val
    omega
  · show (y 1).val = win0_15.index t 1 * 512 + 1 * (y 1).val
    rw [e]
    show (y 1).val = 0 * 512 + 1 * (y 1).val
    omega

/-- A block's entries of the values are the array's. -/
theorem v_block (t : Fin cfg0.N) (r : Fin 512) (j : Fin 256) :
    (vW (iblk m c 0 t : Vec Ideal S512x1024 .f32) (iblk m c 1 t : Vec Ideal S1x1024 .f32) (iblk m c 3 t : Vec Ideal S1024x2560 .bf16) (ix2 r j) : EReal) = InSpec.v (InHost.args m c) (rowAt t r) j := by
  refine (vW_at _ _ _ r j).trans ?_
  have e1 : ∀ k : Fin 1024, (iblk m c 3 t : Vec Ideal S1024x2560 .bf16) (ix2 k (⟨1280 + j.val, by omega⟩ : Fin 2560)) = (InHost.args m c).w (ix2 k (⟨3872 + j.val, by omega⟩ : Fin 5152)) :=
    fun k => (read_wb m c t k (⟨1280 + j.val, by omega⟩ : Fin 2560)).trans (by simp only [show 2592 + (1280 + j.val) = 3872 + j.val by omega])
  simp only [unit_row, e1]
  rfl

/-- After the run output 16 is the values. -/
theorem v_array : (dats m 0 c).arrAt 16 cfg0.N = InSpec.vG (InHost.args m c) := by
  refine (dats m 0 c).arrAt_eq_of_covers 16 _ (by decide +kernel) fun t hf y => ?_
  have e := (idx t).2.2.2.2.2.2.2.2.1
  have h : (dats m 0 c).flushed 16 t = vW (iblk m c 0 t : Vec Ideal S512x1024 .f32) (iblk m c 1 t : Vec Ideal S1x1024 .f32) (iblk m c 3 t : Vec Ideal S1024x2560 .bf16) := rfl
  refine (congrFun h y).trans ?_
  refine (congrArg _ (eq_ix2 (n0 := 512) (n1 := 256) y)).trans ?_
  refine (v_block m c t (y 0) (y 1)).trans ?_
  unfold InSpec.vG
  refine congrArg₂ (InSpec.v (InHost.args m c)) (Fin.ext ?_) (Fin.ext ?_)
  · show min t.val 63 * 512 + (y 0).val = win0_16.index t 0 * 512 + 1 * (y 0).val
    rw [e]
    show min t.val 63 * 512 + (y 0).val = min t.val 63 * 512 + 1 * (y 0).val
    omega
  · show (y 1).val = win0_16.index t 1 * 256 + 1 * (y 1).val
    rw [e]
    show (y 1).val = 0 * 256 + 1 * (y 1).val
    omega

/-- A block's entries of the attention's gate are the array's. -/
theorem ga_block (t : Fin cfg0.N) (r : Fin 512) (j : Fin 1024) :
    (gaW (iblk m c 0 t : Vec Ideal S512x1024 .f32) (iblk m c 1 t : Vec Ideal S1x1024 .f32) (iblk m c 3 t : Vec Ideal S1024x2560 .bf16) (ix2 r j) : EReal) = InSpec.ga (InHost.args m c) (rowAt t r) j := by
  refine (gaW_at _ _ _ r j).trans ?_
  have e1 : ∀ k : Fin 1024, (iblk m c 3 t : Vec Ideal S1024x2560 .bf16) (ix2 k (⟨1536 + j.val, by omega⟩ : Fin 2560)) = (InHost.args m c).w (ix2 k (⟨4128 + j.val, by omega⟩ : Fin 5152)) :=
    fun k => (read_wb m c t k (⟨1536 + j.val, by omega⟩ : Fin 2560)).trans (by simp only [show 2592 + (1536 + j.val) = 4128 + j.val by omega])
  simp only [unit_row, e1]
  rfl

/-- After the run output 17 is the attention's gate. -/
theorem ga_array : (dats m 0 c).arrAt 17 cfg0.N = InSpec.gaG (InHost.args m c) := by
  refine (dats m 0 c).arrAt_eq_of_covers 17 _ (by decide +kernel) fun t hf y => ?_
  have e := (idx t).2.2.2.2.2.2.2.2.2
  have h : (dats m 0 c).flushed 17 t = gaW (iblk m c 0 t : Vec Ideal S512x1024 .f32) (iblk m c 1 t : Vec Ideal S1x1024 .f32) (iblk m c 3 t : Vec Ideal S1024x2560 .bf16) := rfl
  refine (congrFun h y).trans ?_
  refine (congrArg _ (eq_ix2 (n0 := 512) (n1 := 1024) y)).trans ?_
  refine (ga_block m c t (y 0) (y 1)).trans ?_
  unfold InSpec.gaG
  refine congrArg₂ (InSpec.ga (InHost.args m c)) (Fin.ext ?_) (Fin.ext ?_)
  · show min t.val 63 * 512 + (y 0).val = win0_17.index t 0 * 512 + 1 * (y 0).val
    rw [e]
    show min t.val 63 * 512 + (y 0).val = min t.val 63 * 512 + 1 * (y 0).val
    omega
  · show (y 1).val = win0_17.index t 1 * 1024 + 1 * (y 1).val
    rw [e]
    show (y 1).val = 0 * 1024 + 1 * (y 1).val
    omega

end Cert.InRun
-- ==== Proof.InRef.lean ====
module

public import proofs.«01_k».proof.Proof.Gen.Reference2Ideal.Run
public import proofs.«01_k».proof.Proof.InSpec
public import Idealize.ShloMosaic.Lib.Claim

/-! The reference's five results of the input projection, read entry by entry. -/

@[expose] public section
set_option maxRecDepth 16384
noncomputable section

namespace Cert.InRef
open Idealize.ShloMosaic Idealize.ShloMosaic.TcCoe Idealize.SL.Sem Cert.Reference2Ideal Cert.Reference2Ideal.Gen
open scoped BigOperators

variable (x : FVec Ideal S4x8192x1024 .f32) (g : FVec Ideal S1024 .f32) (w : FVec Ideal S1024x5152 .f32)

/-- The normalised rows times the whole weight. -/
def projR : FVec Ideal S4x8192x5152 .f32 := (Host.dotGeneral dot_S4x8192x1024_S1024x5152_S4x8192x5152_2_0_01_1_n_n none (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))) w)

/-- The product at a batch, a row and a column. -/
theorem projR_at (b : Fin 4) (s : Fin 8192) (e : Fin 5152) :
    projR x g w (ix3 b s e) = InSpec.proj ⟨x, g, w⟩ (⟨b.val * 8192 + s.val, by omega⟩ : Fin 32768) e := by
  pointwise [projR]
  unfold InSpec.proj InSpec.unit InSpec.row
  have v := s.isLt
  have e2 : (⟨(b.val * 8192 + s.val) / 8192, by omega⟩ : Fin 4) = b := Fin.ext (by simp only []; omega)
  have e3 : (⟨(b.val * 8192 + s.val) % 8192, by omega⟩ : Fin 8192) = s := Fin.ext (by simp only []; omega)
  simp only [e2, e3]

/-- A row's batch and place in it give the row back. -/
theorem row_eq (n : Fin 32768) : (⟨n.val / 8192 * 8192 + n.val % 8192, by omega⟩ : Fin 32768) = n :=
  Fin.ext (by simp only []; omega)

/-- The scan's gate, as the reference composes it. -/
def zR : FVec Ideal S32768x1024 .bf16 := truncf (F := Ideal) .bf16 (shapeCast S32768x1024 (mulf (extractStridedSlice S4x8192x1024 ![0, 0, 0] (projR x g w) slices_S4x8192x5152_S4x8192x1024_0_0_0) (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (extractStridedSlice S4x8192x1024 ![0, 0, 0] (projR x g w) slices_S4x8192x5152_S4x8192x1024_0_0_0)))))) shapeCasts_S4x8192x1024_S32768x1024) bitsLt_bf16_f32

/-- The queries, as the reference composes it. -/
def qR : FVec Ideal S32768x1024 .bf16 := truncf (F := Ideal) .bf16 (shapeCast S32768x1024 (Host.divf (mulf (extractStridedSlice S4x8192x1024 ![0, 0, 2592] (projR x g w) slices_S4x8192x5152_S4x8192x1024_0_0_2592) (broadcastInDim S4x8192x1024 ![] bcast_S_S4x8192x1024 (constant S_ .f32 0x3E000000#32))) (broadcastInDim S4x8192x1024 ![] bcast_S_S4x8192x1024 (id (Host.log (constant S_ .f32 0x40000000#32))))) shapeCasts_S4x8192x1024_S32768x1024) bitsLt_bf16_f32

/-- The keys, each head twice, as the reference composes it. -/
def kR : FVec Ideal S32768x512 .bf16 := truncf (F := Ideal) .bf16 (shapeCast S32768x512 (broadcastInDim S4x8192x4x2x64 ![0, 1, 2, 3, 4] bcast_S4x8192x4x1x64_S4x8192x4x2x64_0_1_2_3_4 (shapeCast _ (extractStridedSlice S4x8192x256 ![0, 0, 3616] (projR x g w) slices_S4x8192x5152_S4x8192x256_0_0_3616) shapeCasts_S4x8192x256_S4x8192x4x1x64)) shapeCasts_S4x8192x4x2x64_S32768x512) bitsLt_bf16_f32

/-- The values, as the reference composes it. -/
def vR : FVec Ideal S32768x256 .bf16 := truncf (F := Ideal) .bf16 (shapeCast S32768x256 (extractStridedSlice S4x8192x256 ![0, 0, 3872] (projR x g w) slices_S4x8192x5152_S4x8192x256_0_0_3872) shapeCasts_S4x8192x256_S32768x256) bitsLt_bf16_f32

/-- The attention's gate, as the reference composes it. -/
def gaR : FVec Ideal S32768x1024 .bf16 := truncf (F := Ideal) .bf16 (shapeCast S32768x1024 (mulf (extractStridedSlice S4x8192x1024 ![0, 0, 4128] (projR x g w) slices_S4x8192x5152_S4x8192x1024_0_0_4128) (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (extractStridedSlice S4x8192x1024 ![0, 0, 4128] (projR x g w) slices_S4x8192x5152_S4x8192x1024_0_0_4128)))))) shapeCasts_S4x8192x1024_S32768x1024) bitsLt_bf16_f32

/-- The scan's gate, entry by entry. -/
theorem zR_at (n : Fin 32768) (j : Fin 1024) : zR x g w (ix2 n j) = InSpec.z ⟨x, g, w⟩ n j := by
  pointwise [zR]
  simp only [projR_at, row_eq]
  rfl

/-- The queries, entry by entry. -/
theorem qR_at (n : Fin 32768) (j : Fin 1024) : qR x g w (ix2 n j) = InSpec.q ⟨x, g, w⟩ n j := by
  pointwise [qR]
  simp only [projR_at, row_eq]
  exact InSpec.eighth _

/-- The keys, each head twice, entry by entry. -/
theorem kR_at (n : Fin 32768) (j : Fin 512) : kR x g w (ix2 n j) = InSpec.k ⟨x, g, w⟩ n j := by
  pointwise [kR]
  simp only [projR_at, row_eq]
  rfl

/-- The values, entry by entry. -/
theorem vR_at (n : Fin 32768) (j : Fin 256) : vR x g w (ix2 n j) = InSpec.v ⟨x, g, w⟩ n j := by
  pointwise [vR]
  simp only [projR_at, row_eq]
  rfl

/-- The attention's gate, entry by entry. -/
theorem gaR_at (n : Fin 32768) (j : Fin 1024) : gaR x g w (ix2 n j) = InSpec.ga ⟨x, g, w⟩ n j := by
  pointwise [gaR]
  simp only [projR_at, row_eq]
  rfl

/-- A matrix read by its two coordinates. -/
theorem mat {m n : ℕ} {α : Type} {f h : (⟨2, ![m, n]⟩ : Shape).Idx → α} (e : ∀ i j, f (ix2 i j) = h (ix2 i j)) : f = h :=
  funext fun i => by rw [← ix2_eta i]; exact e _ _

/-- The reference's arguments as launched. -/
def args (m : (ℓ : Loc nD τ sig) → Buf (Elt Ideal) ℓ) (c : Dev nD) : InSpec.Args :=
  ⟨m ((c.tc : Thread nD τ).loc main_arg0), m ((c.tc : Thread nD τ).loc main_arg1), m ((c.tc : Thread nD τ).loc main_arg2)⟩

set_option maxHeartbeats 2000000 in
/-- From any memory with zero counters the reference ends with its five results as the projection's entries, its
arguments unchanged and its counters zero. -/
theorem run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v31) = InSpec.zG (args m c)
      ∧ r.2.mem ((c.tc : Thread nD τ).loc main_v33) = InSpec.qG (args m c)
      ∧ r.2.mem ((c.tc : Thread nD τ).loc main_v35) = InSpec.kG (args m c)
      ∧ r.2.mem ((c.tc : Thread nD τ).loc main_v37) = InSpec.vG (args m c)
      ∧ r.2.mem ((c.tc : Thread nD τ).loc main_v40) = InSpec.gaG (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => ⟨(h c).1.trans (mat fun i j => zR_at _ _ _ i j),
    (h c).2.1.trans (mat fun i j => qR_at _ _ _ i j), (h c).2.2.1.trans (mat fun i j => kR_at _ _ _ i j),
    (h c).2.2.2.1.trans (mat fun i j => vR_at _ _ _ i j), (h c).2.2.2.2.1.trans (mat fun i j => gaR_at _ _ _ i j),
    (h c).2.2.2.2.2⟩, Idealize.ShloMosaic.sem_eq_zero_of_no_sems (by decide) r.2⟩) (Value.run (F := Ideal) m ρ)

end Cert.InRef
-- ==== Proof.PrVal.lean ====
module

public import proofs.«01_k».proof.Proof.Gen.Kernel2.Skeleton
public import Idealize.ShloMosaic.Lib.Pipeline.FrameBody

/-! The five blocks the projection kernel's body stores that its scratch takes no part in, as functions of the blocks
it reads. -/

@[expose] public section

set_option maxRecDepth 16384

noncomputable section

namespace Cert.InPrint

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2 Cert.Kernel2.Gen

variable {F : FTy → Type} [FloatOps F]

/-- The normalised rows of a block. -/
def unitW (x0 : Vec F S512x1024 .f32) (x1 : Vec F S1x1024 .f32) : FVec F S512x1024 .bf16 :=
  k0_pay3 (View.ld x1 (Rect.unit (s := S1x1024) ![0, 0] S1x1024.size inb_S1x1024_S1x1024_0_0))
    (View.ld x0 (Rect.unit (s := S512x1024) ![0, 0] S512x1024.size inb_S512x1024_S512x1024_0_0))
/-- The scan's gate of a block. -/
def zW (x0 : Vec F S512x1024 .f32) (x1 : Vec F S1x1024 .f32) (x2 : Vec F S1024x2560 .bf16) : FVec F S512x1024 .bf16 :=
  k0_pay9 (unitW x0 x1) (View.ld x2 (Rect.unit (s := S1024x2560) ![0, 0] S1024x1024.size inb_S1024x2560_S1024x1024_0_0))
/-- The queries of a block. -/
def qW (x0 : Vec F S512x1024 .f32) (x1 : Vec F S1x1024 .f32) (x3 : Vec F S1024x2560 .bf16) : FVec F S512x1024 .bf16 :=
  k0_pay10 (unitW x0 x1) (View.ld x3 (Rect.unit (s := S1024x2560) ![0, 0] S1024x1024.size inb_S1024x2560_S1024x1024_0_0))
/-- The keys of a block, each head's twice. -/
def kW (x0 : Vec F S512x1024 .f32) (x1 : Vec F S1x1024 .f32) (x4 : Vec F S1024x512 .bf16) : FVec F S512x512 .bf16 :=
  k0_pay11 (unitW x0 x1) (View.ld x4 (Rect.unit (s := S1024x512) ![0, 0] S1024x512.size inb_S1024x512_S1024x512_0_0))
/-- The values of a block. -/
def vW (x0 : Vec F S512x1024 .f32) (x1 : Vec F S1x1024 .f32) (x3 : Vec F S1024x2560 .bf16) : FVec F S512x256 .bf16 :=
  k0_pay12 (unitW x0 x1) (View.ld x3 (Rect.unit (s := S1024x2560) ![0, 1280] S1024x256.size inb_S1024x2560_S1024x256_0_1280))
/-- The attention's gate of a block. -/
def gaW (x0 : Vec F S512x1024 .f32) (x1 : Vec F S1x1024 .f32) (x3 : Vec F S1024x2560 .bf16) : FVec F S512x1024 .bf16 :=
  k0_pay13 (unitW x0 x1) (View.ld x3 (Rect.unit (s := S1024x2560) ![0, 1536] S1024x1024.size inb_S1024x2560_S1024x1024_0_1536))

end Cert.InPrint

end
-- ==== Proof.InClaims.lean ====
module

public import proofs.«01_k».proof.Defs
public import proofs.«01_k».proof.Proof.InPoint
public import proofs.«01_k».proof.Proof.InRef
public import proofs.«01_k».proof.Proof.PrFrame
public import Idealize.ShloMosaic.Lib.Quiescent

/-! The five claims of the input projection. -/

@[expose] public section
set_option maxRecDepth 16384
noncomputable section

namespace Cert.InClaims
open Idealize.ShloMosaic Idealize.ShloMosaic.TcCoe Idealize.SL.Sem

/-- The kernel as printed ends and keeps its arguments. -/
theorem frame_p : Cert.quiescent_Kernel2 (hKernel2 := Cert.Kernel2.Gen.facts) := fun m ρ _ =>
  Cert.InPrint.kept (F := Bits) m ρ
/-- The idealized kernel ends and keeps its arguments. -/
theorem frame_pi : Cert.quiescent_Kernel2Ideal (hKernel2Ideal := Cert.Kernel2Ideal.Gen.facts) := fun m ρ _ =>
  Cert.InRun.kept (F := Ideal) m ρ
/-- The idealized reference ends and keeps its arguments. -/
theorem frame_ri : Cert.quiescent_Reference2Ideal (hReference2Ideal := Cert.Reference2Ideal.Gen.facts) := fun m ρ _ =>
  (θ_run Cert.Reference2Ideal.defs _ _).mono (fun _ h => ⟨fun c => (h.1 c).2.2.2.2.2, h.2⟩) (Cert.InRef.run m ρ)

/-- The named constant is the real it is named after. -/
theorem preserves : Cert.preserves_Kernel2_Kernel2Ideal :=
  IdealRules.named_const.statement Cert.Kernel2Ideal.κ "qscale" .f32 0x3E38AA3B#32 (((8 * (Real.log 2))⁻¹ : ℝ) : EReal) rfl

/-- Equal arguments, taken together. -/
theorem args_congr {A B : Cert.InSpec.Args} (h0 : A.x = B.x) (h1 : A.g = B.g) (h2 : A.w = B.w) : A = B := by
  cases A; cases B; simp_all

open Cert.Kernel2Ideal in
/-- Where the kernel's launch ends, an array of a named output holds what the pipeline's contents give it. -/
theorem named_array (m : (ℓ : Loc nD τ sig) → Buf (Elt Ideal) ℓ) (r : PUnit × MemSt nD τ sig (Elt Ideal))
    (h : (Pipeline.RDat.FramePost (cfgs 0) (fun c => (Cert.InRun.dats m 0 c).toRForget Cert.InRun.unnamed) (Cert.Kernel2Ideal.Gen.V m)) r)
    (c : Dev nD) (w : Fin 18) (hw : Cert.InRun.unnamed w = false) :
    r.2.mem (((cfgs 0).spec w).arr.view.loc (c.tc : Thread nD τ)) = (Cert.InRun.dats m 0 c).arrAt w (cfgs 0).N :=
  ((Cert.InRun.dats m 0 c).toRForget_arrAt_iff hw _ _).mp ((h c).1 w)

/-- From arguments that agree, the two programs end with equal results. -/
theorem algebraic : Cert.algebraic_Kernel2Ideal_Reference2Ideal (hKernel2Ideal := Cert.Kernel2Ideal.Gen.facts)
    (hReference2Ideal := Cert.Reference2Ideal.Gen.facts) := by
  intro m ρ m' ρ' _ hagree
  have hA : ∀ c, Cert.InRef.args m' c = Cert.InHost.args m c := fun c =>
    args_congr (hagree c).1 (hagree c).2.1 (hagree c).2.2.1
  refine ⟨fun c => Cert.InSpec.zG (Cert.InHost.args m c), fun c => Cert.InSpec.qG (Cert.InHost.args m c),
    fun c => Cert.InSpec.kG (Cert.InHost.args m c), fun c => Cert.InSpec.vG (Cert.InHost.args m c),
    fun c => Cert.InSpec.gaG (Cert.InHost.args m c), ?_, ?_⟩
  · exact (θ_run Cert.Kernel2Ideal.defs _ _).mono (fun r h c => ⟨
      (named_array m r h.1 c 9 rfl).trans (Cert.InRun.z_array m c), (named_array m r h.1 c 14 rfl).trans (Cert.InRun.q_array m c),
      (named_array m r h.1 c 15 rfl).trans (Cert.InRun.k_array m c), (named_array m r h.1 c 16 rfl).trans (Cert.InRun.v_array m c),
      (named_array m r h.1 c 17 rfl).trans (Cert.InRun.ga_array m c), Cert.InRun.args_kept m r h.1 c⟩) (Cert.InRun.run (F := Ideal) m ρ)
  · refine (θ_run Cert.Reference2Ideal.defs _ _).mono (fun r h c => ?_) (Cert.InRef.run m' ρ')
    have k := h.1 c
    rw [hA c] at k
    exact k

end Cert.InClaims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Claims
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.InClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Admissible.facts, by
  exact ⟨Claims.frame_p, Claims.frame_pi, Claims.frame_pi_pre, Claims.frame_ri, Claims.frame_ri_pre,
    InClaims.frame_p, InClaims.frame_pi, InClaims.frame_ri, Claims.preserves, Claims.algebraic,
    InClaims.preserves, InClaims.algebraic⟩⟩

end Cert.Proof

end
